-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x1024x4096 : Shape := ⟨3, ![24, 1024, 4096]⟩
abbrev S4096 : Shape := ⟨1, ![4096]⟩
abbrev S_ : Shape := ⟨0, ![]⟩

class Facts : Prop where
  bitsLt_bf16_f32 : FTy.bits .bf16 < FTy.bits .f32
  bcast_S_S24x1024x4096 : S_.BroadcastsInDim S24x1024x4096 (![] : Fin 0 → Fin S24x1024x4096.rank)
  bcast_S_S4096 : S_.BroadcastsInDim S4096 (![] : Fin 0 → Fin S4096.rank)

variable [Facts]

def fn {F : FTy → Type} [FloatOps F] (main_arg0 : FVec F S24x1024x4096 .bf16) (main_arg1 : FVec F S4096 .f32) : IVec S24x1024x4096 1 × IVec S4096 1 :=
  let main_v0 : FVec F S24x1024x4096 .f32 := (extf .f32 · bitsLt_bf16_f32) main_arg0
  let main_v1 : FVec F S24x1024x4096 .f32 := Host.absf main_v0
  let main_cst : FVec F S_ .f32 := constant S_ .f32 0x7F800000#32
  let main_v2 : FVec F S24x1024x4096 .f32 := broadcastInDim S24x1024x4096 ![] bcast_S_S24x1024x4096 main_cst
  let main_v3 : IVec S24x1024x4096 1 := cmpf .olt main_v1 main_v2
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  (main_v3, main_v6)
-- ==== Kernel.lean ====
abbrev S24x1024x4096 : Shape := ⟨3, ![24, 1024, 4096]⟩
abbrev S4096 : Shape := ⟨1, ![4096]⟩
abbrev S512x512 : Shape := ⟨2, ![512, 512]⟩
abbrev S_ : Shape := ⟨0, ![]⟩
abbrev S24576x4096 : Shape := ⟨2, ![24576, 4096]⟩
abbrev S1x4096 : Shape := ⟨2, ![1, 4096]⟩
abbrev S24576x2048 : Shape := ⟨2, ![24576, 2048]⟩
abbrev S24576x32 : Shape := ⟨2, ![24576, 32]⟩
abbrev S512x4096 : Shape := ⟨2, ![512, 4096]⟩
abbrev S512x2048 : Shape := ⟨2, ![512, 2048]⟩
abbrev S512x32 : Shape := ⟨2, ![512, 32]⟩
abbrev S8x512x512 : Shape := ⟨3, ![8, 512, 512]⟩
abbrev S128x128 : Shape := ⟨2, ![128, 128]⟩
abbrev S16x128 : Shape := ⟨2, ![16, 128]⟩
abbrev S4x32x128 : Shape := ⟨3, ![4, 32, 128]⟩
abbrev S1x512 : Shape := ⟨2, ![1, 512]⟩
abbrev S1x512x512 : Shape := ⟨3, ![1, 512, 512]⟩
abbrev S1x8x128 : Shape := ⟨3, ![1, 8, 128]⟩
abbrev S8x128 : Shape := ⟨2, ![8, 128]⟩
abbrev S1x128 : Shape := ⟨2, ![1, 128]⟩
abbrev S1x16x128 : Shape := ⟨3, ![1, 16, 128]⟩
abbrev S1x32x128 : Shape := ⟨3, ![1, 32, 128]⟩
abbrev S32x128 : Shape := ⟨2, ![32, 128]⟩
abbrev S128x32 : Shape := ⟨2, ![128, 32]⟩

abbrev nBuf : Space → Nat
  | .hbm => 102
  | .vmem => 19
  | .smem => 0
  | _ => 0

abbrev bufTy : (tb : Table) → Fin (tcTables nBuf tb) → BufTy
  | .hbm, ⟨0, _⟩ => ⟨S24x1024x4096, .bf16⟩
  | .hbm, ⟨1, _⟩ => ⟨S4096, .f32⟩
  | .hbm, ⟨2, _⟩ => ⟨S512x512, .i32⟩
  | .hbm, ⟨3, _⟩ => ⟨S_, .i32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i32⟩
  | .hbm, ⟨56, _⟩ => ⟨S_, .i32⟩
  | .hbm, ⟨57, _⟩ => ⟨S512x512, .i32⟩
  | .hbm, ⟨58, _⟩ => ⟨S512x512, .i32⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i32⟩
  | .hbm, ⟨69, _⟩ => ⟨S512x512, .i32⟩
  | .hbm, ⟨70, _⟩ => ⟨S_, .i32⟩
  | .hbm, ⟨71, _⟩ => ⟨S512x512, .i32⟩
  | .hbm, ⟨72, _⟩ => ⟨S512x512, .i32⟩
  | .hbm, ⟨73, _⟩ => ⟨S_, .i32⟩
  | .hbm, ⟨74, _⟩ => ⟨S512x512, .i32⟩
  | .hbm, ⟨75, _⟩ => ⟨S512x512, .i32⟩
  | .hbm, ⟨76, _⟩ => ⟨S512x512, .i32⟩
  | .hbm, ⟨77, _⟩ => ⟨S_, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i32⟩
  | .hbm, ⟨83, _⟩ => ⟨S512x512, .i32⟩
  | .hbm, ⟨84, _⟩ => ⟨S_, .i32⟩
  | .hbm, ⟨85, _⟩ => ⟨S512x512, .i32⟩
  | .hbm, ⟨86, _⟩ => ⟨S512x512, .i32⟩
  | .hbm, ⟨87, _⟩ => ⟨S512x512, .f32⟩
  | .hbm, ⟨88, _⟩ => ⟨S_, .f32⟩
  | .hbm, ⟨89, _⟩ => ⟨S512x512, .f32⟩
  | .hbm, ⟨90, _⟩ => ⟨S512x512, .f32⟩
  | .hbm, ⟨91, _⟩ => ⟨S_, .f32⟩
  | .hbm, ⟨92, _⟩ => ⟨S512x512, .f32⟩
  | .hbm, ⟨93, _⟩ => ⟨S512x512, .f32⟩
  | .hbm, ⟨94, _⟩ => ⟨S_, .f32⟩
  | .hbm, ⟨95, _⟩ => ⟨S512x512, .f32⟩
  | .hbm, ⟨96, _⟩ => ⟨S512x512, .f32⟩
  | .hbm, ⟨97, _⟩ => ⟨S24576x4096, .bf16⟩
  | .hbm, ⟨98, _⟩ => ⟨S1x4096, .f32⟩
  | .hbm, ⟨99, _⟩ => ⟨S24576x2048, .i8⟩
  | .hbm, ⟨100, _⟩ => ⟨S24576x32, .f32⟩
  | .hbm, ⟨101, _⟩ => ⟨S24576x32, .i8⟩
  | .local _ .vmem, ⟨0, _⟩ => ⟨S512x4096, .bf16⟩
  | .local _ .vmem, ⟨1, _⟩ => ⟨S512x4096, .bf16⟩
  | .local _ .vmem, ⟨2, _⟩ => ⟨S512x512, .f32⟩
  | .local _ .vmem, ⟨3, _⟩ => ⟨S1x4096, .f32⟩
  | .local _ .vmem, ⟨4, _⟩ => ⟨S512x2048, .i8⟩
  | .local _ .vmem, ⟨5, _⟩ => ⟨S512x2048, .i8⟩
  | .local _ .vmem, ⟨6, _⟩ => ⟨S512x32, .f32⟩
  | .local _ .vmem, ⟨7, _⟩ => ⟨S512x32, .f32⟩
  | .local _ .vmem, ⟨8, _⟩ => ⟨S512x32, .i8⟩
  | .local _ .vmem, ⟨9, _⟩ => ⟨S512x32, .i8⟩
  | .local _ .vmem, ⟨10, _⟩ => ⟨S8x512x512, .bf16⟩
  | .local _ .vmem, ⟨11, _⟩ => ⟨S8x512x512, .f32⟩
  | .local _ .vmem, ⟨12, _⟩ => ⟨S128x128, .f32⟩
  | .local _ .vmem, ⟨13, _⟩ => ⟨S128x128, .f32⟩
  | .local _ .vmem, ⟨14, _⟩ => ⟨S16x128, .f32⟩
  | .local _ .vmem, ⟨15, _⟩ => ⟨S16x128, .i32⟩
  | .local _ .vmem, ⟨16, _⟩ => ⟨S16x128, .i32⟩
  | .local _ .vmem, ⟨17, _⟩ => ⟨S4x32x128, .f32⟩
  | .local _ .vmem, ⟨18, _⟩ => ⟨S4x32x128, .i32⟩
  | _, _ => ⟨S24x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_8 : Ref sig .tc := ⟨.hbm, 35, rfl⟩
abbrev main_v24 : Ref sig .tc := ⟨.hbm, 36, rfl⟩
abbrev main_v25 : Ref sig .tc := ⟨.hbm, 37, rfl⟩
abbrev main_c_9 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_10 : Ref sig .tc := ⟨.hbm, 42, rfl⟩
abbrev main_v29 : Ref sig .tc := ⟨.hbm, 43, rfl⟩
abbrev main_v30 : Ref sig .tc := ⟨.hbm, 44, rfl⟩
abbrev main_c_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_12 : Ref sig .tc := ⟨.hbm, 49, rfl⟩
abbrev main_v34 : Ref sig .tc := ⟨.hbm, 50, rfl⟩
abbrev main_v35 : Ref sig .tc := ⟨.hbm, 51, rfl⟩
abbrev main_c_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_14 : Ref sig .tc := ⟨.hbm, 56, rfl⟩
abbrev main_v39 : Ref sig .tc := ⟨.hbm, 57, rfl⟩
abbrev main_v40 : Ref sig .tc := ⟨.hbm, 58, rfl⟩
abbrev main_c_15 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_16 : Ref sig .tc := ⟨.hbm, 63, rfl⟩
abbrev main_v44 : Ref sig .tc := ⟨.hbm, 64, rfl⟩
abbrev main_v45 : Ref sig .tc := ⟨.hbm, 65, rfl⟩
abbrev main_c_17 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_18 : Ref sig .tc := ⟨.hbm, 70, rfl⟩
abbrev main_v49 : Ref sig .tc := ⟨.hbm, 71, rfl⟩
abbrev main_v50 : Ref sig .tc := ⟨.hbm, 72, rfl⟩
abbrev main_c_19 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_20 : Ref sig .tc := ⟨.hbm, 77, rfl⟩
abbrev main_v54 : Ref sig .tc := ⟨.hbm, 78, rfl⟩
abbrev main_v55 : Ref sig .tc := ⟨.hbm, 79, rfl⟩
abbrev main_c_21 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_22 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst : Ref sig .tc := ⟨.hbm, 88, rfl⟩
abbrev main_v62 : Ref sig .tc := ⟨.hbm, 89, rfl⟩
abbrev main_v63 : Ref sig .tc := ⟨.hbm, 90, rfl⟩
abbrev main_cst_23 : Ref sig .tc := ⟨.hbm, 91, rfl⟩
abbrev main_v64 : Ref sig .tc := ⟨.hbm, 92, rfl⟩
abbrev main_v65 : Ref sig .tc := ⟨.hbm, 93, rfl⟩
abbrev main_cst_24 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70_0 : Ref sig .tc := ⟨.hbm, 99, rfl⟩
abbrev main_v70_1 : Ref sig .tc := ⟨.hbm, 100, rfl⟩
abbrev main_v70_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c512_i32 : BitVec 32 := 512#32
  let v41 : BitVec 32 := Scalar.muli arg16 c512_i32
  v41
def k0_off1 (k0_t1 : Fin k0_t1_loop.trips) : Fin 3 → Nat :=
  let c0_i32_1 : BitVec 32 := 0#32
  let c1_i32 : BitVec 32 := 1#32
  let arg16 : BitVec 32 := Scf.iv c0_i32_1 c1_i32 k0_t1
  let v43 : Index := Scalar.indexCast arg16
  let c0_40 : Index := 0#32
  let c0_41 : Index := 0#32
  ![v43.toNat, 0, 0]
def k0_off2 (k0_t1 : Fin k0_t1_loop.trips) : Fin 2 → Nat :=
  let c0_42 : Index := 0#32
  let c0_i32_1 : BitVec 32 := 0#32
  let c1_i32 : BitVec 32 := 1#32
  let arg16 : BitVec 32 := Scf.iv c0_i32_1 c1_i32 k0_t1
  let c512_i32 : BitVec 32 := 512#32
  let v41 : BitVec 32 := Scalar.muli arg16 c512_i32
  let v42 : BitVec 32 := v41
  let v46 : Index := Scalar.indexCast v42
  ![0, v46.toNat]
@[reducible] def k0_t2_loop : Scf.Loop 32 :=
  let c0_i32_3 : BitVec 32 := 0#32
  let c8_i32_4 : BitVec 32 := 8#32
  let v4 : BitVec 32 := Scalar.addi c0_i32_3 c8_i32_4
  let c1_i32_5 : BitVec 32 := 1#32
  ⟨c0_i32_3, v4, c1_i32_5⟩
def k0_mult2 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  v68
def k0_mult3 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  v71
def k0_off3 (k0_t2 : Fin k0_t2_loop.trips) (c0_i32_54 : BitVec 32) (c0_i32_55 : BitVec 32) : Fin 3 → Nat :=
  let c0_56 : Index := 0#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v75 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v76 : Index := Scalar.indexCast v69
  ![0, v75.toNat, v76.toNat]
def k0_off4 (k0_t2 : Fin k0_t2_loop.trips) (c0_i32_54 : BitVec 32) (c0_i32_55 : BitVec 32) : Fin 3 → Nat :=
  let c1_57 : Index := 1#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v79 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v80 : Index := Scalar.indexCast v69
  ![1, v79.toNat, v80.toNat]
def k0_off5 (k0_t2 : Fin k0_t2_loop.trips) (c0_i32_54 : BitVec 32) (c0_i32_55 : BitVec 32) : Fin 3 → Nat :=
  let c2_58 : Index := 2#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v83 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v84 : Index := Scalar.indexCast v69
  ![2, v83.toNat, v84.toNat]
def k0_off6 (k0_t2 : Fin k0_t2_loop.trips) (c0_i32_54 : BitVec 32) (c0_i32_55 : BitVec 32) : Fin 3 → Nat :=
  let c3_59 : Index := 3#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v87 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v88 : Index := Scalar.indexCast v69
  ![3, v87.toNat, v88.toNat]
def k0_off7 (k0_t2 : Fin k0_t2_loop.trips) (c0_i32_54 : BitVec 32) (c0_i32_55 : BitVec 32) : Fin 3 → Nat :=
  let c4 : Index := 4#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v91 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v92 : Index := Scalar.indexCast v69
  ![4, v91.toNat, v92.toNat]
def k0_off8 (k0_t2 : Fin k0_t2_loop.trips) (c0_i32_54 : BitVec 32) (c0_i32_55 : BitVec 32) : Fin 3 → Nat :=
  let c5 : Index := 5#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v95 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v96 : Index := Scalar.indexCast v69
  ![5, v95.toNat, v96.toNat]
def k0_off9 (k0_t2 : Fin k0_t2_loop.trips) (c0_i32_54 : BitVec 32) (c0_i32_55 : BitVec 32) : Fin 3 → Nat :=
  let c6 : Index := 6#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v99 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v100 : Index := Scalar.indexCast v69
  ![6, v99.toNat, v100.toNat]
def k0_off10 (k0_t2 : Fin k0_t2_loop.trips) (c0_i32_54 : BitVec 32) (c0_i32_55 : BitVec 32) : Fin 3 → Nat :=
  let c7 : Index := 7#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v73 : BitVec 32 := Scalar.addi v72 c0_i32_54
  let v74 : BitVec 32 := Scalar.addi v73 c0_i32_55
  let v103 : Index := Scalar.indexCast v74
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v104 : Index := Scalar.indexCast v69
  ![7, v103.toNat, v104.toNat]
def k0_off11 (k0_t2 : Fin k0_t2_loop.trips) (c0_i32_712 : BitVec 32) : Fin 3 → Nat :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let v3867 : Index := Scalar.indexCast v67
  let c2_i32_711 : BitVec 32 := 2#32
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let v3864 : BitVec 32 := Scalar.muli c2_i32_711 v50
  let v3865 : BitVec 32 := Scalar.addi v3864 c0_i32_712
  let v3868 : Index := Scalar.indexCast v3865
  let c0_713 : Index := 0#32
  ![v3867.toNat, v3868.toNat, 0]
def k0_off12 (k0_t2 : Fin k0_t2_loop.trips) (c0_i32_725 : BitVec 32) (c0_i32_726 : BitVec 32) (c0_i32_727 : BitVec 32) : Fin 3 → Nat :=
  let c0_728 : Index := 0#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v3905 : BitVec 32 := Scalar.addi v72 c0_i32_725
  let v3906 : BitVec 32 := Scalar.addi v3905 c0_i32_726
  let v3907 : BitVec 32 := Scalar.addi v3906 c0_i32_727
  let v3908 : Index := Scalar.indexCast v3907
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v3909 : Index := Scalar.indexCast v69
  ![0, v3908.toNat, v3909.toNat]
def k0_mult4 (k0_t2 : Fin k0_t2_loop.trips) : BitVec 32 :=
  let c0_i32_872 : BitVec 32 := 0#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_871 : BitVec 32 := 128#32
  let v4309 : BitVec 32 := Scalar.muli v50 c128_i32_871
  let v4310 : BitVec 32 := Scalar.addi c0_i32_872 v4309
  v4310
def k0_mult5 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_873 : BitVec 32 := 128#32
  let v4312 : BitVec 32 := Scalar.muli v67 c128_i32_873
  v4312
def k0_off13 (k0_t2 : Fin k0_t2_loop.trips) (c0_i32_872 : BitVec 32) : Fin 2 → Nat :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_873 : BitVec 32 := 128#32
  let v4312 : BitVec 32 := Scalar.muli v67 c128_i32_873
  let v4313 : BitVec 32 := v4312
  let v4316 : Index := Scalar.indexCast v4313
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_871 : BitVec 32 := 128#32
  let v4309 : BitVec 32 := Scalar.muli v50 c128_i32_871
  let v4310 : BitVec 32 := Scalar.addi c0_i32_872 v4309
  let v4311 : BitVec 32 := v4310
  let v4317 : Index := Scalar.indexCast v4311
  ![v4316.toNat, v4317.toNat]
def k0_off14 (k0_t2 : Fin k0_t2_loop.trips) (c0_i32_880 : BitVec 32) (c0_i32_881 : BitVec 32) (c0_i32_882 : BitVec 32) : Fin 3 → Nat :=
  let c1_883 : Index := 1#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v4330 : BitVec 32 := Scalar.addi v72 c0_i32_880
  let v4331 : BitVec 32 := Scalar.addi v4330 c0_i32_881
  let v4332 : BitVec 32 := Scalar.addi v4331 c0_i32_882
  let v4333 : Index := Scalar.indexCast v4332
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v4334 : Index := Scalar.indexCast v69
  ![1, v4333.toNat, v4334.toNat]
def k0_mult6 (k0_t2 : Fin k0_t2_loop.trips) : BitVec 32 :=
  let c256_i32 : BitVec 32 := 256#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1029 : BitVec 32 := 128#32
  let v4734 : BitVec 32 := Scalar.muli v50 c128_i32_1029
  let v4735 : BitVec 32 := Scalar.addi c256_i32 v4734
  v4735
def k0_mult7 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1030 : BitVec 32 := 128#32
  let v4737 : BitVec 32 := Scalar.muli v67 c128_i32_1030
  v4737
def k0_off15 (k0_t2 : Fin k0_t2_loop.trips) (c0_i32_1037 : BitVec 32) (c0_i32_1038 : BitVec 32) (c0_i32_1039 : BitVec 32) : Fin 3 → Nat :=
  let c2_1040 : Index := 2#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v4755 : BitVec 32 := Scalar.addi v72 c0_i32_1037
  let v4756 : BitVec 32 := Scalar.addi v4755 c0_i32_1038
  let v4757 : BitVec 32 := Scalar.addi v4756 c0_i32_1039
  let v4758 : Index := Scalar.indexCast v4757
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v4759 : Index := Scalar.indexCast v69
  ![2, v4758.toNat, v4759.toNat]
def k0_mult8 (k0_t2 : Fin k0_t2_loop.trips) : BitVec 32 :=
  let c512_i32 : BitVec 32 := 512#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1186 : BitVec 32 := 128#32
  let v5159 : BitVec 32 := Scalar.muli v50 c128_i32_1186
  let v5160 : BitVec 32 := Scalar.addi c512_i32 v5159
  v5160
def k0_mult9 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1187 : BitVec 32 := 128#32
  let v5162 : BitVec 32 := Scalar.muli v67 c128_i32_1187
  v5162
def k0_off16 (k0_t2 : Fin k0_t2_loop.trips) (c0_i32_1194 : BitVec 32) (c0_i32_1195 : BitVec 32) (c0_i32_1196 : BitVec 32) : Fin 3 → Nat :=
  let c3_1197 : Index := 3#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v5180 : BitVec 32 := Scalar.addi v72 c0_i32_1194
  let v5181 : BitVec 32 := Scalar.addi v5180 c0_i32_1195
  let v5182 : BitVec 32 := Scalar.addi v5181 c0_i32_1196
  let v5183 : Index := Scalar.indexCast v5182
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v5184 : Index := Scalar.indexCast v69
  ![3, v5183.toNat, v5184.toNat]
def k0_mult10 (k0_t2 : Fin k0_t2_loop.trips) : BitVec 32 :=
  let c768_i32 : BitVec 32 := 768#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1343 : BitVec 32 := 128#32
  let v5584 : BitVec 32 := Scalar.muli v50 c128_i32_1343
  let v5585 : BitVec 32 := Scalar.addi c768_i32 v5584
  v5585
def k0_mult11 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1344 : BitVec 32 := 128#32
  let v5587 : BitVec 32 := Scalar.muli v67 c128_i32_1344
  v5587
def k0_off17 (k0_t2 : Fin k0_t2_loop.trips) (c0_i32_1351 : BitVec 32) (c0_i32_1352 : BitVec 32) (c0_i32_1353 : BitVec 32) : Fin 3 → Nat :=
  let c4_1354 : Index := 4#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v5605 : BitVec 32 := Scalar.addi v72 c0_i32_1351
  let v5606 : BitVec 32 := Scalar.addi v5605 c0_i32_1352
  let v5607 : BitVec 32 := Scalar.addi v5606 c0_i32_1353
  let v5608 : Index := Scalar.indexCast v5607
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v5609 : Index := Scalar.indexCast v69
  ![4, v5608.toNat, v5609.toNat]
def k0_mult12 (k0_t2 : Fin k0_t2_loop.trips) : BitVec 32 :=
  let c1024_i32 : BitVec 32 := 1024#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1500 : BitVec 32 := 128#32
  let v6009 : BitVec 32 := Scalar.muli v50 c128_i32_1500
  let v6010 : BitVec 32 := Scalar.addi c1024_i32 v6009
  v6010
def k0_mult13 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1501 : BitVec 32 := 128#32
  let v6012 : BitVec 32 := Scalar.muli v67 c128_i32_1501
  v6012
def k0_off18 (k0_t2 : Fin k0_t2_loop.trips) (c0_i32_1508 : BitVec 32) (c0_i32_1509 : BitVec 32) (c0_i32_1510 : BitVec 32) : Fin 3 → Nat :=
  let c5_1511 : Index := 5#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v6030 : BitVec 32 := Scalar.addi v72 c0_i32_1508
  let v6031 : BitVec 32 := Scalar.addi v6030 c0_i32_1509
  let v6032 : BitVec 32 := Scalar.addi v6031 c0_i32_1510
  let v6033 : Index := Scalar.indexCast v6032
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v6034 : Index := Scalar.indexCast v69
  ![5, v6033.toNat, v6034.toNat]
def k0_mult14 (k0_t2 : Fin k0_t2_loop.trips) : BitVec 32 :=
  let c1280_i32 : BitVec 32 := 1280#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1657 : BitVec 32 := 128#32
  let v6434 : BitVec 32 := Scalar.muli v50 c128_i32_1657
  let v6435 : BitVec 32 := Scalar.addi c1280_i32 v6434
  v6435
def k0_mult15 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1658 : BitVec 32 := 128#32
  let v6437 : BitVec 32 := Scalar.muli v67 c128_i32_1658
  v6437
def k0_off19 (k0_t2 : Fin k0_t2_loop.trips) (c0_i32_1665 : BitVec 32) (c0_i32_1666 : BitVec 32) (c0_i32_1667 : BitVec 32) : Fin 3 → Nat :=
  let c6_1668 : Index := 6#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v6455 : BitVec 32 := Scalar.addi v72 c0_i32_1665
  let v6456 : BitVec 32 := Scalar.addi v6455 c0_i32_1666
  let v6457 : BitVec 32 := Scalar.addi v6456 c0_i32_1667
  let v6458 : Index := Scalar.indexCast v6457
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v6459 : Index := Scalar.indexCast v69
  ![6, v6458.toNat, v6459.toNat]
def k0_mult16 (k0_t2 : Fin k0_t2_loop.trips) : BitVec 32 :=
  let c1536_i32 : BitVec 32 := 1536#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1814 : BitVec 32 := 128#32
  let v6859 : BitVec 32 := Scalar.muli v50 c128_i32_1814
  let v6860 : BitVec 32 := Scalar.addi c1536_i32 v6859
  v6860
def k0_mult17 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1815 : BitVec 32 := 128#32
  let v6862 : BitVec 32 := Scalar.muli v67 c128_i32_1815
  v6862
def k0_off20 (k0_t2 : Fin k0_t2_loop.trips) (c0_i32_1822 : BitVec 32) (c0_i32_1823 : BitVec 32) (c0_i32_1824 : BitVec 32) : Fin 3 → Nat :=
  let c7_1825 : Index := 7#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c2_i32_52 : BitVec 32 := 2#32
  let v70 : BitVec 32 := Scalar.muli v50 c2_i32_52
  let c128_i32_53 : BitVec 32 := 128#32
  let v71 : BitVec 32 := Scalar.muli v70 c128_i32_53
  let v72 : BitVec 32 := v71
  let v6880 : BitVec 32 := Scalar.addi v72 c0_i32_1822
  let v6881 : BitVec 32 := Scalar.addi v6880 c0_i32_1823
  let v6882 : BitVec 32 := Scalar.addi v6881 c0_i32_1824
  let v6883 : Index := Scalar.indexCast v6882
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32 : BitVec 32 := 128#32
  let v68 : BitVec 32 := Scalar.muli v67 c128_i32
  let v69 : BitVec 32 := v68
  let v6884 : Index := Scalar.indexCast v69
  ![7, v6883.toNat, v6884.toNat]
def k0_mult18 (k0_t2 : Fin k0_t2_loop.trips) : BitVec 32 :=
  let c1792_i32 : BitVec 32 := 1792#32
  let c0_i32_3 : BitVec 32 := 0#32
  let c1_i32_5 : BitVec 32 := 1#32
  let arg16 : BitVec 32 := Scf.iv c0_i32_3 c1_i32_5 k0_t2
  let c2_i32 : BitVec 32 := 2#32
  let c0_i32_40 : BitVec 32 := 0#32
  let v41 : BitVec 1 := Scalar.cmpi .eq c2_i32 c0_i32_40
  let c1_i32_41 : BitVec 32 := 1#32
  let v42 : BitVec 32 := Scalar.select v41 c1_i32_41 c2_i32
  let v43 : BitVec 32 := Scalar.remsi arg16 v42
  let c0_i32_43 : BitVec 32 := 0#32
  let v45 : BitVec 1 := Scalar.cmpi .slt v43 c0_i32_43
  let c0_i32_44 : BitVec 32 := 0#32
  let v46 : BitVec 1 := Scalar.cmpi .slt v42 c0_i32_44
  let v47 : BitVec 1 := Scalar.xori v45 v46
  let c0_i32_42 : BitVec 32 := 0#32
  let v44 : BitVec 1 := Scalar.cmpi .ne v43 c0_i32_42
  let v48 : BitVec 1 := Scalar.andi v47 v44
  let v49 : BitVec 32 := Scalar.addi v43 v42
  let v50 : BitVec 32 := Scalar.select v48 v49 v43
  let c128_i32_1971 : BitVec 32 := 128#32
  let v7284 : BitVec 32 := Scalar.muli v50 c128_i32_1971
  let v7285 : BitVec 32 := Scalar.addi c1792_i32 v7284
  v7285
def k0_mult19 (k0_t2 : Fin k0_t2_loop.trips) : BitVec 32 :=
  let c0_i32_3 : BitVec 32 := 0#32
  let c1_i32_5 : BitVec 32 := 1#32
  let arg16 : BitVec 32 := Scf.iv c0_i32_3 c1_i32_5 k0_t2
  let c0_i32_46 : BitVec 32 := 0#32
  let v52 : BitVec 1 := Scalar.cmpi .sgt arg16 c0_i32_46
  let v53 : BitVec 32 := Scalar.extui v52
  let c0_i32_47 : BitVec 32 := 0#32
  let v54 : BitVec 1 := Scalar.cmpi .slt arg16 c0_i32_47
  let v55 : BitVec 32 := Scalar.extui v54
  let v56 : BitVec 32 := Scalar.subi v53 v55
  let c2_i32_45 : BitVec 32 := 2#32
  let c0_i32_48 : BitVec 32 := 0#32
  let v57 : BitVec 1 := Scalar.cmpi .sgt c2_i32_45 c0_i32_48
  let v58 : BitVec 32 := Scalar.extui v57
  let c0_i32_49 : BitVec 32 := 0#32
  let v59 : BitVec 1 := Scalar.cmpi .slt c2_i32_45 c0_i32_49
  let v60 : BitVec 32 := Scalar.extui v59
  let v61 : BitVec 32 := Scalar.subi v58 v60
  let v62 : BitVec 1 := Scalar.cmpi .ne v56 v61
  let v63 : BitVec 32 := Scalar.remsi arg16 c2_i32_45
  let c0_i32_50 : BitVec 32 := 0#32
  let v64 : BitVec 1 := Scalar.cmpi .ne v63 c0_i32_50
  let v65 : BitVec 1 := Scalar.andi v62 v64
  let v51 : BitVec 32 := Scalar.divsi arg16 c2_i32_45
  let c1_i32_51 : BitVec 32 := 1#32
  let v66 : BitVec 32 := Scalar.subi v51 c1_i32_51
  let v67 : BitVec 32 := Scalar.select v65 v66 v51
  let c128_i32_1972 : BitVec 32 := 128#32
  let v7287 : BitVec 32 := Scalar.muli v67 c128_i32_1972
  v7287
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24x1024x4096 : Shape := ⟨3, ![24, 1024, 4096]⟩
abbrev S4096 : Shape := ⟨1, ![4096]⟩
abbrev S1x1x4096 : Shape := ⟨3, ![1, 1, 4096]⟩
abbrev S24x1024x2048x2x1 : Shape := ⟨5, ![24, 1024, 2048, 2, 1]⟩
abbrev S24x1024x2048x1x1 : Shape := ⟨5, ![24, 1024, 2048, 1, 1]⟩
abbrev S24x1024x2048x1 : Shape := ⟨4, ![24, 1024, 2048, 1]⟩
abbrev S24x1024x1024x2x2 : Shape := ⟨5, ![24, 1024, 1024, 2, 2]⟩
abbrev S24x1024x1024x1x2 : Shape := ⟨5, ![24, 1024, 1024, 1, 2]⟩
abbrev S24x1024x1024x2 : Shape := ⟨4, ![24, 1024, 1024, 2]⟩
abbrev S24x1024x512x2x4 : Shape := ⟨5, ![24, 1024, 512, 2, 4]⟩
abbrev S24x1024x512x1x4 : Shape := ⟨5, ![24, 1024, 512, 1, 4]⟩
abbrev S24x1024x512x4 : Shape := ⟨4, ![24, 1024, 512, 4]⟩
abbrev S24x1024x256x2x8 : Shape := ⟨5, ![24, 1024, 256, 2, 8]⟩
abbrev S24x1024x256x1x8 : Shape := ⟨5, ![24, 1024, 256, 1, 8]⟩
abbrev S24x1024x256x8 : Shape := ⟨4, ![24, 1024, 256, 8]⟩
abbrev S24x1024x128x2x16 : Shape := ⟨5, ![24, 1024, 128, 2, 16]⟩
abbrev S24x1024x128x1x16 : Shape := ⟨5, ![24, 1024, 128, 1, 16]⟩
abbrev S24x1024x128x16 : Shape := ⟨4, ![24, 1024, 128, 16]⟩
abbrev S24x1024x64x2x32 : Shape := ⟨5, ![24, 1024, 64, 2, 32]⟩
abbrev S24x1024x64x1x32 : Shape := ⟨5, ![24, 1024, 64, 1, 32]⟩
abbrev S24x1024x64x32 : Shape := ⟨4, ![24, 1024, 64, 32]⟩
abbrev S24x1024x32x2x64 : Shape := ⟨5, ![24, 1024, 32, 2, 64]⟩
abbrev S24x1024x32x1x64 : Shape := ⟨5, ![24, 1024, 32, 1, 64]⟩
abbrev S24x1024x32x64 : Shape := ⟨4, ![24, 1024, 32, 64]⟩
abbrev S24x1024x16x2x128 : Shape := ⟨5, ![24, 1024, 16, 2, 128]⟩
abbrev S24x1024x16x1x128 : Shape := ⟨5, ![24, 1024, 16, 1, 128]⟩
abbrev S24x1024x16x128 : Shape := ⟨4, ![24, 1024, 16, 128]⟩
abbrev S24x1024x8x2x256 : Shape := ⟨5, ![24, 1024, 8, 2, 256]⟩
abbrev S24x1024x8x1x256 : Shape := ⟨5, ![24, 1024, 8, 1, 256]⟩
abbrev S24x1024x8x256 : Shape := ⟨4, ![24, 1024, 8, 256]⟩
abbrev S24x1024x4x2x512 : Shape := ⟨5, ![24, 1024, 4, 2, 512]⟩
abbrev S24x1024x4x1x512 : Shape := ⟨5, ![24, 1024, 4, 1, 512]⟩
abbrev S24x1024x4x512 : Shape := ⟨4, ![24, 1024, 4, 512]⟩
abbrev S24x1024x2x2x1024 : Shape := ⟨5, ![24, 1024, 2, 2, 1024]⟩
abbrev S24x1024x2x1x1024 : Shape := ⟨5, ![24, 1024, 2, 1, 1024]⟩
abbrev S24x1024x2x1024 : Shape := ⟨4, ![24, 1024, 2, 1024]⟩
abbrev S24x1024x1x2x2048 : Shape := ⟨5, ![24, 1024, 1, 2, 2048]⟩
abbrev S24x1024x1x1x2048 : Shape := ⟨5, ![24, 1024, 1, 1, 2048]⟩
abbrev S24x1024x1x2048 : Shape := ⟨4, ![24, 1024, 1, 2048]⟩
abbrev S_ : Shape := ⟨0, ![]⟩
abbrev S24x1024x32x128 : Shape := ⟨4, ![24, 1024, 32, 128]⟩
abbrev S24x1024x32 : Shape := ⟨3, ![24, 1024, 32]⟩
abbrev S24x1024x32x1 : Shape := ⟨4, ![24, 1024, 32, 1]⟩
abbrev S24x1024x2048x2 : Shape := ⟨4, ![24, 1024, 2048, 2]⟩
abbrev S24x1024x2048 : Shape := ⟨3, ![24, 1024, 2048]⟩
abbrev S24576x2048 : Shape := ⟨2, ![24576, 2048]⟩
abbrev S24576x32 : Shape := ⟨2, ![24576, 32]⟩

abbrev nBuf : Space → Nat
  | .hbm => 196
  | .vmem => 0
  | .smem => 0
  | _ => 0

abbrev hbmTy0_0 (i : Nat) : BufTy := match i % 128 with
  | 0 => ⟨S24x1024x4096, .bf16⟩
  | 1 => ⟨S4096, .f32⟩
  | 2 => ⟨S24x1024x4096, .f32⟩
  | 3 => ⟨S1x1x4096, .f32⟩
  | 4 => ⟨S24x1024x4096, .f32⟩
  | 5 => ⟨S24x1024x4096, .f32⟩
  | 6 => ⟨S24x1024x2048x2x1, .f32⟩
  | 7 => ⟨S24x1024x2048x1x1, .f32⟩
  | 8 => ⟨S24x1024x2048x1, .f32⟩
  | 9 => ⟨S24x1024x2048x1x1, .f32⟩
  | 10 => ⟨S24x1024x2048x1, .f32⟩
  | 11 => ⟨S24x1024x2048x1, .f32⟩
  | 12 => ⟨S24x1024x2048x1, .f32⟩
  | 13 => ⟨S24x1024x2048x1x1, .f32⟩
  | 14 => ⟨S24x1024x2048x1x1, .f32⟩
  | 15 => ⟨S24x1024x2048x2x1, .f32⟩
  | 16 => ⟨S24x1024x4096, .f32⟩
  | 17 => ⟨S24x1024x1024x2x2, .f32⟩
  | 18 => ⟨S24x1024x1024x1x2, .f32⟩
  | 19 => ⟨S24x1024x1024x2, .f32⟩
  | 20 => ⟨S24x1024x1024x1x2, .f32⟩
  | 21 => ⟨S24x1024x1024x2, .f32⟩
  | 22 => ⟨S24x1024x1024x2, .f32⟩
  | 23 => ⟨S24x1024x1024x2, .f32⟩
  | 24 => ⟨S24x1024x1024x1x2, .f32⟩
  | 25 => ⟨S24x1024x1024x1x2, .f32⟩
  | 26 => ⟨S24x1024x1024x2x2, .f32⟩
  | 27 => ⟨S24x1024x4096, .f32⟩
  | 28 => ⟨S24x1024x512x2x4, .f32⟩
  | 29 => ⟨S24x1024x512x1x4, .f32⟩
  | 30 => ⟨S24x1024x512x4, .f32⟩
  | 31 => ⟨S24x1024x512x1x4, .f32⟩
  | 32 => ⟨S24x1024x512x4, .f32⟩
  | 33 => ⟨S24x1024x512x4, .f32⟩
  | 34 => ⟨S24x1024x512x4, .f32⟩
  | 35 => ⟨S24x1024x512x1x4, .f32⟩
  | 36 => ⟨S24x1024x512x1x4, .f32⟩
  | 37 => ⟨S24x1024x512x2x4, .f32⟩
  | 38 => ⟨S24x1024x4096, .f32⟩
  | 39 => ⟨S24x1024x256x2x8, .f32⟩
  | 40 => ⟨S24x1024x256x1x8, .f32⟩
  | 41 => ⟨S24x1024x256x8, .f32⟩
  | 42 => ⟨S24x1024x256x1x8, .f32⟩
  | 43 => ⟨S24x1024x256x8, .f32⟩
  | 44 => ⟨S24x1024x256x8, .f32⟩
  | 45 => ⟨S24x1024x256x8, .f32⟩
  | 46 => ⟨S24x1024x256x1x8, .f32⟩
  | 47 => ⟨S24x1024x256x1x8, .f32⟩
  | 48 => ⟨S24x1024x256x2x8, .f32⟩
  | 49 => ⟨S24x1024x4096, .f32⟩
  | 50 => ⟨S24x1024x128x2x16, .f32⟩
  | 51 => ⟨S24x1024x128x1x16, .f32⟩
  | 52 => ⟨S24x1024x128x16, .f32⟩
  | 53 => ⟨S24x1024x128x1x16, .f32⟩
  | 54 => ⟨S24x1024x128x16, .f32⟩
  | 55 => ⟨S24x1024x128x16, .f32⟩
  | 56 => ⟨S24x1024x128x16, .f32⟩
  | 57 => ⟨S24x1024x128x1x16, .f32⟩
  | 58 => ⟨S24x1024x128x1x16, .f32⟩
  | 59 => ⟨S24x1024x128x2x16, .f32⟩
  | 60 => ⟨S24x1024x4096, .f32⟩
  | 61 => ⟨S24x1024x64x2x32, .f32⟩
  | 62 => ⟨S24x1024x64x1x32, .f32⟩
  | 63 => ⟨S24x1024x64x32, .f32⟩
  | 64 => ⟨S24x1024x64x1x32, .f32⟩
  | 65 => ⟨S24x1024x64x32, .f32⟩
  | 66 => ⟨S24x1024x64x32, .f32⟩
  | 67 => ⟨S24x1024x64x32, .f32⟩
  | 68 => ⟨S24x1024x64x1x32, .f32⟩
  | 69 => ⟨S24x1024x64x1x32, .f32⟩
  | 70 => ⟨S24x1024x64x2x32, .f32⟩
  | 71 => ⟨S24x1024x4096, .f32⟩
  | 72 => ⟨S24x1024x32x2x64, .f32⟩
  | 73 => ⟨S24x1024x32x1x64, .f32⟩
  | 74 => ⟨S24x1024x32x64, .f32⟩
  | 75 => ⟨S24x1024x32x1x64, .f32⟩
  | 76 => ⟨S24x1024x32x64, .f32⟩
  | 77 => ⟨S24x1024x32x64, .f32⟩
  | 78 => ⟨S24x1024x32x64, .f32⟩
  | 79 => ⟨S24x1024x32x1x64, .f32⟩
  | 80 => ⟨S24x1024x32x1x64, .f32⟩
  | 81 => ⟨S24x1024x32x2x64, .f32⟩
  | 82 => ⟨S24x1024x4096, .f32⟩
  | 83 => ⟨S24x1024x16x2x128, .f32⟩
  | 84 => ⟨S24x1024x16x1x128, .f32⟩
  | 85 => ⟨S24x1024x16x128, .f32⟩
  | 86 => ⟨S24x1024x16x1x128, .f32⟩
  | 87 => ⟨S24x1024x16x128, .f32⟩
  | 88 => ⟨S24x1024x16x128, .f32⟩
  | 89 => ⟨S24x1024x16x128, .f32⟩
  | 90 => ⟨S24x1024x16x1x128, .f32⟩
  | 91 => ⟨S24x1024x16x1x128, .f32⟩
  | 92 => ⟨S24x1024x16x2x128, .f32⟩
  | 93 => ⟨S24x1024x4096, .f32⟩
  | 94 => ⟨S24x1024x8x2x256, .f32⟩
  | 95 => ⟨S24x1024x8x1x256, .f32⟩
  | 96 => ⟨S24x1024x8x256, .f32⟩
  | 97 => ⟨S24x1024x8x1x256, .f32⟩
  | 98 => ⟨S24x1024x8x256, .f32⟩
  | 99 => ⟨S24x1024x8x256, .f32⟩
  | 100 => ⟨S24x1024x8x256, .f32⟩
  | 101 => ⟨S24x1024x8x1x256, .f32⟩
  | 102 => ⟨S24x1024x8x1x256, .f32⟩
  | 103 => ⟨S24x1024x8x2x256, .f32⟩
  | 104 => ⟨S24x1024x4096, .f32⟩
  | 105 => ⟨S24x1024x4x2x512, .f32⟩
  | 106 => ⟨S24x1024x4x1x512, .f32⟩
  | 107 => ⟨S24x1024x4x512, .f32⟩
  | 108 => ⟨S24x1024x4x1x512, .f32⟩
  | 109 => ⟨S24x1024x4x512, .f32⟩
  | 110 => ⟨S24x1024x4x512, .f32⟩
  | 111 => ⟨S24x1024x4x512, .f32⟩
  | 112 => ⟨S24x1024x4x1x512, .f32⟩
  | 113 => ⟨S24x1024x4x1x512, .f32⟩
  | 114 => ⟨S24x1024x4x2x512, .f32⟩
  | 115 => ⟨S24x1024x4096, .f32⟩
  | 116 => ⟨S24x1024x2x2x1024, .f32⟩
  | 117 => ⟨S24x1024x2x1x1024, .f32⟩
  | 118 => ⟨S24x1024x2x1024, .f32⟩
  | 119 => ⟨S24x1024x2x1x1024, .f32⟩
  | 120 => ⟨S24x1024x2x1024, .f32⟩
  | 121 => ⟨S24x1024x2x1024, .f32⟩
  | 122 => ⟨S24x1024x2x1024, .f32⟩
  | 123 => ⟨S24x1024x2x1x1024, .f32⟩
  | 124 => ⟨S24x1024x2x1x1024, .f32⟩
  | 125 => ⟨S24x1024x2x2x1024, .f32⟩
  | 126 => ⟨S24x1024x4096, .f32⟩
  | 127 => ⟨S24x1024x1x2x2048, .f32⟩
  | _ => ⟨S24x1024x4096, .bf16⟩

abbrev hbmTy0_1 (i : Nat) : BufTy := match i % 128 with
  | 0 => ⟨S24x1024x1x1x2048, .f32⟩
  | 1 => ⟨S24x1024x1x2048, .f32⟩
  | 2 => ⟨S24x1024x1x1x2048, .f32⟩
  | 3 => ⟨S24x1024x1x2048, .f32⟩
  | 4 => ⟨S24x1024x1x2048, .f32⟩
  | 5 => ⟨S24x1024x1x2048, .f32⟩
  | 6 => ⟨S24x1024x1x1x2048, .f32⟩
  | 7 => ⟨S24x1024x1x1x2048, .f32⟩
  | 8 => ⟨S24x1024x1x2x2048, .f32⟩
  | 9 => ⟨S24x1024x4096, .f32⟩
  | 10 => ⟨S_, .f32⟩
  | 11 => ⟨S24x1024x4096, .f32⟩
  | 12 => ⟨S24x1024x4096, .f32⟩
  | 13 => ⟨S24x1024x32x128, .f32⟩
  | 14 => ⟨S_, .f32⟩
  | 15 => ⟨S24x1024x32, .f32⟩
  | 16 => ⟨S_, .f32⟩
  | 17 => ⟨S24x1024x32, .f32⟩
  | 18 => ⟨S24x1024x32, .i1⟩
  | 19 => ⟨S24x1024x32, .f32⟩
  | 20 => ⟨S_, .f32⟩
  | 21 => ⟨S24x1024x32, .f32⟩
  | 22 => ⟨S24x1024x32, .f32⟩
  | 23 => ⟨S_, .f32⟩
  | 24 => ⟨S24x1024x32, .f32⟩
  | 25 => ⟨S24x1024x32, .f32⟩
  | 26 => ⟨S24x1024x32, .f32⟩
  | 27 => ⟨S24x1024x32, .f32⟩
  | 28 => ⟨S24x1024x32, .f32⟩
  | 29 => ⟨S_, .f32⟩
  | 30 => ⟨S_, .f32⟩
  | 31 => ⟨S_, .f32⟩
  | 32 => ⟨S24x1024x32, .f32⟩
  | 33 => ⟨S24x1024x32, .f32⟩
  | 34 => ⟨S_, .f32⟩
  | 35 => ⟨S24x1024x32, .f32⟩
  | 36 => ⟨S24x1024x32, .f32⟩
  | 37 => ⟨S24x1024x32x1, .f32⟩
  | 38 => ⟨S24x1024x32x128, .f32⟩
  | 39 => ⟨S24x1024x32x128, .f32⟩
  | 40 => ⟨S24x1024x32x128, .f32⟩
  | 41 => ⟨S24x1024x32x1, .f32⟩
  | 42 => ⟨S24x1024x32x128, .f32⟩
  | 43 => ⟨S24x1024x32x128, .f32⟩
  | 44 => ⟨S_, .f32⟩
  | 45 => ⟨S_, .f32⟩
  | 46 => ⟨S_, .f32⟩
  | 47 => ⟨S24x1024x32x128, .f32⟩
  | 48 => ⟨S24x1024x32x128, .f32⟩
  | 49 => ⟨S_, .f32⟩
  | 50 => ⟨S24x1024x32x128, .f32⟩
  | 51 => ⟨S24x1024x32x128, .f32⟩
  | 52 => ⟨S24x1024x32x128, .i32⟩
  | 53 => ⟨S24x1024x32, .i32⟩
  | 54 => ⟨S24x1024x32, .i8⟩
  | 55 => ⟨S24x1024x2048x2, .i32⟩
  | 56 => ⟨S24x1024x2048x1, .i32⟩
  | 57 => ⟨S24x1024x2048, .i32⟩
  | 58 => ⟨S24x1024x2048x1, .i32⟩
  | 59 => ⟨S24x1024x2048, .i32⟩
  | 60 => ⟨S_, .i32⟩
  | 61 => ⟨S24x1024x2048, .i32⟩
  | 62 => ⟨S24x1024x2048, .i32⟩
  | 63 => ⟨S24x1024x2048, .i32⟩
  | 64 => ⟨S24x1024x2048, .i8⟩
  | 65 => ⟨S24576x2048, .i8⟩
  | 66 => ⟨S24576x32, .f32⟩
  | 67 => ⟨S24576x32, .i8⟩
  | _ => ⟨S24x1024x4096, .bf16⟩

abbrev hbmTy (i : Nat) : BufTy := match i / 128 with
  | 0 => hbmTy0_0 i
  | 1 => hbmTy0_1 i
  | _ => ⟨S24x1024x4096, .bf16⟩

abbrev bufTy : (tb : Table) → Fin (tcTables nBuf tb) → BufTy
  | .hbm, ⟨i, _⟩ => hbmTy i
  | _, _ => ⟨S24x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_cst : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_cst_0 : Ref sig .tc := ⟨.hbm, 142, rfl⟩
abbrev main_v139 : Ref sig .tc := ⟨.hbm, 143, rfl⟩
abbrev main_cst_1 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_cst_2 : Ref sig .tc := ⟨.hbm, 148, rfl⟩
abbrev main_v143 : Ref sig .tc := ⟨.hbm, 149, rfl⟩
abbrev main_v144 : Ref sig .tc := ⟨.hbm, 150, rfl⟩
abbrev main_cst_3 : Ref sig .tc := ⟨.hbm, 151, rfl⟩
abbrev main_call0_v0 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_cst_4 : Ref sig .tc := ⟨.hbm, 157, rfl⟩
abbrev main_cst_5 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_cst_6 : Ref sig .tc := ⟨.hbm, 172, rfl⟩
abbrev main_cst_7 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_c : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩

abbrev nD : Nat := 1
abbrev τ : Topo := Topo.v7x

variable {F : FTy → Type} [FloatOps F]
-- ==== Proof.Step.lean ====
/- The kernel body's buffers as a record of plain functions, and what it is for a program over them to run:
   from the buffers at one record it ends, and the record it ends at has a stated property. One rule for a
   load, one for a store, one for a return and one for a counted loop. -/
module

public import proofs.«01_k».proof.Proof.Gen.KernelIdeal.Frame

@[expose] public section

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A program of the TensorCore. -/
abbrev PG (F : FTy → Type) [FloatOps F] (α : Type) := Prog (TpuEff nD τ sig (Elt F) Λ₀ .tc) α

/-- The fifteen buffers the body is called with, each a whole buffer. -/
structure Args where
  a1 : Memref sig .tc .vmem S512x4096 .bf16
  h1 : a1.IsWhole
  a2 : Memref sig .tc .vmem S512x512 .f32
  h2 : a2.IsWhole
  a3 : Memref sig .tc .vmem S1x4096 .f32
  h3 : a3.IsWhole
  a4 : Memref sig .tc .vmem S512x2048 .i8
  h4 : a4.IsWhole
  a5 : Memref sig .tc .vmem S512x32 .f32
  h5 : a5.IsWhole
  a6 : Memref sig .tc .vmem S512x32 .i8
  h6 : a6.IsWhole
  a7 : Memref sig .tc .vmem S8x512x512 .bf16
  h7 : a7.IsWhole
  a8 : Memref sig .tc .vmem S8x512x512 .f32
  h8 : a8.IsWhole
  a9 : Memref sig .tc .vmem S128x128 .f32
  h9 : a9.IsWhole
  a10 : Memref sig .tc .vmem S128x128 .f32
  h10 : a10.IsWhole
  a11 : Memref sig .tc .vmem S16x128 .f32
  h11 : a11.IsWhole
  a12 : Memref sig .tc .vmem S16x128 .i32
  h12 : a12.IsWhole
  a13 : Memref sig .tc .vmem S16x128 .i32
  h13 : a13.IsWhole
  a14 : Memref sig .tc .vmem S4x32x128 .f32
  h14 : a14.IsWhole
  a15 : Memref sig .tc .vmem S4x32x128 .i32
  h15 : a15.IsWhole

/-- What the fifteen buffers read. -/
@[ext] structure St (F : FTy → Type) where
  w : S512x4096.Idx → Elt F .bf16
  h : S512x512.Idx → Elt F .f32
  sg : S1x4096.Idx → Elt F .f32
  codes : S512x2048.Idx → Elt F .i8
  scales : S512x32.Idx → Elt F .f32
  zeros : S512x32.Idx → Elt F .i8
  hs : S8x512x512.Idx → Elt F .bf16
  u : S8x512x512.Idx → Elt F .f32
  pmx : S128x128.Idx → Elt F .f32
  pmn : S128x128.Idx → Elt F .f32
  rs : S16x128.Idx → Elt F .f32
  ze : S16x128.Idx → Elt F .i32
  zo : S16x128.Idx → Elt F .i32
  sct : S4x32x128.Idx → Elt F .f32
  zct : S4x32x128.Idx → Elt F .i32

/-- Core `c` holds the fifteen buffers, reading `s`. -/
def own (c : Dev nD) (A : Args) (s : St F) : sProp 𝕄 :=
  iprop(owns (c : Thread nD τ) A.a1 fullShare s.w ∗ owns (c : Thread nD τ) A.a2 fullShare s.h ∗ owns (c : Thread nD τ) A.a3 fullShare s.sg
    ∗ owns (c : Thread nD τ) A.a4 fullShare s.codes ∗ owns (c : Thread nD τ) A.a5 fullShare s.scales ∗ owns (c : Thread nD τ) A.a6 fullShare s.zeros
    ∗ owns (c : Thread nD τ) A.a7 fullShare s.hs ∗ owns (c : Thread nD τ) A.a8 fullShare s.u
    ∗ owns (c : Thread nD τ) A.a9 fullShare s.pmx ∗ owns (c : Thread nD τ) A.a10 fullShare s.pmn
    ∗ owns (c : Thread nD τ) A.a11 fullShare s.rs ∗ owns (c : Thread nD τ) A.a12 fullShare s.ze ∗ owns (c : Thread nD τ) A.a13 fullShare s.zo
    ∗ owns (c : Thread nD τ) A.a14 fullShare s.sct ∗ owns (c : Thread nD τ) A.a15 fullShare s.zct)

/-- From the buffers at `s` the program `p` runs, faults nowhere, and ends with a value and buffers of which `Q` holds. -/
def T (A : Args) {α : Type} (p : PG F α) (s : St F) (Q : α → St F → Prop) : Prop :=
  ∀ (𝒱 : Variants) (c : Dev nD) (bd : Option 𝒱.V) (E : Set ℕ),
    own c A s ⊢ wp frame (wpE (defs₀ (F := F)) 𝒱 (c : Thread nD τ) bd) E p (fun a => iprop(∃ s', ⌜Q a s'⌝ ∗ own c A s'))

variable {A : Args} {α : Type} {s : St F} {Q : α → St F → Prop}

theorem T.ret {a : α} (h : Q a s) : T A (.ret a : PG F α) s Q := by
  intro 𝒱 c bd E
  refine BIBase.Entails.trans ?_ (le_wp_ret _ _ _ a _)
  iintro H
  iexists s
  isplitr
  · ipureintro; exact h
  · iexact H

theorem T.mono {p : PG F α} {Q' : α → St F → Prop} (h : T A p s Q) (hq : ∀ a s', Q a s' → Q' a s') : T A p s Q' := by
  intro 𝒱 c bd E
  refine (h 𝒱 c bd E).trans (wp_mono _ _ _ fun a => ?_)
  iintro ⟨%s', %hQ, H⟩
  iexists s'
  isplitr
  · ipureintro; exact hq _ _ hQ
  · iexact H

theorem T.bind {β : Type} {p : PG F β} {k : β → PG F α} {R : β → St F → Prop} (h : T A p s R)
    (hk : ∀ b s', R b s' → T A (k b) s' Q) : T A (p >>= k) s Q := by
  intro 𝒱 c bd E
  rw [wp_bind]
  refine (h 𝒱 c bd E).trans (wp_mono _ _ _ fun b => ?_)
  iintro ⟨%s', %hR, H⟩
  iapply (hk b s' hR 𝒱 c bd E)
  iexact H

theorem T.load {cs : CoreSpace} {sh : Shape} {e : EltTy} {m : Memref sig .tc cs sh e} {r : LoadRect sh} {hl : m.view.LoadsAt r}
    {k : (r.shape.Idx → Elt F e) → PG F α} {X : sh.Idx → Elt F e}
    (ho : ∀ c : Dev nD, (own c A s : sProp 𝕄) ⊢ iprop(owns (c : Thread nD τ) m fullShare X ∗ (owns (c : Thread nD τ) m fullShare X -∗ own c A s)))
    (h : T A (k (fun x => X (r.idx x))) s Q) : T A (.op (.load m r hl) k) s Q := by
  intro 𝒱 c bd E
  refine (ho c).trans ?_
  unfold owns
  iintro ⟨⟨%f, %hf, H⟩, W⟩
  iapply (wp_load (defs := defs₀ (F := F)) 𝒱 (c : Thread nD τ) bd E (m := m) (r := r) (hl := hl) (f := f) (View.setOn_subset_set _ _)) $$ H
  iintro H
  have e1 : m.view.readAt (Elt F) r f = fun x => X (r.idx x) := by subst hf; rfl
  rw [e1]
  iapply (h 𝒱 c bd E)
  iapply W
  iexists f
  isplitr
  · ipureintro; exact hf
  · iexact H

theorem T.store {cs : CoreSpace} {sh : Shape} {e : EltTy} {m : Memref sig .tc cs sh e} {r : Rect sh} {w : r.shape.Idx → Elt F e}
    {hx : (m.access r).Stores Finset.univ} {hm : (Finset.univ : Finset r.shape.Idx) = Finset.univ ∨ ∀ a, r.stride a = 1}
    {k : PUnit → PG F α} {X : sh.Idx → Elt F e} {s' : (sh.Idx → Elt F e) → St F}
    (ho : ∀ (c : Dev nD) (Y : sh.Idx → Elt F e), (own c A s : sProp 𝕄)
      ⊢ iprop(owns (c : Thread nD τ) m fullShare X ∗ (owns (c : Thread nD τ) m fullShare Y -∗ own c A (s' Y))))
    (h : T A (k ⟨⟩) (s' (r.overlay X w)) Q) : T A (.op (.store m r w Finset.univ hx hm) k) s Q := by
  intro 𝒱 c bd E
  refine (ho c (r.overlay X w)).trans ?_
  unfold owns
  iintro ⟨⟨%f, %hf, H⟩, W⟩
  iapply (wp_store (defs := defs₀ (F := F)) 𝒱 (c : Thread nD τ) bd E (m := m) (r := r) (w := w) (hx := hx) (hm := hm) (f := f)
    (S := m.view.set) (Memref.setOn_access_subset m r _)) $$ H
  iintro H
  iapply (h 𝒱 c bd E)
  iapply W
  iexists (m.access r).write (Elt F) f w Finset.univ
  isplitr
  · ipureintro
    subst hf
    funext y
    by_cases hy : y ∈ r.set
    · obtain ⟨x, rfl⟩ := r.exists_idx_of_mem hy
      exact (View.read_writes_cons_emb m.view f r w [] x).trans (Rect.overlay_emb r _ w x).symm
    · rw [Rect.overlay_of_not_mem _ _ _ hy]
      exact View.read_writes_cons_miss m.view f ⟨r, w⟩ [] y hy
  · iexact H

/-! One rule per buffer that the body loads from or stores to. -/

theorem T.load1 {r : LoadRect S512x4096} {hl : A.a1.view.LoadsAt r} {k : (r.shape.Idx → Elt F .bf16) → PG F α}
    (h : T A (k (fun x => s.w (r.idx x))) s Q) : T A (.op (.load A.a1 r hl) k) s Q := by
  refine T.load (fun c => ?_) h
  unfold own
  iintro ⟨H1, H2, H3, H4, H5, H6, H7, H8, H9, H10, H11, H12, H13, H14, H15⟩
  isplitl [H1]
  · iexact H1
  iintro H1
  iframe

theorem T.load2 {r : LoadRect S512x512} {hl : A.a2.view.LoadsAt r} {k : (r.shape.Idx → Elt F .f32) → PG F α}
    (h : T A (k (fun x => s.h (r.idx x))) s Q) : T A (.op (.load A.a2 r hl) k) s Q := by
  refine T.load (fun c => ?_) h
  unfold own
  iintro ⟨H1, H2, H3, H4, H5, H6, H7, H8, H9, H10, H11, H12, H13, H14, H15⟩
  isplitl [H2]
  · iexact H2
  iintro H2
  iframe

theorem T.load3 {r : LoadRect S1x4096} {hl : A.a3.view.LoadsAt r} {k : (r.shape.Idx → Elt F .f32) → PG F α}
    (h : T A (k (fun x => s.sg (r.idx x))) s Q) : T A (.op (.load A.a3 r hl) k) s Q := by
  refine T.load (fun c => ?_) h
  unfold own
  iintro ⟨H1, H2, H3, H4, H5, H6, H7, H8, H9, H10, H11, H12, H13, H14, H15⟩
  isplitl [H3]
  · iexact H3
  iintro H3
  iframe

theorem T.load4 {r : LoadRect S512x2048} {hl : A.a4.view.LoadsAt r} {k : (r.shape.Idx → Elt F .i8) → PG F α}
    (h : T A (k (fun x => s.codes (r.idx x))) s Q) : T A (.op (.load A.a4 r hl) k) s Q := by
  refine T.load (fun c => ?_) h
  unfold own
  iintro ⟨H1, H2, H3, H4, H5, H6, H7, H8, H9, H10, H11, H12, H13, H14, H15⟩
  isplitl [H4]
  · iexact H4
  iintro H4
  iframe

theorem T.store4 {r : Rect S512x2048} {w : r.shape.Idx → Elt F .i8}
    {hx : (A.a4.access r).Stores Finset.univ} {hm : (Finset.univ : Finset r.shape.Idx) = Finset.univ ∨ ∀ a, r.stride a = 1}
    {k : PUnit → PG F α} (h : T A (k ⟨⟩) { s with codes := r.overlay s.codes w } Q) : T A (.op (.store A.a4 r w Finset.univ hx hm) k) s Q := by
  refine T.store (s' := fun Y => { s with codes := Y }) (fun c Y => ?_) h
  unfold own
  iintro ⟨H1, H2, H3, H4, H5, H6, H7, H8, H9, H10, H11, H12, H13, H14, H15⟩
  isplitl [H4]
  · iexact H4
  iintro H4
  iframe

theorem T.load5 {r : LoadRect S512x32} {hl : A.a5.view.LoadsAt r} {k : (r.shape.Idx → Elt F .f32) → PG F α}
    (h : T A (k (fun x => s.scales (r.idx x))) s Q) : T A (.op (.load A.a5 r hl) k) s Q := by
  refine T.load (fun c => ?_) h
  unfold own
  iintro ⟨H1, H2, H3, H4, H5, H6, H7, H8, H9, H10, H11, H12, H13, H14, H15⟩
  isplitl [H5]
  · iexact H5
  iintro H5
  iframe

theorem T.store5 {r : Rect S512x32} {w : r.shape.Idx → Elt F .f32}
    {hx : (A.a5.access r).Stores Finset.univ} {hm : (Finset.univ : Finset r.shape.Idx) = Finset.univ ∨ ∀ a, r.stride a = 1}
    {k : PUnit → PG F α} (h : T A (k ⟨⟩) { s with scales := r.overlay s.scales w } Q) : T A (.op (.store A.a5 r w Finset.univ hx hm) k) s Q := by
  refine T.store (s' := fun Y => { s with scales := Y }) (fun c Y => ?_) h
  unfold own
  iintro ⟨H1, H2, H3, H4, H5, H6, H7, H8, H9, H10, H11, H12, H13, H14, H15⟩
  isplitl [H5]
  · iexact H5
  iintro H5
  iframe

theorem T.load6 {r : LoadRect S512x32} {hl : A.a6.view.LoadsAt r} {k : (r.shape.Idx → Elt F .i8) → PG F α}
    (h : T A (k (fun x => s.zeros (r.idx x))) s Q) : T A (.op (.load A.a6 r hl) k) s Q := by
  refine T.load (fun c => ?_) h
  unfold own
  iintro ⟨H1, H2, H3, H4, H5, H6, H7, H8, H9, H10, H11, H12, H13, H14, H15⟩
  isplitl [H6]
  · iexact H6
  iintro H6
  iframe

theorem T.store6 {r : Rect S512x32} {w : r.shape.Idx → Elt F .i8}
    {hx : (A.a6.access r).Stores Finset.univ} {hm : (Finset.univ : Finset r.shape.Idx) = Finset.univ ∨ ∀ a, r.stride a = 1}
    {k : PUnit → PG F α} (h : T A (k ⟨⟩) { s with zeros := r.overlay s.zeros w } Q) : T A (.op (.store A.a6 r w Finset.univ hx hm) k) s Q := by
  refine T.store (s' := fun Y => { s with zeros := Y }) (fun c Y => ?_) h
  unfold own
  iintro ⟨H1, H2, H3, H4, H5, H6, H7, H8, H9, H10, H11, H12, H13, H14, H15⟩
  isplitl [H6]
  · iexact H6
  iintro H6
  iframe

theorem T.load7 {r : LoadRect S8x512x512} {hl : A.a7.view.LoadsAt r} {k : (r.shape.Idx → Elt F .bf16) → PG F α}
    (h : T A (k (fun x => s.hs (r.idx x))) s Q) : T A (.op (.load A.a7 r hl) k) s Q := by
  refine T.load (fun c => ?_) h
  unfold own
  iintro ⟨H1, H2, H3, H4, H5, H6, H7, H8, H9, H10, H11, H12, H13, H14, H15⟩
  isplitl [H7]
  · iexact H7
  iintro H7
  iframe

theorem T.store7 {r : Rect S8x512x512} {w : r.shape.Idx → Elt F .bf16}
    {hx : (A.a7.access r).Stores Finset.univ} {hm : (Finset.univ : Finset r.shape.Idx) = Finset.univ ∨ ∀ a, r.stride a = 1}
    {k : PUnit → PG F α} (h : T A (k ⟨⟩) { s with hs := r.overlay s.hs w } Q) : T A (.op (.store A.a7 r w Finset.univ hx hm) k) s Q := by
  refine T.store (s' := fun Y => { s with hs := Y }) (fun c Y => ?_) h
  unfold own
  iintro ⟨H1, H2, H3, H4, H5, H6, H7, H8, H9, H10, H11, H12, H13, H14, H15⟩
  isplitl [H7]
  · iexact H7
  iintro H7
  iframe

theorem T.load8 {r : LoadRect S8x512x512} {hl : A.a8.view.LoadsAt r} {k : (r.shape.Idx → Elt F .f32) → PG F α}
    (h : T A (k (fun x => s.u (r.idx x))) s Q) : T A (.op (.load A.a8 r hl) k) s Q := by
  refine T.load (fun c => ?_) h
  unfold own
  iintro ⟨H1, H2, H3, H4, H5, H6, H7, H8, H9, H10, H11, H12, H13, H14, H15⟩
  isplitl [H8]
  · iexact H8
  iintro H8
  iframe

theorem T.store8 {r : Rect S8x512x512} {w : r.shape.Idx → Elt F .f32}
    {hx : (A.a8.access r).Stores Finset.univ} {hm : (Finset.univ : Finset r.shape.Idx) = Finset.univ ∨ ∀ a, r.stride a = 1}
    {k : PUnit → PG F α} (h : T A (k ⟨⟩) { s with u := r.overlay s.u w } Q) : T A (.op (.store A.a8 r w Finset.univ hx hm) k) s Q := by
  refine T.store (s' := fun Y => { s with u := Y }) (fun c Y => ?_) h
  unfold own
  iintro ⟨H1, H2, H3, H4, H5, H6, H7, H8, H9, H10, H11, H12, H13, H14, H15⟩
  isplitl [H8]
  · iexact H8
  iintro H8
  iframe

theorem T.load9 {r : LoadRect S128x128} {hl : A.a9.view.LoadsAt r} {k : (r.shape.Idx → Elt F .f32) → PG F α}
    (h : T A (k (fun x => s.pmx (r.idx x))) s Q) : T A (.op (.load A.a9 r hl) k) s Q := by
  refine T.load (fun c => ?_) h
  unfold own
  iintro ⟨H1, H2, H3, H4, H5, H6, H7, H8, H9, H10, H11, H12, H13, H14, H15⟩
  isplitl [H9]
  · iexact H9
  iintro H9
  iframe

theorem T.store9 {r : Rect S128x128} {w : r.shape.Idx → Elt F .f32}
    {hx : (A.a9.access r).Stores Finset.univ} {hm : (Finset.univ : Finset r.shape.Idx) = Finset.univ ∨ ∀ a, r.stride a = 1}
    {k : PUnit → PG F α} (h : T A (k ⟨⟩) { s with pmx := r.overlay s.pmx w } Q) : T A (.op (.store A.a9 r w Finset.univ hx hm) k) s Q := by
  refine T.store (s' := fun Y => { s with pmx := Y }) (fun c Y => ?_) h
  unfold own
  iintro ⟨H1, H2, H3, H4, H5, H6, H7, H8, H9, H10, H11, H12, H13, H14, H15⟩
  isplitl [H9]
  · iexact H9
  iintro H9
  iframe

theorem T.load10 {r : LoadRect S128x128} {hl : A.a10.view.LoadsAt r} {k : (r.shape.Idx → Elt F .f32) → PG F α}
    (h : T A (k (fun x => s.pmn (r.idx x))) s Q) : T A (.op (.load A.a10 r hl) k) s Q := by
  refine T.load (fun c => ?_) h
  unfold own
  iintro ⟨H1, H2, H3, H4, H5, H6, H7, H8, H9, H10, H11, H12, H13, H14, H15⟩
  isplitl [H10]
  · iexact H10
  iintro H10
  iframe

theorem T.store10 {r : Rect S128x128} {w : r.shape.Idx → Elt F .f32}
    {hx : (A.a10.access r).Stores Finset.univ} {hm : (Finset.univ : Finset r.shape.Idx) = Finset.univ ∨ ∀ a, r.stride a = 1}
    {k : PUnit → PG F α} (h : T A (k ⟨⟩) { s with pmn := r.overlay s.pmn w } Q) : T A (.op (.store A.a10 r w Finset.univ hx hm) k) s Q := by
  refine T.store (s' := fun Y => { s with pmn := Y }) (fun c Y => ?_) h
  unfold own
  iintro ⟨H1, H2, H3, H4, H5, H6, H7, H8, H9, H10, H11, H12, H13, H14, H15⟩
  isplitl [H10]
  · iexact H10
  iintro H10
  iframe

theorem T.load11 {r : LoadRect S16x128} {hl : A.a11.view.LoadsAt r} {k : (r.shape.Idx → Elt F .f32) → PG F α}
    (h : T A (k (fun x => s.rs (r.idx x))) s Q) : T A (.op (.load A.a11 r hl) k) s Q := by
  refine T.load (fun c => ?_) h
  unfold own
  iintro ⟨H1, H2, H3, H4, H5, H6, H7, H8, H9, H10, H11, H12, H13, H14, H15⟩
  isplitl [H11]
  · iexact H11
  iintro H11
  iframe

theorem T.store11 {r : Rect S16x128} {w : r.shape.Idx → Elt F .f32}
    {hx : (A.a11.access r).Stores Finset.univ} {hm : (Finset.univ : Finset r.shape.Idx) = Finset.univ ∨ ∀ a, r.stride a = 1}
    {k : PUnit → PG F α} (h : T A (k ⟨⟩) { s with rs := r.overlay s.rs w } Q) : T A (.op (.store A.a11 r w Finset.univ hx hm) k) s Q := by
  refine T.store (s' := fun Y => { s with rs := Y }) (fun c Y => ?_) h
  unfold own
  iintro ⟨H1, H2, H3, H4, H5, H6, H7, H8, H9, H10, H11, H12, H13, H14, H15⟩
  isplitl [H11]
  · iexact H11
  iintro H11
  iframe

theorem T.load12 {r : LoadRect S16x128} {hl : A.a12.view.LoadsAt r} {k : (r.shape.Idx → Elt F .i32) → PG F α}
    (h : T A (k (fun x => s.ze (r.idx x))) s Q) : T A (.op (.load A.a12 r hl) k) s Q := by
  refine T.load (fun c => ?_) h
  unfold own
  iintro ⟨H1, H2, H3, H4, H5, H6, H7, H8, H9, H10, H11, H12, H13, H14, H15⟩
  isplitl [H12]
  · iexact H12
  iintro H12
  iframe

theorem T.store12 {r : Rect S16x128} {w : r.shape.Idx → Elt F .i32}
    {hx : (A.a12.access r).Stores Finset.univ} {hm : (Finset.univ : Finset r.shape.Idx) = Finset.univ ∨ ∀ a, r.stride a = 1}
    {k : PUnit → PG F α} (h : T A (k ⟨⟩) { s with ze := r.overlay s.ze w } Q) : T A (.op (.store A.a12 r w Finset.univ hx hm) k) s Q := by
  refine T.store (s' := fun Y => { s with ze := Y }) (fun c Y => ?_) h
  unfold own
  iintro ⟨H1, H2, H3, H4, H5, H6, H7, H8, H9, H10, H11, H12, H13, H14, H15⟩
  isplitl [H12]
  · iexact H12
  iintro H12
  iframe

theorem T.load13 {r : LoadRect S16x128} {hl : A.a13.view.LoadsAt r} {k : (r.shape.Idx → Elt F .i32) → PG F α}
    (h : T A (k (fun x => s.zo (r.idx x))) s Q) : T A (.op (.load A.a13 r hl) k) s Q := by
  refine T.load (fun c => ?_) h
  unfold own
  iintro ⟨H1, H2, H3, H4, H5, H6, H7, H8, H9, H10, H11, H12, H13, H14, H15⟩
  isplitl [H13]
  · iexact H13
  iintro H13
  iframe

theorem T.store13 {r : Rect S16x128} {w : r.shape.Idx → Elt F .i32}
    {hx : (A.a13.access r).Stores Finset.univ} {hm : (Finset.univ : Finset r.shape.Idx) = Finset.univ ∨ ∀ a, r.stride a = 1}
    {k : PUnit → PG F α} (h : T A (k ⟨⟩) { s with zo := r.overlay s.zo w } Q) : T A (.op (.store A.a13 r w Finset.univ hx hm) k) s Q := by
  refine T.store (s' := fun Y => { s with zo := Y }) (fun c Y => ?_) h
  unfold own
  iintro ⟨H1, H2, H3, H4, H5, H6, H7, H8, H9, H10, H11, H12, H13, H14, H15⟩
  isplitl [H13]
  · iexact H13
  iintro H13
  iframe

theorem T.load14 {r : LoadRect S4x32x128} {hl : A.a14.view.LoadsAt r} {k : (r.shape.Idx → Elt F .f32) → PG F α}
    (h : T A (k (fun x => s.sct (r.idx x))) s Q) : T A (.op (.load A.a14 r hl) k) s Q := by
  refine T.load (fun c => ?_) h
  unfold own
  iintro ⟨H1, H2, H3, H4, H5, H6, H7, H8, H9, H10, H11, H12, H13, H14, H15⟩
  isplitl [H14]
  · iexact H14
  iintro H14
  iframe

theorem T.store14 {r : Rect S4x32x128} {w : r.shape.Idx → Elt F .f32}
    {hx : (A.a14.access r).Stores Finset.univ} {hm : (Finset.univ : Finset r.shape.Idx) = Finset.univ ∨ ∀ a, r.stride a = 1}
    {k : PUnit → PG F α} (h : T A (k ⟨⟩) { s with sct := r.overlay s.sct w } Q) : T A (.op (.store A.a14 r w Finset.univ hx hm) k) s Q := by
  refine T.store (s' := fun Y => { s with sct := Y }) (fun c Y => ?_) h
  unfold own
  iintro ⟨H1, H2, H3, H4, H5, H6, H7, H8, H9, H10, H11, H12, H13, H14, H15⟩
  isplitl [H14]
  · iexact H14
  iintro H14
  iframe

theorem T.load15 {r : LoadRect S4x32x128} {hl : A.a15.view.LoadsAt r} {k : (r.shape.Idx → Elt F .i32) → PG F α}
    (h : T A (k (fun x => s.zct (r.idx x))) s Q) : T A (.op (.load A.a15 r hl) k) s Q := by
  refine T.load (fun c => ?_) h
  unfold own
  iintro ⟨H1, H2, H3, H4, H5, H6, H7, H8, H9, H10, H11, H12, H13, H14, H15⟩
  isplitl [H15]
  · iexact H15
  iintro H15
  iframe

theorem T.store15 {r : Rect S4x32x128} {w : r.shape.Idx → Elt F .i32}
    {hx : (A.a15.access r).Stores Finset.univ} {hm : (Finset.univ : Finset r.shape.Idx) = Finset.univ ∨ ∀ a, r.stride a = 1}
    {k : PUnit → PG F α} (h : T A (k ⟨⟩) { s with zct := r.overlay s.zct w } Q) : T A (.op (.store A.a15 r w Finset.univ hx hm) k) s Q := by
  refine T.store (s' := fun Y => { s with zct := Y }) (fun c Y => ?_) h
  unfold own
  iintro ⟨H1, H2, H3, H4, H5, H6, H7, H8, H9, H10, H11, H12, H13, H14, H15⟩
  isplitl [H15]
  · iexact H15
  iintro H15
  iframe

/-- A counted loop whose trip `k` takes a record `s` to `f k s` takes the record through all the trips in order. -/
theorem T.forFrom {n : ℕ} {σ : Type} (f : Fin n → St F → St F) (body : Fin n → σ → PG F σ)
    (hb : ∀ k a s, T A (body k a) s (fun _ s' => s' = f k s)) :
    ∀ (l : List (Fin n)) (a : σ) (s : St F), T A (Scf.forFrom body l a) s (fun _ s' => s' = l.foldl (fun s k => f k s) s)
  | [], a, s => T.ret rfl
  | k :: l, a, s => by
      rw [Scf.forFrom_cons]
      exact T.bind (hb k a s) fun b s' h => by subst h; exact T.forFrom f body hb l b _

end Cert.KernelIdeal.Fold

end
-- ==== Proof.Tile.lean ====
/- One tile of the last three levels of the transform: the same eight rows of the eight blocks are loaded, put
   through an eight-point butterfly and stored back in place. -/
module

public import proofs.«01_k».proof.Proof.Step

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The eight-point butterfly, in the body's order of additions. -/
def bfly (x : Fin 8 → FVec F S8x128 .f32) : Fin 8 → FVec F S8x128 .f32
  | 0 => addf (addf (addf (x 0) (x 1)) (addf (x 2) (x 3))) (addf (addf (x 4) (x 5)) (addf (x 6) (x 7)))
  | 1 => addf (addf (subf (x 0) (x 1)) (subf (x 2) (x 3))) (addf (subf (x 4) (x 5)) (subf (x 6) (x 7)))
  | 2 => addf (subf (addf (x 0) (x 1)) (addf (x 2) (x 3))) (subf (addf (x 4) (x 5)) (addf (x 6) (x 7)))
  | 3 => addf (subf (subf (x 0) (x 1)) (subf (x 2) (x 3))) (subf (subf (x 4) (x 5)) (subf (x 6) (x 7)))
  | 4 => subf (addf (addf (x 0) (x 1)) (addf (x 2) (x 3))) (addf (addf (x 4) (x 5)) (addf (x 6) (x 7)))
  | 5 => subf (addf (subf (x 0) (x 1)) (subf (x 2) (x 3))) (addf (subf (x 4) (x 5)) (subf (x 6) (x 7)))
  | 6 => subf (subf (addf (x 0) (x 1)) (addf (x 2) (x 3))) (subf (addf (x 4) (x 5)) (addf (x 6) (x 7)))
  | 7 => subf (subf (subf (x 0) (x 1)) (subf (x 2) (x 3))) (subf (subf (x 4) (x 5)) (subf (x 6) (x 7)))

/-- Rows `128 q + 8 t` to `+ 8` of block `b`, in part `j`'s rows and lanes. -/
def rU (j : Fin k0_t2_loop.trips) (q : Fin 2) (t : Fin 16) : Fin 8 → Rect S8x512x512
  | 0 => Rect.unit (s := S8x512x512) (k0_off3 j (BitVec.ofNat 32 (128 * q.val)) (BitVec.ofNat 32 (8 * t.val))) S1x8x128.size (k0_off3_inb j q t)
  | 1 => Rect.unit (s := S8x512x512) (k0_off4 j (BitVec.ofNat 32 (128 * q.val)) (BitVec.ofNat 32 (8 * t.val))) S1x8x128.size (k0_off4_inb j q t)
  | 2 => Rect.unit (s := S8x512x512) (k0_off5 j (BitVec.ofNat 32 (128 * q.val)) (BitVec.ofNat 32 (8 * t.val))) S1x8x128.size (k0_off5_inb j q t)
  | 3 => Rect.unit (s := S8x512x512) (k0_off6 j (BitVec.ofNat 32 (128 * q.val)) (BitVec.ofNat 32 (8 * t.val))) S1x8x128.size (k0_off6_inb j q t)
  | 4 => Rect.unit (s := S8x512x512) (k0_off7 j (BitVec.ofNat 32 (128 * q.val)) (BitVec.ofNat 32 (8 * t.val))) S1x8x128.size (k0_off7_inb j q t)
  | 5 => Rect.unit (s := S8x512x512) (k0_off8 j (BitVec.ofNat 32 (128 * q.val)) (BitVec.ofNat 32 (8 * t.val))) S1x8x128.size (k0_off8_inb j q t)
  | 6 => Rect.unit (s := S8x512x512) (k0_off9 j (BitVec.ofNat 32 (128 * q.val)) (BitVec.ofNat 32 (8 * t.val))) S1x8x128.size (k0_off9_inb j q t)
  | 7 => Rect.unit (s := S8x512x512) (k0_off10 j (BitVec.ofNat 32 (128 * q.val)) (BitVec.ofNat 32 (8 * t.val))) S1x8x128.size (k0_off10_inb j q t)

/-- Eight loaded tiles as a family of `8 × 128` vectors. -/
def vec8 (x0 x1 x2 x3 x4 x5 x6 x7 : Vec F S1x8x128 .f32) : Fin 8 → FVec F S8x128 .f32
  | 0 => shapeCast S8x128 x0 shapeCasts_S1x8x128_S8x128
  | 1 => shapeCast S8x128 x1 shapeCasts_S1x8x128_S8x128
  | 2 => shapeCast S8x128 x2 shapeCasts_S1x8x128_S8x128
  | 3 => shapeCast S8x128 x3 shapeCasts_S1x8x128_S8x128
  | 4 => shapeCast S8x128 x4 shapeCasts_S1x8x128_S8x128
  | 5 => shapeCast S8x128 x5 shapeCasts_S1x8x128_S8x128
  | 6 => shapeCast S8x128 x6 shapeCasts_S1x8x128_S8x128
  | 7 => shapeCast S8x128 x7 shapeCasts_S1x8x128_S8x128

/-- Block `b`'s tile of the array `u`. -/
def tileX (j : Fin k0_t2_loop.trips) (q : Fin 2) (t : Fin 16) (u : S8x512x512.Idx → Elt F .f32) : Fin 8 → FVec F S8x128 .f32 :=
  vec8 (fun x => u ((rU j q t 0).toLoadRect.idx x)) (fun x => u ((rU j q t 1).toLoadRect.idx x))
    (fun x => u ((rU j q t 2).toLoadRect.idx x)) (fun x => u ((rU j q t 3).toLoadRect.idx x))
    (fun x => u ((rU j q t 4).toLoadRect.idx x)) (fun x => u ((rU j q t 5).toLoadRect.idx x))
    (fun x => u ((rU j q t 6).toLoadRect.idx x)) (fun x => u ((rU j q t 7).toLoadRect.idx x))

/-- The eight blocks with the tile replaced by `y`. -/
def putU (j : Fin k0_t2_loop.trips) (q : Fin 2) (t : Fin 16) (y : Fin 8 → FVec F S8x128 .f32) (u : S8x512x512.Idx → Elt F .f32) :
    S8x512x512.Idx → Elt F .f32 :=
  (rU j q t 7).overlay ((rU j q t 6).overlay ((rU j q t 5).overlay ((rU j q t 4).overlay ((rU j q t 3).overlay ((rU j q t 2).overlay
    ((rU j q t 1).overlay ((rU j q t 0).overlay u
    (shapeCast S1x8x128 (y 0) shapeCasts_S8x128_S1x8x128)) (shapeCast S1x8x128 (y 1) shapeCasts_S8x128_S1x8x128))
    (shapeCast S1x8x128 (y 2) shapeCasts_S8x128_S1x8x128)) (shapeCast S1x8x128 (y 3) shapeCasts_S8x128_S1x8x128))
    (shapeCast S1x8x128 (y 4) shapeCasts_S8x128_S1x8x128)) (shapeCast S1x8x128 (y 5) shapeCasts_S8x128_S1x8x128))
    (shapeCast S1x8x128 (y 6) shapeCasts_S8x128_S1x8x128)) (shapeCast S1x8x128 (y 7) shapeCasts_S8x128_S1x8x128)

/-- The tile's program, followed by `k` of the eight loaded vectors. -/
def tileK (A : Args) (j : Fin k0_t2_loop.trips) (q : Fin 2) (t : Fin 16)
    (k : (x0 x1 x2 x3 x4 x5 x6 x7 : Vec F S1x8x128 .f32) → PG F α) : PG F α :=
  .op (.load A.a8 (rU j q t 0).toLoadRect (View.loadsAt_vmem h_S1x8x128)) fun (x0 : Vec F S1x8x128 .f32) =>
  .op (.load A.a8 (rU j q t 1).toLoadRect (View.loadsAt_vmem h_S1x8x128)) fun (x1 : Vec F S1x8x128 .f32) =>
  .op (.load A.a8 (rU j q t 2).toLoadRect (View.loadsAt_vmem h_S1x8x128)) fun (x2 : Vec F S1x8x128 .f32) =>
  .op (.load A.a8 (rU j q t 3).toLoadRect (View.loadsAt_vmem h_S1x8x128)) fun (x3 : Vec F S1x8x128 .f32) =>
  .op (.load A.a8 (rU j q t 4).toLoadRect (View.loadsAt_vmem h_S1x8x128)) fun (x4 : Vec F S1x8x128 .f32) =>
  .op (.load A.a8 (rU j q t 5).toLoadRect (View.loadsAt_vmem h_S1x8x128)) fun (x5 : Vec F S1x8x128 .f32) =>
  .op (.load A.a8 (rU j q t 6).toLoadRect (View.loadsAt_vmem h_S1x8x128)) fun (x6 : Vec F S1x8x128 .f32) =>
  .op (.load A.a8 (rU j q t 7).toLoadRect (View.loadsAt_vmem h_S1x8x128)) fun (x7 : Vec F S1x8x128 .f32) =>
  let a0 : FVec F S8x128 .f32 := shapeCast S8x128 x0 shapeCasts_S1x8x128_S8x128
  let a1 : FVec F S8x128 .f32 := shapeCast S8x128 x1 shapeCasts_S1x8x128_S8x128
  let a2 : FVec F S8x128 .f32 := shapeCast S8x128 x2 shapeCasts_S1x8x128_S8x128
  let a3 : FVec F S8x128 .f32 := shapeCast S8x128 x3 shapeCasts_S1x8x128_S8x128
  let a4 : FVec F S8x128 .f32 := shapeCast S8x128 x4 shapeCasts_S1x8x128_S8x128
  let a5 : FVec F S8x128 .f32 := shapeCast S8x128 x5 shapeCasts_S1x8x128_S8x128
  let a6 : FVec F S8x128 .f32 := shapeCast S8x128 x6 shapeCasts_S1x8x128_S8x128
  let a7 : FVec F S8x128 .f32 := shapeCast S8x128 x7 shapeCasts_S1x8x128_S8x128
  .op (.load A.a8 (rU j q t 0).toLoadRect (View.loadsAt_vmem h_S1x8x128)) fun _ =>
  .op (.store A.a8 (rU j q t 0) (shapeCast S1x8x128 (addf (addf (addf a0 a1) (addf a2 a3)) (addf (addf a4 a5) (addf a6 a7))) shapeCasts_S8x128_S1x8x128) Finset.univ (View.stores_vmem_bits_univ h_S1x8x128 rfl) (.inl rfl)) fun _ =>
  .op (.load A.a8 (rU j q t 1).toLoadRect (View.loadsAt_vmem h_S1x8x128)) fun _ =>
  .op (.store A.a8 (rU j q t 1) (shapeCast S1x8x128 (addf (addf (subf a0 a1) (subf a2 a3)) (addf (subf a4 a5) (subf a6 a7))) shapeCasts_S8x128_S1x8x128) Finset.univ (View.stores_vmem_bits_univ h_S1x8x128 rfl) (.inl rfl)) fun _ =>
  .op (.load A.a8 (rU j q t 2).toLoadRect (View.loadsAt_vmem h_S1x8x128)) fun _ =>
  .op (.store A.a8 (rU j q t 2) (shapeCast S1x8x128 (addf (subf (addf a0 a1) (addf a2 a3)) (subf (addf a4 a5) (addf a6 a7))) shapeCasts_S8x128_S1x8x128) Finset.univ (View.stores_vmem_bits_univ h_S1x8x128 rfl) (.inl rfl)) fun _ =>
  .op (.load A.a8 (rU j q t 3).toLoadRect (View.loadsAt_vmem h_S1x8x128)) fun _ =>
  .op (.store A.a8 (rU j q t 3) (shapeCast S1x8x128 (addf (subf (subf a0 a1) (subf a2 a3)) (subf (subf a4 a5) (subf a6 a7))) shapeCasts_S8x128_S1x8x128) Finset.univ (View.stores_vmem_bits_univ h_S1x8x128 rfl) (.inl rfl)) fun _ =>
  .op (.load A.a8 (rU j q t 4).toLoadRect (View.loadsAt_vmem h_S1x8x128)) fun _ =>
  .op (.store A.a8 (rU j q t 4) (shapeCast S1x8x128 (subf (addf (addf a0 a1) (addf a2 a3)) (addf (addf a4 a5) (addf a6 a7))) shapeCasts_S8x128_S1x8x128) Finset.univ (View.stores_vmem_bits_univ h_S1x8x128 rfl) (.inl rfl)) fun _ =>
  .op (.load A.a8 (rU j q t 5).toLoadRect (View.loadsAt_vmem h_S1x8x128)) fun _ =>
  .op (.store A.a8 (rU j q t 5) (shapeCast S1x8x128 (subf (addf (subf a0 a1) (subf a2 a3)) (addf (subf a4 a5) (subf a6 a7))) shapeCasts_S8x128_S1x8x128) Finset.univ (View.stores_vmem_bits_univ h_S1x8x128 rfl) (.inl rfl)) fun _ =>
  .op (.load A.a8 (rU j q t 6).toLoadRect (View.loadsAt_vmem h_S1x8x128)) fun _ =>
  .op (.store A.a8 (rU j q t 6) (shapeCast S1x8x128 (subf (subf (addf a0 a1) (addf a2 a3)) (subf (addf a4 a5) (addf a6 a7))) shapeCasts_S8x128_S1x8x128) Finset.univ (View.stores_vmem_bits_univ h_S1x8x128 rfl) (.inl rfl)) fun _ =>
  .op (.load A.a8 (rU j q t 7).toLoadRect (View.loadsAt_vmem h_S1x8x128)) fun _ =>
  .op (.store A.a8 (rU j q t 7) (shapeCast S1x8x128 (subf (subf (subf a0 a1) (subf a2 a3)) (subf (subf a4 a5) (subf a6 a7))) shapeCasts_S8x128_S1x8x128) Finset.univ (View.stores_vmem_bits_univ h_S1x8x128 rfl) (.inl rfl)) fun _ =>
  k x0 x1 x2 x3 x4 x5 x6 x7

/-- What the tile's program runs to. -/
theorem T.tile {j : Fin k0_t2_loop.trips} (q : Fin 2) (t : Fin 16) {k : (x0 x1 x2 x3 x4 x5 x6 x7 : Vec F S1x8x128 .f32) → PG F α}
    (h : T A (k (fun x => s.u ((rU j q t 0).toLoadRect.idx x)) (fun x => s.u ((rU j q t 1).toLoadRect.idx x))
        (fun x => s.u ((rU j q t 2).toLoadRect.idx x)) (fun x => s.u ((rU j q t 3).toLoadRect.idx x))
        (fun x => s.u ((rU j q t 4).toLoadRect.idx x)) (fun x => s.u ((rU j q t 5).toLoadRect.idx x))
        (fun x => s.u ((rU j q t 6).toLoadRect.idx x)) (fun x => s.u ((rU j q t 7).toLoadRect.idx x)))
      { s with u := putU j q t (bfly (tileX j q t s.u)) s.u } Q) :
    T A (tileK A j q t k) s Q := by
  unfold putU at h
  dsimp only [bfly, tileX, vec8] at h
  unfold tileK
  refine T.load8 ?_
  refine T.load8 ?_
  refine T.load8 ?_
  refine T.load8 ?_
  refine T.load8 ?_
  refine T.load8 ?_
  refine T.load8 ?_
  refine T.load8 ?_
  refine T.load8 (T.store8 ?_)
  refine T.load8 (T.store8 ?_)
  refine T.load8 (T.store8 ?_)
  refine T.load8 (T.store8 ?_)
  refine T.load8 (T.store8 ?_)
  refine T.load8 (T.store8 ?_)
  refine T.load8 (T.store8 ?_)
  refine T.load8 (T.store8 ?_)
  dsimp only
  exact h

end Cert.KernelIdeal.Fold
-- ==== Proof.Half.lean ====
/- One half of a part: sixteen tiles in turn, with a running maximum and minimum per block, which are stored at the end. -/
module

public import proofs.«01_k».proof.Proof.Tile

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The tiles of `ts` in turn, the running maximum and minimum of each block handed on. -/
def tilesK (A : Args) (j : Fin k0_t2_loop.trips) (q : Fin 2) : List (Fin 16) → (mx mn : Fin 8 → FVec F S8x128 .f32) →
    ((mx mn : Fin 8 → FVec F S8x128 .f32) → PG F α) → PG F α
  | [], mx, mn, k => k mx mn
  | t :: ts, mx, mn, k => tileK A j q t fun x0 x1 x2 x3 x4 x5 x6 x7 =>
      tilesK A j q ts (fun b => maximumf (mx b) (bfly (vec8 x0 x1 x2 x3 x4 x5 x6 x7) b))
        (fun b => minimumf (mn b) (bfly (vec8 x0 x1 x2 x3 x4 x5 x6 x7) b)) k

/-- The blocks, with each block's running maximum and minimum. -/
structure Acc (F : FTy → Type) where
  u : S8x512x512.Idx → Elt F .f32
  mx : Fin 8 → FVec F S8x128 .f32
  mn : Fin 8 → FVec F S8x128 .f32

/-- One more tile. -/
def tileStep (j : Fin k0_t2_loop.trips) (q : Fin 2) (a : Acc F) (t : Fin 16) : Acc F where
  u := putU j q t (bfly (tileX j q t a.u)) a.u
  mx b := maximumf (a.mx b) (bfly (tileX j q t a.u) b)
  mn b := minimumf (a.mn b) (bfly (tileX j q t a.u) b)

/-- The first tile. -/
def tileInit (j : Fin k0_t2_loop.trips) (q : Fin 2) (u : S8x512x512.Idx → Elt F .f32) : Acc F where
  u := putU j q 0 (bfly (tileX j q 0 u)) u
  mx b := bfly (tileX j q 0 u) b
  mn b := bfly (tileX j q 0 u) b

/-- The tiles after the first. -/
abbrev laterTiles : List (Fin 16) := [1, 2, 3, 4, 5, 6, 7, 8, 9, 10, 11, 12, 13, 14, 15]

/-- All sixteen tiles. -/
def halfAcc (j : Fin k0_t2_loop.trips) (q : Fin 2) (u : S8x512x512.Idx → Elt F .f32) : Acc F :=
  laterTiles.foldl (tileStep j q) (tileInit j q u)

theorem T.tiles {j : Fin k0_t2_loop.trips} {q : Fin 2} {k : (mx mn : Fin 8 → FVec F S8x128 .f32) → PG F α} (ts : List (Fin 16)) :
    ∀ (a : Acc F) (s : St F), s.u = a.u →
    T A (k (ts.foldl (tileStep j q) a).mx (ts.foldl (tileStep j q) a).mn) { s with u := (ts.foldl (tileStep j q) a).u } Q →
    T A (tilesK A j q ts a.mx a.mn k) s Q := by
  induction ts with
  | nil => intro a s e h; rw [List.foldl_nil, ← e] at h; exact h
  | cons t ts ih =>
    intro a s e h
    unfold tilesK
    refine T.tile q t ?_
    have e2 := ih (tileStep j q a t) { s with u := putU j q t (bfly (tileX j q t s.u)) s.u } (by rw [e]; rfl) h
    rw [e] at e2 ⊢
    exact e2

/-- Rows `8 (8 q + b)` to `+ 8` of the running maxima. -/
def rP (q : Fin 2) (b : Fin 8) : Rect S128x128 :=
  Rect.unit (s := S128x128) ![8 * (8 * q.val + b.val), 0] S8x128.size (by
    intro a; fin_cases a
    · show 8 * (8 * q.val + b.val) + 8 ≤ 128; omega
    · show 0 + 128 ≤ 128; omega)

/-- The running maxima and minima of the blocks `bs` are stored. -/
def storesK (A : Args) (q : Fin 2) (mx mn : Fin 8 → FVec F S8x128 .f32) : List (Fin 8) → PG F α → PG F α
  | [], k => k
  | b :: bs, k =>
    .op (.load A.a9 (rP q b).toLoadRect (View.loadsAt_vmem h_S8x128)) fun _ =>
    .op (.store A.a9 (rP q b) (shapeCast S8x128 (mx b) shapeCasts_S8x128_S8x128) Finset.univ (View.stores_vmem_bits_univ h_S8x128 rfl) (.inl rfl)) fun _ =>
    .op (.load A.a10 (rP q b).toLoadRect (View.loadsAt_vmem h_S8x128)) fun _ =>
    .op (.store A.a10 (rP q b) (shapeCast S8x128 (mn b) shapeCasts_S8x128_S8x128) Finset.univ (View.stores_vmem_bits_univ h_S8x128 rfl) (.inl rfl)) fun _ =>
    storesK A q mx mn bs k

/-- The array of running maxima with the vectors of the blocks `bs` put in. -/
def putP (q : Fin 2) (mx : Fin 8 → FVec F S8x128 .f32) (bs : List (Fin 8)) (p : S128x128.Idx → Elt F .f32) : S128x128.Idx → Elt F .f32 :=
  bs.foldl (fun p b => (rP q b).overlay p (shapeCast S8x128 (mx b) shapeCasts_S8x128_S8x128)) p

theorem T.stores {q : Fin 2} {mx mn : Fin 8 → FVec F S8x128 .f32} {k : PG F α} (bs : List (Fin 8)) :
    ∀ s : St F, T A k { s with pmx := putP q mx bs s.pmx, pmn := putP q mn bs s.pmn } Q → T A (storesK A q mx mn bs k) s Q := by
  induction bs with
  | nil => intro s h; exact h
  | cons b bs ih =>
    intro s h
    unfold storesK
    exact T.load9 (T.store9 (T.load10 (T.store10 (ih _ h))))

/-- The eight blocks. -/
abbrev blocks : List (Fin 8) := [0, 1, 2, 3, 4, 5, 6, 7]

/-- One half of a part, followed by `k`. -/
def halfK (A : Args) (j : Fin k0_t2_loop.trips) (q : Fin 2) (k : PG F α) : PG F α :=
  tileK A j q 0 fun x0 x1 x2 x3 x4 x5 x6 x7 =>
    tilesK A j q laterTiles (fun b => bfly (vec8 x0 x1 x2 x3 x4 x5 x6 x7) b) (fun b => bfly (vec8 x0 x1 x2 x3 x4 x5 x6 x7) b) fun mx mn =>
      storesK A q mx mn blocks k

/-- What one half of a part does to the buffers. -/
def halfF (j : Fin k0_t2_loop.trips) (q : Fin 2) (s : St F) : St F :=
  { s with u := (halfAcc j q s.u).u, pmx := putP q (halfAcc j q s.u).mx blocks s.pmx, pmn := putP q (halfAcc j q s.u).mn blocks s.pmn }

theorem T.half {j : Fin k0_t2_loop.trips} (q : Fin 2) {k : PG F α} (h : T A k (halfF j q s) Q) : T A (halfK A j q k) s Q := by
  unfold halfK
  refine T.tile q 0 ?_
  exact T.tiles (k := fun mx mn => storesK A q mx mn blocks k) laterTiles (tileInit j q s.u)
    { s with u := putU j q 0 (bfly (tileX j q 0 s.u)) s.u } rfl (T.stores blocks _ h)

end Cert.KernelIdeal.Fold
-- ==== Proof.Stats.lean ====
/- The statistics of a part: from the stored maxima and minima the sixteen groups' scales and zero points, kept for the
   codes and put into the part's rows of the two tables of results. -/
module

public import proofs.«01_k».proof.Proof.Half

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Every eighth row of the running maxima, from row `r`. -/
def ldS (r : Fin 8) : LoadRect S128x128 :=
  ⟨![r.val, 0], S16x128.size, ![8, 1], by
    intro a; right; fin_cases a
    · show r.val + 8 * 15 < 128; omega
    · show 0 + 1 * 127 < 128; omega⟩

/-- The maximum over the eight rows of each of the sixteen groups. -/
def redMx (x : Fin 8 → Vec F S16x128 .f32) : FVec F S16x128 .f32 :=
  maximumf (maximumf (maximumf (maximumf (maximumf (maximumf (maximumf (x 0) (x 1)) (x 2)) (x 3)) (x 4)) (x 5)) (x 6)) (x 7)

/-- The minimum over the eight rows of each of the sixteen groups. -/
def redMn (x : Fin 8 → Vec F S16x128 .f32) : FVec F S16x128 .f32 :=
  minimumf (minimumf (minimumf (minimumf (minimumf (minimumf (minimumf (x 0) (x 1)) (x 2)) (x 3)) (x 4)) (x 5)) (x 6)) (x 7)

/-- The scales: `(mx - mn) / 15`, or `1` where the group is constant. -/
def scaleV (mx mn : FVec F S16x128 .f32) : FVec F S16x128 .f32 :=
  select (cmpf .oeq mx mn) (broadcast S16x128 (Scalar.ofBits .f32 0x3F800000#32))
    (divf (subf mx mn) (broadcast S16x128 (Scalar.ofBits .f32 0x41700000#32)))

/-- The zero points as floats. -/
def zeroV (mn sc : FVec F S16x128 .f32) : FVec F S16x128 .f32 :=
  minimumf (broadcast S16x128 (Scalar.ofBits .f32 0x41700000#32)) (maximumf (broadcast S16x128 (Scalar.ofBits .f32 0x00000000#32))
    (roundeven (divf (subf (broadcast S16x128 (Scalar.ofBits .f32 0x00000000#32)) mn) sc)))

/-- The reciprocals of the scales. -/
def recV (sc : FVec F S16x128 .f32) : FVec F S16x128 .f32 := divf (broadcast S16x128 (Scalar.ofBits .f32 0x3F800000#32)) sc

/-- The zero points plus `128`, as a pair of sixteen-bit float patterns in a word. -/
def zeV (z : FVec F S16x128 .f32) : IVec S16x128 32 :=
  ori (addi (broadcast S16x128 (1124073472#32)) (shli (fptosi 32 (subf (addf z (broadcast S16x128 (Scalar.ofBits .f32 0x43000000#32)))
      (broadcast S16x128 (Scalar.ofBits .f32 0x43000000#32)))) (broadcast S16x128 (16#32))))
    (shrui (addi (broadcast S16x128 (1124073472#32)) (shli (fptosi 32 (subf (addf z (broadcast S16x128 (Scalar.ofBits .f32 0x43000000#32)))
      (broadcast S16x128 (Scalar.ofBits .f32 0x43000000#32)))) (broadcast S16x128 (16#32)))) (broadcast S16x128 (16#32)))

/-- The zero points plus `16`, as a pair of sixteen-bit float patterns in a word. -/
def zoV (z : FVec F S16x128 .f32) : IVec S16x128 32 :=
  ori (addi (broadcast S16x128 (1098907648#32)) (shli (fptosi 32 (subf (addf z (broadcast S16x128 (Scalar.ofBits .f32 0x41800000#32)))
      (broadcast S16x128 (Scalar.ofBits .f32 0x41800000#32)))) (broadcast S16x128 (19#32))))
    (shrui (addi (broadcast S16x128 (1098907648#32)) (shli (fptosi 32 (subf (addf z (broadcast S16x128 (Scalar.ofBits .f32 0x41800000#32)))
      (broadcast S16x128 (Scalar.ofBits .f32 0x41800000#32)))) (broadcast S16x128 (19#32)))) (broadcast S16x128 (16#32)))

/-- The rows of the tables of scales and zero points that half `q` of part `j` fills. -/
def rT (j : Fin k0_t2_loop.trips) (q : Fin 2) : Rect S4x32x128 :=
  ⟨(⟨k0_off11 j (BitVec.ofNat 32 q.val), S1x8x128.size, ![1, 4, 1], k0_off11_inb j q⟩ : LoadRect S4x32x128), spos_1_4_1⟩

/-- A table of scales with half `0`'s and half `1`'s rows put in. -/
def putSc (j : Fin k0_t2_loop.trips) (sc : FVec F S16x128 .f32) (t : S4x32x128.Idx → Elt F .f32) : S4x32x128.Idx → Elt F .f32 :=
  (rT j 1).overlay ((rT j 0).overlay t (shapeCast S1x8x128 (extractStridedSlice S8x128 ![0, 0] sc slices_S16x128_o0_0_S8x128) shapeCasts_S8x128_S1x8x128))
    (shapeCast S1x8x128 (extractStridedSlice S8x128 ![8, 0] sc slices_S16x128_o8_0_S8x128) shapeCasts_S8x128_S1x8x128)

/-- A table of zero points with half `0`'s and half `1`'s rows put in. -/
def putZc (j : Fin k0_t2_loop.trips) (z : FVec F S16x128 .f32) (t : S4x32x128.Idx → Elt F .i32) : S4x32x128.Idx → Elt F .i32 :=
  (rT j 1).overlay ((rT j 0).overlay t
      (shapeCast S1x8x128 (fptosi 32 (extractStridedSlice S8x128 ![0, 0] z slices_S16x128_o0_0_S8x128)) shapeCasts_S8x128_S1x8x128))
    (shapeCast S1x8x128 (fptosi 32 (extractStridedSlice S8x128 ![8, 0] z slices_S16x128_o8_0_S8x128)) shapeCasts_S8x128_S1x8x128)

/-- All sixteen rows of a table of sixteen. -/
abbrev rAll : Rect S16x128 := Rect.unit (s := S16x128) ![0, 0] S16x128.size inb_S16x128_S16x128_0_0

/-- The program after the loads: from the group maxima `mx` and minima `mn`. -/
def statsTail (A : Args) (j : Fin k0_t2_loop.trips) (mx mn : FVec F S16x128 .f32) (k : PG F α) : PG F α :=
  .op (.load A.a11 rAll.toLoadRect (View.loadsAt_vmem h_S16x128)) fun _ =>
  .op (.store A.a11 rAll (shapeCast S16x128 (recV (scaleV mx mn)) shapeCasts_S16x128_S16x128) Finset.univ (View.stores_vmem_bits_univ h_S16x128 rfl) (.inl rfl)) fun _ =>
  .op (.load A.a12 rAll.toLoadRect (View.loadsAt_vmem h_S16x128)) fun _ =>
  .op (.store A.a12 rAll (shapeCast S16x128 (zeV (zeroV mn (scaleV mx mn))) shapeCasts_S16x128_S16x128) Finset.univ (View.stores_vmem_bits_univ h_S16x128 rfl) (.inl rfl)) fun _ =>
  .op (.load A.a13 rAll.toLoadRect (View.loadsAt_vmem h_S16x128)) fun _ =>
  .op (.store A.a13 rAll (shapeCast S16x128 (zoV (zeroV mn (scaleV mx mn))) shapeCasts_S16x128_S16x128) Finset.univ (View.stores_vmem_bits_univ h_S16x128 rfl) (.inl rfl)) fun _ =>
  .op (.load A.a14 (rT j 0).toLoadRect (View.loadsAt_vmem h_S1x8x128)) fun _ =>
  .op (.store A.a14 (rT j 0) (shapeCast S1x8x128 (extractStridedSlice S8x128 ![0, 0] (scaleV mx mn) slices_S16x128_o0_0_S8x128) shapeCasts_S8x128_S1x8x128) Finset.univ (View.stores_vmem_bits_univ h_S1x8x128 rfl) (.inl rfl)) fun _ =>
  .op (.load A.a15 (rT j 0).toLoadRect (View.loadsAt_vmem h_S1x8x128)) fun _ =>
  .op (.store A.a15 (rT j 0) (shapeCast S1x8x128 (fptosi 32 (extractStridedSlice S8x128 ![0, 0] (zeroV mn (scaleV mx mn)) slices_S16x128_o0_0_S8x128)) shapeCasts_S8x128_S1x8x128) Finset.univ (View.stores_vmem_bits_univ h_S1x8x128 rfl) (.inl rfl)) fun _ =>
  .op (.load A.a14 (rT j 1).toLoadRect (View.loadsAt_vmem h_S1x8x128)) fun _ =>
  .op (.store A.a14 (rT j 1) (shapeCast S1x8x128 (extractStridedSlice S8x128 ![8, 0] (scaleV mx mn) slices_S16x128_o8_0_S8x128) shapeCasts_S8x128_S1x8x128) Finset.univ (View.stores_vmem_bits_univ h_S1x8x128 rfl) (.inl rfl)) fun _ =>
  .op (.load A.a15 (rT j 1).toLoadRect (View.loadsAt_vmem h_S1x8x128)) fun _ =>
  .op (.store A.a15 (rT j 1) (shapeCast S1x8x128 (fptosi 32 (extractStridedSlice S8x128 ![8, 0] (zeroV mn (scaleV mx mn)) slices_S16x128_o8_0_S8x128)) shapeCasts_S8x128_S1x8x128) Finset.univ (View.stores_vmem_bits_univ h_S1x8x128 rfl) (.inl rfl)) fun _ =>
  k

/-- Eight loaded vectors as a family. -/
def fam8 (x0 x1 x2 x3 x4 x5 x6 x7 : Vec F S16x128 .f32) : Fin 8 → Vec F S16x128 .f32
  | 0 => x0 | 1 => x1 | 2 => x2 | 3 => x3 | 4 => x4 | 5 => x5 | 6 => x6 | 7 => x7

/-- The statistics' program, followed by `k`. -/
def statsK (A : Args) (j : Fin k0_t2_loop.trips) (k : PG F α) : PG F α :=
  .op (.load A.a9 (ldS 0) (View.loadsAt_vmem h_S16x128)) fun (x0 : Vec F S16x128 .f32) =>
  .op (.load A.a9 (ldS 1) (View.loadsAt_vmem h_S16x128)) fun (x1 : Vec F S16x128 .f32) =>
  .op (.load A.a9 (ldS 2) (View.loadsAt_vmem h_S16x128)) fun (x2 : Vec F S16x128 .f32) =>
  .op (.load A.a9 (ldS 3) (View.loadsAt_vmem h_S16x128)) fun (x3 : Vec F S16x128 .f32) =>
  .op (.load A.a9 (ldS 4) (View.loadsAt_vmem h_S16x128)) fun (x4 : Vec F S16x128 .f32) =>
  .op (.load A.a9 (ldS 5) (View.loadsAt_vmem h_S16x128)) fun (x5 : Vec F S16x128 .f32) =>
  .op (.load A.a9 (ldS 6) (View.loadsAt_vmem h_S16x128)) fun (x6 : Vec F S16x128 .f32) =>
  .op (.load A.a9 (ldS 7) (View.loadsAt_vmem h_S16x128)) fun (x7 : Vec F S16x128 .f32) =>
  .op (.load A.a10 (ldS 0) (View.loadsAt_vmem h_S16x128)) fun (y0 : Vec F S16x128 .f32) =>
  .op (.load A.a10 (ldS 1) (View.loadsAt_vmem h_S16x128)) fun (y1 : Vec F S16x128 .f32) =>
  .op (.load A.a10 (ldS 2) (View.loadsAt_vmem h_S16x128)) fun (y2 : Vec F S16x128 .f32) =>
  .op (.load A.a10 (ldS 3) (View.loadsAt_vmem h_S16x128)) fun (y3 : Vec F S16x128 .f32) =>
  .op (.load A.a10 (ldS 4) (View.loadsAt_vmem h_S16x128)) fun (y4 : Vec F S16x128 .f32) =>
  .op (.load A.a10 (ldS 5) (View.loadsAt_vmem h_S16x128)) fun (y5 : Vec F S16x128 .f32) =>
  .op (.load A.a10 (ldS 6) (View.loadsAt_vmem h_S16x128)) fun (y6 : Vec F S16x128 .f32) =>
  .op (.load A.a10 (ldS 7) (View.loadsAt_vmem h_S16x128)) fun (y7 : Vec F S16x128 .f32) =>
  statsTail A j (redMx (fam8 x0 x1 x2 x3 x4 x5 x6 x7)) (redMn (fam8 y0 y1 y2 y3 y4 y5 y6 y7)) k

/-- The group maxima that the stored running maxima give. -/
def mxOf (p : S128x128.Idx → Elt F .f32) : FVec F S16x128 .f32 :=
  redMx (fam8 (fun x => p ((ldS 0).idx x)) (fun x => p ((ldS 1).idx x)) (fun x => p ((ldS 2).idx x)) (fun x => p ((ldS 3).idx x))
    (fun x => p ((ldS 4).idx x)) (fun x => p ((ldS 5).idx x)) (fun x => p ((ldS 6).idx x)) (fun x => p ((ldS 7).idx x)))

/-- The group minima that the stored running minima give. -/
def mnOf (p : S128x128.Idx → Elt F .f32) : FVec F S16x128 .f32 :=
  redMn (fam8 (fun x => p ((ldS 0).idx x)) (fun x => p ((ldS 1).idx x)) (fun x => p ((ldS 2).idx x)) (fun x => p ((ldS 3).idx x))
    (fun x => p ((ldS 4).idx x)) (fun x => p ((ldS 5).idx x)) (fun x => p ((ldS 6).idx x)) (fun x => p ((ldS 7).idx x)))

/-- What the program after the loads does to the buffers. -/
def statsG (j : Fin k0_t2_loop.trips) (mx mn : FVec F S16x128 .f32) (s : St F) : St F :=
  { s with
    rs := rAll.overlay s.rs (shapeCast S16x128 (recV (scaleV mx mn)) shapeCasts_S16x128_S16x128)
    ze := rAll.overlay s.ze (shapeCast S16x128 (zeV (zeroV mn (scaleV mx mn))) shapeCasts_S16x128_S16x128)
    zo := rAll.overlay s.zo (shapeCast S16x128 (zoV (zeroV mn (scaleV mx mn))) shapeCasts_S16x128_S16x128)
    sct := putSc j (scaleV mx mn) s.sct
    zct := putZc j (zeroV mn (scaleV mx mn)) s.zct }

/-- What the statistics do to the buffers. -/
def statsF (j : Fin k0_t2_loop.trips) (s : St F) : St F := statsG j (mxOf s.pmx) (mnOf s.pmn) s

theorem T.statsTail {j : Fin k0_t2_loop.trips} {mx mn : FVec F S16x128 .f32} {k : PG F α} (h : T A k (statsG j mx mn s) Q) :
    T A (statsTail A j mx mn k) s Q := by
  unfold statsG putSc putZc at h
  unfold Fold.statsTail
  refine T.load11 (T.store11 ?_)
  refine T.load12 (T.store12 ?_)
  refine T.load13 (T.store13 ?_)
  refine T.load14 (T.store14 ?_)
  refine T.load15 (T.store15 ?_)
  refine T.load14 (T.store14 ?_)
  refine T.load15 (T.store15 ?_)
  dsimp only
  exact h

theorem T.stats {j : Fin k0_t2_loop.trips} {k : PG F α} (h : T A k (statsF j s) Q) : T A (statsK A j k) s Q := by
  unfold statsK
  refine T.load9 ?_
  refine T.load9 ?_
  refine T.load9 ?_
  refine T.load9 ?_
  refine T.load9 ?_
  refine T.load9 ?_
  refine T.load9 ?_
  refine T.load9 ?_
  refine T.load10 ?_
  refine T.load10 ?_
  refine T.load10 ?_
  refine T.load10 ?_
  refine T.load10 ?_
  refine T.load10 ?_
  refine T.load10 ?_
  refine T.load10 ?_
  exact T.statsTail h

end Cert.KernelIdeal.Fold
-- ==== Proof.Quant.lean ====
/- The codes of one block in one part: sixteen-row units of the two halves of each group's rows, scaled, rounded,
   shifted by the zero point, clipped and packed two to a byte. -/
module

public import proofs.«01_k».proof.Proof.Stats

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Row `8 q + b` of a table of sixteen. -/
def rR (q : Fin 2) (b : Fin 8) : Rect S16x128 :=
  Rect.unit (s := S16x128) ![8 * q.val + b.val, 0] S1x128.size (by
    intro a; fin_cases a
    · show 8 * q.val + b.val + 1 ≤ 16; omega
    · show 0 + 128 ≤ 128; omega)

/-- Where sixteen rows, `128 q + 64 p + 16 c` on, of a block start, in part `j`'s rows and lanes. -/
def offC (j : Fin k0_t2_loop.trips) (q p : Fin 2) (c : Fin 4) : Fin 8 → Fin 3 → ℕ
  | 0 => k0_off12 j (BitVec.ofNat 32 (128 * q.val)) (BitVec.ofNat 32 (64 * p.val)) (BitVec.ofNat 32 (16 * c.val))
  | 1 => k0_off14 j (BitVec.ofNat 32 (128 * q.val)) (BitVec.ofNat 32 (64 * p.val)) (BitVec.ofNat 32 (16 * c.val))
  | 2 => k0_off15 j (BitVec.ofNat 32 (128 * q.val)) (BitVec.ofNat 32 (64 * p.val)) (BitVec.ofNat 32 (16 * c.val))
  | 3 => k0_off16 j (BitVec.ofNat 32 (128 * q.val)) (BitVec.ofNat 32 (64 * p.val)) (BitVec.ofNat 32 (16 * c.val))
  | 4 => k0_off17 j (BitVec.ofNat 32 (128 * q.val)) (BitVec.ofNat 32 (64 * p.val)) (BitVec.ofNat 32 (16 * c.val))
  | 5 => k0_off18 j (BitVec.ofNat 32 (128 * q.val)) (BitVec.ofNat 32 (64 * p.val)) (BitVec.ofNat 32 (16 * c.val))
  | 6 => k0_off19 j (BitVec.ofNat 32 (128 * q.val)) (BitVec.ofNat 32 (64 * p.val)) (BitVec.ofNat 32 (16 * c.val))
  | 7 => k0_off20 j (BitVec.ofNat 32 (128 * q.val)) (BitVec.ofNat 32 (64 * p.val)) (BitVec.ofNat 32 (16 * c.val))

theorem offC_inb (j : Fin k0_t2_loop.trips) (q p : Fin 2) (c : Fin 4) : ∀ b : Fin 8, ∀ a, offC j q p c b a + S1x16x128.size a ≤ S8x512x512.size a
  | 0 => k0_off12_inb j q p c
  | 1 => k0_off14_inb j q p c
  | 2 => k0_off15_inb j q p c
  | 3 => k0_off16_inb j q p c
  | 4 => k0_off17_inb j q p c
  | 5 => k0_off18_inb j q p c
  | 6 => k0_off19_inb j q p c
  | 7 => k0_off20_inb j q p c

/-- Those rows. -/
def rC (j : Fin k0_t2_loop.trips) (q p : Fin 2) (c : Fin 4) (b : Fin 8) : Rect S8x512x512 :=
  Rect.unit (s := S8x512x512) (offC j q p c b) S1x16x128.size (offC_inb j q p c b)

/-- A loaded row of reciprocals on every row of a unit. -/
def rowR (x : Vec F S1x128 .f32) : FVec F S16x128 .f32 :=
  broadcastTo S16x128 (shapeCast S1x128 x shapeCasts_S1x128_S1x128) broadcasts_S1x128_S16x128

/-- A loaded row of packed zero points on every row of a unit, read as sixteen-bit floats. -/
def rowZ (x : Vec F S1x128 .i32) : FVec F S16x128 .bf16 :=
  bitcastToFloat .bf16 (bitcast S16x128 16 (broadcastTo S8x128 (shapeCast S1x128 x shapeCasts_S1x128_S1x128) broadcasts_S1x128_S8x128)
    bitcasts_S8x128_w32_S16x128_w16)

/-- The codes of a unit, `lo` to `hi` before `lo` is taken off, shifted left by `sh` and put over `base`. -/
def codeV (lo hi sh base : BitVec 16) (x : Vec F S1x16x128 .f32) (r : FVec F S16x128 .f32) (z : FVec F S16x128 .bf16) : IVec S8x128 32 :=
  bitcast S8x128 32 (addi (shli (fptosi 16 (subf (minimumf (maximumf (addf (truncf .bf16 (roundeven (mulf
      (shapeCast S16x128 x shapeCasts_S1x16x128_S16x128) r)) bitsLt_bf16_f32) z) (broadcast S16x128 (Scalar.ofBits .bf16 lo)))
      (broadcast S16x128 (Scalar.ofBits .bf16 hi))) (broadcast S16x128 (Scalar.ofBits .bf16 lo)))) (broadcast S16x128 sh)) (broadcast S16x128 base))
    bitcasts_S16x128_w16_S8x128_w32

/-- The packed codes of one unit from its two loaded halves. -/
def unitV (r : FVec F S16x128 .f32) (ze zo : FVec F S16x128 .bf16) (x y : Vec F S1x16x128 .f32) : IVec S16x128 16 :=
  bitcast S16x128 16 (addi (codeV 0x4300#16 0x430F#16 0#16 17152#16 x r ze)
      (addi (codeV 0x4180#16 0x41F8#16 3#16 16768#16 y r zo) (codeV 0x4180#16 0x41F8#16 3#16 16768#16 y r zo)))
    bitcasts_S8x128_w32_S16x128_w16

/-- The packed codes of one block, transposed into the rows and columns of the result. -/
def outV (t0 t1 t2 t3 t4 t5 t6 t7 : IVec S16x128 16) : IVec S128x128 8 :=
  trunci 8 (transpose S128x128 [1, 0] (concatenate S128x128 0 [⟨S16x128, t0⟩, ⟨S16x128, t1⟩, ⟨S16x128, t2⟩, ⟨S16x128, t3⟩, ⟨S16x128, t4⟩, ⟨S16x128, t5⟩, ⟨S16x128, t6⟩, ⟨S16x128, t7⟩]
    concatenates_S16x128_S16x128_S16x128_S16x128_S16x128_S16x128_S16x128_S16x128_S128x128_d0) transposes_S128x128_p1_0_S128x128) natLt_8_16

/-- Where block `b`'s codes of part `j` go. -/
def rO (j : Fin k0_t2_loop.trips) (b : Fin 8) : Rect S512x2048 :=
  Rect.unit (s := S512x2048) (k0_off13 j (BitVec.ofNat 32 (256 * b.val))) S128x128.size (k0_off13_inb j b)

/-- The two loads of unit `c` in half `q`. -/
def unitK (A : Args) (j : Fin k0_t2_loop.trips) (b : Fin 8) (q : Fin 2) (c : Fin 4) (r : FVec F S16x128 .f32) (ze zo : FVec F S16x128 .bf16)
    (k : IVec S16x128 16 → PG F α) : PG F α :=
  .op (.load A.a8 (rC j q 0 c b).toLoadRect (View.loadsAt_vmem h_S1x16x128)) fun (x : Vec F S1x16x128 .f32) =>
  .op (.load A.a8 (rC j q 1 c b).toLoadRect (View.loadsAt_vmem h_S1x16x128)) fun (y : Vec F S1x16x128 .f32) =>
  k (unitV r ze zo x y)

/-- The four units of half `q`. -/
def halfQK (A : Args) (j : Fin k0_t2_loop.trips) (b : Fin 8) (q : Fin 2) (k : (t0 t1 t2 t3 : IVec S16x128 16) → PG F α) : PG F α :=
  .op (.load A.a11 (rR q b).toLoadRect (View.loadsAt_vmem h_S1x128)) fun (r : Vec F S1x128 .f32) =>
  .op (.load A.a12 (rR q b).toLoadRect (View.loadsAt_vmem h_S1x128)) fun (ze : Vec F S1x128 .i32) =>
  .op (.load A.a13 (rR q b).toLoadRect (View.loadsAt_vmem h_S1x128)) fun (zo : Vec F S1x128 .i32) =>
  unitK A j b q 0 (rowR r) (rowZ ze) (rowZ zo) fun t0 => unitK A j b q 1 (rowR r) (rowZ ze) (rowZ zo) fun t1 =>
  unitK A j b q 2 (rowR r) (rowZ ze) (rowZ zo) fun t2 => unitK A j b q 3 (rowR r) (rowZ ze) (rowZ zo) fun t3 => k t0 t1 t2 t3

/-- The codes of block `b`, followed by `k`. -/
def quantK (A : Args) (j : Fin k0_t2_loop.trips) (b : Fin 8) (k : PG F α) : PG F α :=
  halfQK A j b 0 fun t0 t1 t2 t3 => halfQK A j b 1 fun t4 t5 t6 t7 =>
  .op (.load A.a4 (rO j b).toLoadRect (View.loadsAt_vmem h_S128x128)) fun _ =>
  .op (.store A.a4 (rO j b) (outV t0 t1 t2 t3 t4 t5 t6 t7) Finset.univ
    (View.stores_vmem h_S128x128 (A.h4.storeExact_slice rfl _ (k0_off13_packedi8 j b)) (fun _ => rfl)) (.inl rfl)) fun _ => k

/-- Unit `c` of half `q` of block `b`, from the buffers. -/
def unitOf (j : Fin k0_t2_loop.trips) (b : Fin 8) (q : Fin 2) (c : Fin 4) (s : St F) : IVec S16x128 16 :=
  unitV (rowR (fun x => s.rs ((rR q b).toLoadRect.idx x))) (rowZ (fun x => s.ze ((rR q b).toLoadRect.idx x)))
    (rowZ (fun x => s.zo ((rR q b).toLoadRect.idx x)))
    (fun x => s.u ((rC j q 0 c b).toLoadRect.idx x)) (fun x => s.u ((rC j q 1 c b).toLoadRect.idx x))

/-- What the codes of block `b` do to the buffers. -/
def quantF (j : Fin k0_t2_loop.trips) (b : Fin 8) (s : St F) : St F :=
  { s with codes := (rO j b).overlay s.codes (outV (unitOf j b 0 0 s) (unitOf j b 0 1 s) (unitOf j b 0 2 s) (unitOf j b 0 3 s)
      (unitOf j b 1 0 s) (unitOf j b 1 1 s) (unitOf j b 1 2 s) (unitOf j b 1 3 s)) }

theorem T.halfQ {j : Fin k0_t2_loop.trips} {b : Fin 8} {q : Fin 2} {k : (t0 t1 t2 t3 : IVec S16x128 16) → PG F α}
    (h : T A (k (unitOf j b q 0 s) (unitOf j b q 1 s) (unitOf j b q 2 s) (unitOf j b q 3 s)) s Q) : T A (halfQK A j b q k) s Q := by
  unfold halfQK unitK
  refine T.load11 (T.load12 (T.load13 ?_))
  refine T.load8 (T.load8 ?_)
  refine T.load8 (T.load8 ?_)
  refine T.load8 (T.load8 ?_)
  refine T.load8 (T.load8 ?_)
  exact h

theorem T.quant {j : Fin k0_t2_loop.trips} (b : Fin 8) {k : PG F α} (h : T A k (quantF j b s) Q) : T A (quantK A j b k) s Q := by
  unfold quantK
  refine T.halfQ (T.halfQ ?_)
  exact T.load4 (T.store4 h)

end Cert.KernelIdeal.Fold
-- ==== Proof.Body.lean ====
/- The whole body at one grid point: the signed transform matrix at the first point, the eight products, the eight parts,
   and the two small results. -/
module

public import proofs.«01_k».proof.Proof.Quant

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Columns `512 b` to `+ 512` of the signs. -/
def rS (b : Fin 8) : Rect S1x4096 :=
  Rect.unit (s := S1x4096) ![0, 512 * b.val] S1x512.size (by
    intro a; fin_cases a
    · show 0 + 1 ≤ 1; omega
    · show 512 * b.val + 512 ≤ 4096; omega)

/-- Block `b` of the signed matrix. -/
def rH (b : Fin 8) : Rect S8x512x512 :=
  Rect.unit (s := S8x512x512) ![b.val, 0, 0] S1x512x512.size (by
    intro a; fin_cases a
    · show b.val + 1 ≤ 8; omega
    · show 0 + 512 ≤ 512; omega
    · show 0 + 512 ≤ 512; omega)

theorem rH_packed : ∀ b : Fin 8, (rH b).PackedRows (EltTy.packing .bf16)
  | 0 => packedbf16_S8x512x512_S1x512x512_0_0_0
  | 1 => packedbf16_S8x512x512_S1x512x512_1_0_0
  | 2 => packedbf16_S8x512x512_S1x512x512_2_0_0
  | 3 => packedbf16_S8x512x512_S1x512x512_3_0_0
  | 4 => packedbf16_S8x512x512_S1x512x512_4_0_0
  | 5 => packedbf16_S8x512x512_S1x512x512_5_0_0
  | 6 => packedbf16_S8x512x512_S1x512x512_6_0_0
  | 7 => packedbf16_S8x512x512_S1x512x512_7_0_0

/-- The whole transform matrix. -/
abbrev rM : Rect S512x512 := Rect.unit (s := S512x512) ![0, 0] S512x512.size inb_S512x512_S512x512_0_0

/-- The signed matrix of one block. -/
def signV (g : Vec F S1x512 .f32) (h : Vec F S512x512 .f32) : FVec F S1x512x512 .bf16 :=
  shapeCast S1x512x512 (truncf .bf16 (mulf (shapeCast S512x512 h shapeCasts_S512x512_S512x512)
    (broadcastTo S512x512 (shapeCast S1x512 g shapeCasts_S1x512_S1x512) broadcasts_S1x512_S512x512)) bitsLt_bf16_f32) shapeCasts_S512x512_S1x512x512

/-- The signed matrices of the blocks `bs`, one after the other. -/
def initK (A : Args) : List (Fin 8) → PG F α → PG F α
  | [], k => k
  | b :: bs, k =>
    .op (.load A.a3 (rS b).toLoadRect (View.loadsAt_vmem h_S1x512)) fun (g : Vec F S1x512 .f32) =>
    .op (.load A.a2 rM.toLoadRect (View.loadsAt_vmem h_S512x512)) fun (h : Vec F S512x512 .f32) =>
    .op (.load A.a7 (rH b).toLoadRect (View.loadsAt_vmem h_S1x512x512)) fun _ =>
    .op (.store A.a7 (rH b) (signV g h) Finset.univ
      (View.stores_vmem h_S1x512x512 (A.h7.storeExact_slice rfl _ (rH_packed b)) (fun _ => rfl)) (.inl rfl)) fun _ =>
    initK A bs k

/-- What one block's signed matrix does to the buffers. -/
def initF (s : St F) (b : Fin 8) : St F :=
  { s with hs := (rH b).overlay s.hs (signV (fun x => s.sg ((rS b).toLoadRect.idx x)) (fun x => s.h (rM.toLoadRect.idx x))) }

theorem T.init {k : PG F α} (bs : List (Fin 8)) : ∀ s : St F, T A k (bs.foldl initF s) Q → T A (initK A bs k) s Q := by
  induction bs with
  | nil => intro s h; exact h
  | cons b bs ih =>
    intro s h
    rw [List.foldl_cons] at h
    have h2 := ih _ h
    unfold initK
    refine T.load3 ?_
    refine T.load2 ?_
    refine T.load7 ?_
    refine T.store7 ?_
    unfold initF at h2
    exact h2

/-- Block `k` of the products, and of the weights. -/
abbrev rB (k : Fin k0_t1_loop.trips) : Rect S8x512x512 := Rect.unit (s := S8x512x512) (k0_off1 k) S1x512x512.size (k0_off1_inb k)
abbrev rW (k : Fin k0_t1_loop.trips) : Rect S512x4096 := Rect.unit (s := S512x4096) (k0_off2 k) S512x512.size (k0_off2_inb k)

/-- One block's product. -/
def mmV (h : Vec F S1x512x512 .bf16) (w : Vec F S512x512 .bf16) : FVec F S1x512x512 .f32 :=
  shapeCast S1x512x512 (matmul dot_S512x512_S512x512_S512x512_1_1_0_0_n_n none (shapeCast S512x512 h shapeCasts_S1x512x512_S512x512)
    (shapeCast S512x512 w shapeCasts_S512x512_S512x512) (constant S512x512 .f32 0x00000000#32)) shapeCasts_S512x512_S1x512x512

/-- One block's product, stored. -/
def mmK (A : Args) (j : Fin k0_t1_loop.trips) (k : PG F α) : PG F α :=
  .op (.load A.a7 (rB j).toLoadRect (View.loadsAt_vmem h_S1x512x512)) fun (h : Vec F S1x512x512 .bf16) =>
  .op (.load A.a1 (rW j).toLoadRect (View.loadsAt_vmem h_S512x512)) fun (w : Vec F S512x512 .bf16) =>
  .op (.load A.a8 (rB j).toLoadRect (View.loadsAt_vmem h_S1x512x512)) fun _ =>
  .op (.store A.a8 (rB j) (mmV h w) Finset.univ (View.stores_vmem_bits_univ h_S1x512x512 rfl) (.inl rfl)) fun _ => k

/-- What one block's product does to the buffers. -/
def mmF (s : St F) (j : Fin k0_t1_loop.trips) : St F :=
  { s with u := (rB j).overlay s.u (mmV (fun x => s.hs ((rB j).toLoadRect.idx x)) (fun x => s.w ((rW j).toLoadRect.idx x))) }

theorem T.mm {j : Fin k0_t1_loop.trips} {k : PG F α} (h : T A k (mmF s j) Q) : T A (mmK A j k) s Q := by
  unfold mmK
  refine T.load7 ?_
  refine T.load1 ?_
  refine T.load8 ?_
  refine T.store8 ?_
  unfold mmF at h
  exact h

/-- One part: both halves, the statistics and the codes of the eight blocks. -/
def partF (s : St F) (j : Fin k0_t2_loop.trips) : St F :=
  quantF j 7 (quantF j 6 (quantF j 5 (quantF j 4 (quantF j 3 (quantF j 2 (quantF j 1 (quantF j 0 (statsF j (halfF j 1 (halfF j 0 s))))))))))

/-- Rows `128 l` to `+ 128` of a small result, and plane `l` of a table. -/
def rD (l : Fin 4) : Rect S512x32 :=
  Rect.unit (s := S512x32) ![128 * l.val, 0] S128x32.size (by
    intro a; fin_cases a
    · show 128 * l.val + 128 ≤ 512; omega
    · show 0 + 32 ≤ 32; omega)
def rL (l : Fin 4) : Rect S4x32x128 :=
  Rect.unit (s := S4x32x128) ![l.val, 0, 0] S1x32x128.size (by
    intro a; fin_cases a
    · show l.val + 1 ≤ 4; omega
    · show 0 + 32 ≤ 32; omega
    · show 0 + 128 ≤ 128; omega)

theorem rD_packed : ∀ l : Fin 4, (rD l).PackedRows (EltTy.packing .i8)
  | 0 => packedi8_S512x32_S128x32_0_0
  | 1 => packedi8_S512x32_S128x32_128_0
  | 2 => packedi8_S512x32_S128x32_256_0
  | 3 => packedi8_S512x32_S128x32_384_0

/-- A plane of the table of scales, transposed. -/
def scT (x : Vec F S1x32x128 .f32) : FVec F S128x32 .f32 :=
  transpose S128x32 [1, 0] (shapeCast S32x128 x shapeCasts_S1x32x128_S32x128) transposes_S32x128_p1_0_S128x32
/-- A plane of the table of zero points, transposed and cut to bytes. -/
def zcT (x : Vec F S1x32x128 .i32) : IVec S128x32 8 :=
  trunci 8 (transpose S128x32 [1, 0] (shapeCast S32x128 x shapeCasts_S1x32x128_S32x128) transposes_S32x128_p1_0_S128x32) natLt_8_32

/-- The small results of the planes `ls`. -/
def finK (A : Args) : List (Fin 4) → PG F α → PG F α
  | [], k => k
  | l :: ls, k =>
    .op (.load A.a14 (rL l).toLoadRect (View.loadsAt_vmem h_S1x32x128)) fun (x : Vec F S1x32x128 .f32) =>
    .op (.load A.a5 (rD l).toLoadRect (View.loadsAt_vmem h_S128x32)) fun _ =>
    .op (.store A.a5 (rD l) (scT x) Finset.univ (View.stores_vmem_bits_univ h_S128x32 rfl) (.inl rfl)) fun _ =>
    .op (.load A.a15 (rL l).toLoadRect (View.loadsAt_vmem h_S1x32x128)) fun (z : Vec F S1x32x128 .i32) =>
    .op (.load A.a6 (rD l).toLoadRect (View.loadsAt_vmem h_S128x32)) fun _ =>
    .op (.store A.a6 (rD l) (zcT z) Finset.univ
      (View.stores_vmem h_S128x32 (A.h6.storeExact_slice rfl _ (rD_packed l)) (fun _ => rfl)) (.inl rfl)) fun _ =>
    finK A ls k

/-- What one plane's small results do to the buffers. -/
def finF (s : St F) (l : Fin 4) : St F :=
  { s with
    scales := (rD l).overlay s.scales (scT (fun x => s.sct ((rL l).toLoadRect.idx x)))
    zeros := (rD l).overlay s.zeros (zcT (fun x => s.zct ((rL l).toLoadRect.idx x))) }

theorem T.fin {k : PG F α} (ls : List (Fin 4)) : ∀ s : St F, T A k (ls.foldl finF s) Q → T A (finK A ls k) s Q := by
  induction ls with
  | nil => intro s h; exact h
  | cons b bs ih =>
    intro s h
    rw [List.foldl_cons] at h
    have h2 := ih _ h
    unfold finK
    refine T.load14 (T.load5 (T.store5 (T.load15 (T.load6 (T.store6 ?_)))))
    unfold finF at h2
    exact h2

/-- The planes. -/
abbrev planes : List (Fin 4) := [0, 1, 2, 3]

/-- The condition of the first point. -/
abbrev atFirst (i : grid0.Coords) : Prop :=
  Scalar.cmpi .ne (Scalar.extui (Scalar.cmpi .eq (BitVec.ofNat 32 (i 0).val) 0#32) : BitVec 32) 0#32 = 1#1

/-- The first point's work, done or not. -/
def firstF (i : grid0.Coords) (s : St F) : St F := if atFirst i then blocks.foldl initF s else s

theorem T.first (i : grid0.Coords) {e : PG F α} (h : T A e (firstF i s) Q) :
    T A (if _ : atFirst i then initK A blocks e else e) s Q := by
  unfold firstF at h
  split
  · next hc => rw [if_pos hc] at h; exact T.init blocks _ h
  · next hc => rw [if_neg hc] at h; exact h

theorem T.for1 {body : Fin k0_t1_loop.trips → Unit → PG F Unit} {k : Unit → PG F α}
    (hb : ∀ j a s, T A (body j a) s (fun _ s' => s' = mmF s j)) (h : T A (k ⟨⟩) ((List.finRange k0_t1_loop.trips).foldl mmF s) Q) :
    T A (Scf.Loop.for k0_t1_loop k0_t1_ok ⟨⟩ body >>= k) s Q := by
  unfold Scf.Loop.for
  rw [Scf.for_eq]
  exact T.bind (T.forFrom (fun j s => mmF s j) body hb _ _ _) fun a s' e => by subst e; exact h

theorem T.for2 {body : Fin k0_t2_loop.trips → Unit → PG F Unit} {k : Unit → PG F α}
    (hb : ∀ j a s, T A (body j a) s (fun _ s' => s' = partF s j)) (h : T A (k ⟨⟩) ((List.finRange k0_t2_loop.trips).foldl partF s) Q) :
    T A (Scf.Loop.for k0_t2_loop k0_t2_ok ⟨⟩ body >>= k) s Q := by
  unfold Scf.Loop.for
  rw [Scf.for_eq]
  exact T.bind (T.forFrom (fun j s => partF s j) body hb _ _ _) fun a s' e => by subst e; exact h

/-- The buffers after the eight products and the eight parts. -/
def loopsF (s : St F) : St F := (List.finRange k0_t2_loop.trips).foldl partF ((List.finRange k0_t1_loop.trips).foldl mmF s)

/-- The second plane's scales alone. -/
def halfFin (s : St F) : St F := { s with scales := (rD 1).overlay s.scales (scT (fun x => s.sct ((rL 1).toLoadRect.idx x))) }

/-- What the body does to the buffers. -/
def bodyF (i : grid0.Coords) (s : St F) : St F := planes.foldl finF (loopsF (firstF i s))

set_option maxHeartbeats 1000000 in
theorem T.part164 (i : grid0.Coords) (s : St F) :
    T A (k0_part164 i A.a1 A.h1 A.a2 A.h2 A.a3 A.h3 A.a4 A.h4 A.a5 A.h5 A.a6 A.h6 A.a7 A.h7 A.a8 A.h8 A.a9 A.h9 A.a10 A.h10
      A.a11 A.h11 A.a12 A.h12 A.a13 A.h13 A.a14 A.h14 A.a15 A.h15) s
      (fun v s' => s' = halfFin (finF (loopsF (firstF i s)) 0) ∧ v = zcT (fun x => s'.zct ((rL 1).toLoadRect.idx x))) := by
  unfold k0_part164
  refine T.first i ?_
  refine T.for1 ?_ ?_
  · intro j a s
    refine T.mm ?_
    exact T.ret rfl
  refine T.for2 ?_ ?_
  · intro j a s
    refine T.half (j := j) 0 ?_
    refine T.half (j := j) 1 ?_
    refine T.stats (j := j) ?_
    refine T.quant (j := j) 0 ?_
    refine T.quant (j := j) 1 ?_
    refine T.quant (j := j) 2 ?_
    refine T.quant (j := j) 3 ?_
    refine T.quant (j := j) 4 ?_
    refine T.quant (j := j) 5 ?_
    refine T.quant (j := j) 6 ?_
    refine T.quant (j := j) 7 ?_
    exact T.ret rfl
  refine T.fin [0] _ ?_
  refine T.load14 ?_
  refine T.load5 ?_
  refine T.store5 ?_
  refine T.load15 ?_
  refine T.load6 ?_
  exact T.ret ⟨rfl, rfl⟩

end Cert.KernelIdeal.Fold
-- ==== Proof.BodyRun.lean ====
/- The body's last stores, and the body whole. -/
module

public import proofs.«01_k».proof.Proof.Body

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The second plane's zero points. -/
def zeroK (A : Args) (v : IVec S128x32 8) (k : PG F α) : PG F α :=
    .op (.store A.a6 (rD 1) v Finset.univ
      (View.stores_vmem h_S128x32 (A.h6.storeExact_slice rfl _ (rD_packed 1)) (fun _ => rfl)) (.inl rfl)) fun _ => k

theorem T.zero1 {v : IVec S128x32 8} {k : PG F α} (X : St F)
    (h : T A k { X with zeros := (rD 1).overlay X.zeros v } Q) : T A (zeroK A v k) X Q := T.store6 h

theorem finF_one (X : St F) :
    { halfFin X with zeros := (rD 1).overlay (halfFin X).zeros (zcT (fun x => (halfFin X).zct ((rL 1).toLoadRect.idx x))) } = finF X 1 := by
  unfold halfFin finF
  rfl

theorem bodyF_eq (L : St F) : planes.foldl finF L = [2, 3].foldl finF (finF (finF L 0) 1) := by
  unfold planes
  rw [List.foldl_cons, List.foldl_cons]

theorem T.rest {v : IVec S128x32 8} (L s' : St F) {k : PG F Unit} (hk : k = .ret ⟨⟩)
    (h1 : s' = halfFin (finF L 0)) (h2 : v = zcT (fun x => s'.zct ((rL 1).toLoadRect.idx x))) :
    T A (zeroK A v (finK A [2, 3] k)) s' (fun _ s'' => s'' = planes.foldl finF L) := by
  refine T.zero1 _ ?_
  have e : { s' with zeros := (rD 1).overlay s'.zeros v } = finF (finF L 0) 1 := by
    rw [h2, h1]
    exact finF_one _
  rw [e, bodyF_eq]
  refine T.fin [2, 3] _ ?_
  rw [hk]
  exact T.ret rfl

/-- From any contents of the buffers the body ends with the contents `bodyF` computes. -/
theorem T.body (i : grid0.Coords) (s : St F)  :
    T A (cc0_fold i A.a1 A.h1 A.a2 A.h2 A.a3 A.h3 A.a4 A.h4 A.a5 A.h5 A.a6 A.h6 A.a7 A.h7 A.a8 A.h8 A.a9 A.h9 A.a10 A.h10
      A.a11 A.h11 A.a12 A.h12 A.a13 A.h13 A.a14 A.h14 A.a15 A.h15) s (fun _ s' => s' = bodyF i s) := by
  unfold cc0_fold
  refine T.bind (T.part164 i s) fun v s' h => ?_
  unfold bodyF
  exact T.rest (loopsF (firstF i s)) s' (k := .ret ⟨⟩) rfl h.1 h.2
end Cert.KernelIdeal.Fold
-- ==== Proof.Keep.lean ====
/- What the body leaves alone: the weights, the matrix, the signs, and — after the first point — the signed matrices. -/
module

public import proofs.«01_k».proof.Proof.BodyRun
public import Idealize.ShloMosaic.Lib.Pointwise

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The three inputs are the same. -/
def Same (s s' : St F) : Prop := s'.w = s.w ∧ s'.h = s.h ∧ s'.sg = s.sg

/-- The three inputs and the signed matrices are the same. -/
def Keeps (s s' : St F) : Prop := Same s s' ∧ s'.hs = s.hs

theorem Same.trans {a b c : St F} (h : Same a b) (h' : Same b c) : Same a c :=
  ⟨h'.1.trans h.1, h'.2.1.trans h.2.1, h'.2.2.trans h.2.2⟩

theorem Keeps.trans {a b c : St F} (h : Keeps a b) (h' : Keeps b c) : Keeps a c := ⟨h.1.trans h'.1, h'.2.trans h.2⟩

theorem Keeps.foldl {ι : Type} (f : St F → ι → St F) (hf : ∀ s i, Keeps s (f s i)) : ∀ (l : List ι) (s : St F), Keeps s (l.foldl f s)
  | [], s => ⟨⟨rfl, rfl, rfl⟩, rfl⟩
  | i :: l, s => (hf s i).trans (Keeps.foldl f hf l _)

theorem keeps_mm (s : St F) (j : Fin k0_t1_loop.trips) : Keeps s (mmF s j) := by
  unfold mmF
  exact ⟨⟨rfl, rfl, rfl⟩, rfl⟩
theorem keeps_fin (s : St F) (l : Fin 4) : Keeps s (finF s l) := by
  unfold finF
  exact ⟨⟨rfl, rfl, rfl⟩, rfl⟩
theorem keeps_half (j : Fin k0_t2_loop.trips) (q : Fin 2) (s : St F) : Keeps s (halfF j q s) := by
  unfold halfF
  exact ⟨⟨rfl, rfl, rfl⟩, rfl⟩
theorem keeps_stats (j : Fin k0_t2_loop.trips) (s : St F) : Keeps s (statsF j s) := by
  unfold statsF statsG
  exact ⟨⟨rfl, rfl, rfl⟩, rfl⟩
theorem keeps_quant (j : Fin k0_t2_loop.trips) (b : Fin 8) (s : St F) : Keeps s (quantF j b s) := by
  unfold quantF
  exact ⟨⟨rfl, rfl, rfl⟩, rfl⟩

theorem keeps_part (s : St F) (j : Fin k0_t2_loop.trips) : Keeps s (partF s j) := by
  unfold partF
  exact (keeps_half j 0 s).trans <| (keeps_half j 1 _).trans <| (keeps_stats j _).trans <| (keeps_quant j 0 _).trans <|
    (keeps_quant j 1 _).trans <| (keeps_quant j 2 _).trans <| (keeps_quant j 3 _).trans <| (keeps_quant j 4 _).trans <|
    (keeps_quant j 5 _).trans <| (keeps_quant j 6 _).trans <| keeps_quant j 7 _

/-- What the body does after the first point's work. -/
def restF (s : St F) : St F := planes.foldl finF (loopsF s)

theorem keeps_rest (s : St F) : Keeps s (restF s) := by
  unfold restF loopsF
  exact (Keeps.foldl mmF keeps_mm _ s).trans ((Keeps.foldl partF keeps_part _ _).trans (Keeps.foldl finF keeps_fin _ _))

theorem overlay_unit {s : Shape} {α : Type} (off sz : Fin s.rank → ℕ) (h : ∀ a, off a + sz a ≤ s.size a)
    (G : s.Idx → α) (v : (Rect.unit off sz h).shape.Idx → α) (x : s.Idx) (hx : ∀ a, off a ≤ (x a).val ∧ (x a).val < off a + sz a) :
    (Rect.unit off sz h).overlay G v x
      = v (fun a => ⟨(x a).val - off a, by have := hx a; show (x a).val - off a < sz a; omega⟩) := by
  have e : x = (Rect.unit off sz h).emb (fun a => ⟨(x a).val - off a, by have := hx a; show (x a).val - off a < sz a; omega⟩) := by
    funext a
    apply Fin.ext
    show (x a).val = off a + 1 * ((x a).val - off a)
    have := hx a
    omega
  conv_lhs => rw [e]
  rw [Rect.overlay_emb]

theorem overlay_unit_not {s : Shape} {α : Type} (off sz : Fin s.rank → ℕ) (h : ∀ a, off a + sz a ≤ s.size a)
    (G : s.Idx → α) (v : (Rect.unit off sz h).shape.Idx → α) (x : s.Idx) (a : Fin s.rank)
    (hx : ¬ (off a ≤ (x a).val ∧ (x a).val < off a + sz a)) : (Rect.unit off sz h).overlay G v x = G x := by
  rw [Rect.overlay_of_not_mem]
  intro hm
  obtain ⟨y, hy⟩ := (Rect.unit off sz h).exists_idx_of_mem hm
  apply hx
  have e : (x a).val = off a + 1 * (y a).val := by rw [← hy]; rfl
  have h2 : (y a).val < sz a := (y a).isLt
  omega

/-- The signed matrices, from the matrix and the signs. -/
def hsV (h : S512x512.Idx → Elt F .f32) (sg : S1x4096.Idx → Elt F .f32) : S8x512x512.Idx → Elt F .bf16 := fun x =>
  signV (fun y => sg ((rS (x 0)).toLoadRect.idx y)) (fun y => h (rM.toLoadRect.idx y)) (ix3 0 (x 1) (x 2))

theorem init_same (bs : List (Fin 8)) : ∀ s : St F, Same s (bs.foldl initF s) := by
  induction bs with
  | nil => intro s; exact ⟨rfl, rfl, rfl⟩
  | cons b bs ih =>
    intro s
    rw [List.foldl_cons]
    have h1 : Same s (initF s b) := by unfold initF; exact ⟨rfl, rfl, rfl⟩
    exact h1.trans (ih _)

/-- The cells of the block `b` after block `b`'s work. -/
theorem initF_hs (s : St F) (b c : Fin 8) (r k : Fin 512) :
    (initF s b).hs (ix3 c r k) = if c = b then hsV s.h s.sg (ix3 c r k) else s.hs (ix3 c r k) := by
  unfold initF rH
  dsimp only
  by_cases hx : c = b
  · rw [if_pos hx]
    subst hx
    rw [overlay_unit]
    · unfold hsV
      congr 1
      funext a
      apply Fin.ext
      fin_cases a
      · show c.val - c.val = 0; omega
      · show r.val - 0 = r.val; omega
      · show k.val - 0 = k.val; omega
    · intro a
      fin_cases a
      · show c.val ≤ c.val ∧ c.val < c.val + 1; omega
      · show 0 ≤ r.val ∧ r.val < 0 + 512; omega
      · show 0 ≤ k.val ∧ k.val < 0 + 512; omega
  · rw [if_neg hx, overlay_unit_not (a := (0 : Fin 3))]
    show ¬ (b.val ≤ c.val ∧ c.val < b.val + 1)
    omega

theorem init_hs (bs : List (Fin 8)) : ∀ (s : St F) (c : Fin 8) (r k : Fin 512),
    (bs.foldl initF s).hs (ix3 c r k) = if c ∈ bs then hsV s.h s.sg (ix3 c r k) else s.hs (ix3 c r k) := by
  induction bs with
  | nil => intro s c r k; simp
  | cons b bs ih =>
    intro s c r k
    rw [List.foldl_cons, ih, initF_hs]
    have e : hsV (initF s b).h (initF s b).sg (ix3 c r k) = hsV s.h s.sg (ix3 c r k) := by unfold initF; rfl
    rw [e]
    by_cases h1 : c ∈ bs
    · rw [if_pos h1, if_pos (List.mem_cons_of_mem _ h1)]
    · rw [if_neg h1]
      by_cases h2 : c = b
      · rw [if_pos h2, if_pos (by rw [h2]; exact List.mem_cons_self)]
      · rw [if_neg h2, if_neg (by simp [h1, h2])]

theorem mem_blocks : ∀ b : Fin 8, b ∈ blocks := by decide

/-- The first point's work leaves the signed matrices of its inputs, whatever was there. -/
theorem first_hs (s : St F) : (blocks.foldl initF s).hs = hsV s.h s.sg := by
  funext x
  idx_vars x
  rw [init_hs, if_pos (mem_blocks _)]

theorem first_same (i : grid0.Coords) (s : St F) : Same s (firstF i s) := by
  unfold firstF
  split
  · exact init_same _ s
  · exact ⟨rfl, rfl, rfl⟩

end Cert.KernelIdeal.Fold
-- ==== Proof.Launch.lean ====
/- The launch: every grid point leaves in the three results' blocks what the body computes from the point's block of weights and
   the signed matrices, and the arguments are unchanged. -/
module

public import proofs.«01_k».proof.Proof.Keep
public import proofs.«01_k».proof.Proof.Gen.KernelIdeal.Frame
public import Idealize.ShloMosaic.Lib.Pipeline.ArrRel

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem

open Gen
open Idealize.ShloMosaic.Pipeline (RDat)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _

/-- Core `c`'s signed matrices: of the matrix and the signs the first point finds. -/
def hsAt (c : Dev nD) : S8x512x512.Idx → Elt F .bf16 := hsV (iblk m c 1 ⟨0, by decide⟩) (iblk m c 2 ⟨0, by decide⟩)

/-- The invariant between points: the scratch buffers, the signed matrices in the first of them after the first point. -/
def inv (c : Dev nD) (t : Fin (cfg0.N + 1)) : sProp 𝕄 :=
  iprop(∃ (x7 : S8x512x512.Idx → Elt F .bf16) (x8 : S8x512x512.Idx → Elt F .f32) (x9 x10 : S128x128.Idx → Elt F .f32) (x11 : S16x128.Idx → Elt F .f32)
      (x12 x13 : S16x128.Idx → Elt F .i32) (x14 : S4x32x128.Idx → Elt F .f32) (x15 : S4x32x128.Idx → Elt F .i32),
    ⌜t.val ≠ 0 → x7 = hsAt m c⌝
    ∗ owns (c : Thread nD τ) (Memref.whole cc0_scratch0) fullShare x7 ∗ owns (c : Thread nD τ) (Memref.whole cc0_scratch1) fullShare x8
    ∗ owns (c : Thread nD τ) (Memref.whole cc0_scratch2) fullShare x9 ∗ owns (c : Thread nD τ) (Memref.whole cc0_scratch3) fullShare x10
    ∗ owns (c : Thread nD τ) (Memref.whole cc0_scratch4) fullShare x11 ∗ owns (c : Thread nD τ) (Memref.whole cc0_scratch5) fullShare x12
    ∗ owns (c : Thread nD τ) (Memref.whole cc0_scratch6) fullShare x13 ∗ owns (c : Thread nD τ) (Memref.whole cc0_scratch7) fullShare x14
    ∗ owns (c : Thread nD τ) (Memref.whole cc0_scratch8) fullShare x15 ∗ ∃ r, prngReg c r)

/-- What a point starts from after the first point's work. -/
def Starts (c : Dev nD) (t : Fin cfg0.N) (s : St F) : Prop := s.w = iblk m c 0 t ∧ s.hs = hsAt m c

/-- What the body may leave in each window's buffer at a point. -/
def afterR (c : Dev nD) : (w : Fin cfg0.W) → Fin cfg0.N → (Y X : (cfg0.win w).block.Idx → Elt F (cfg0.win w).elt) → Prop
  | 0, _ => fun Y X => X = Y
  | 1, _ => fun Y X => X = Y
  | 2, _ => fun Y X => X = Y
  | 3, t => fun _ X => ∃ s : St F, Starts m c t s ∧ X = (restF s).codes
  | 4, t => fun _ X => ∃ s : St F, Starts m c t s ∧ X = (restF s).scales
  | 5, t => fun _ X => ∃ s : St F, Starts m c t s ∧ X = (restF s).zeros
  | ⟨_ + 6, h⟩, _ => absurd h (by show ¬ (_ + 6 < 6); omega)

/-- The launch's data on core `c`. -/
def rdat (c : Dev nD) : RDat τ (Elt F) Unit ℕ (UR sig nD τ) ℕ cfg0 c where
  A w := V m c (Pipeline.arrRef spec0 w)
  after := afterR m c
  Φ := inv m c
  q _ := fullShare
  owed _ := 0

theorem first_iff : ∀ t : Fin grid0.N, atFirst (grid0.coords t) ↔ t.val = 0 := by decide

theorem iblk1 (c : Dev nD) (t t' : Fin cfg0.N) : iblk m c 1 t = iblk m c 1 t' := rfl
theorem iblk2 (c : Dev nD) (t t' : Fin cfg0.N) : iblk m c 2 t = iblk m c 2 t' := rfl

theorem inv_in (c : Dev nD) : Pipeline.ΦA spec0 c ⊢ inv m c 0 := by
  unfold Pipeline.ΦA inv
  rw [scopedRest0_eq]
  simp only [owns_whole]
  iintro ⟨⟨⟨%a, H1⟩, ⟨%b, H2⟩, ⟨%d, H3⟩, ⟨%e, H4⟩, ⟨%f, H5⟩, ⟨%g, H6⟩, ⟨%h, H7⟩, ⟨%i, H8⟩, ⟨%k, H9⟩⟩, Hr⟩
  iexists a, b, d, e, f, g, h, i, k
  isplitr
  · ipureintro; intro h; exact absurd rfl h
  iframe

theorem inv_out (c : Dev nD) (t) : inv m c t ⊢ Pipeline.ΦA spec0 c := by
  unfold Pipeline.ΦA inv
  rw [scopedRest0_eq]
  simp only [owns_whole]
  iintro ⟨%a, %b, %d, %e, %f, %g, %h, %i, %k, %hx, H1, H2, H3, H4, H5, H6, H7, H8, H9, Hr⟩
  isplitr [Hr]
  · isplitl [H1]; · iexists a; iexact H1
    isplitl [H2]; · iexists b; iexact H2
    isplitl [H3]; · iexists d; iexact H3
    isplitl [H4]; · iexists e; iexact H4
    isplitl [H5]; · iexists f; iexact H5
    isplitl [H6]; · iexists g; iexact H6
    isplitl [H7]; · iexists h; iexact H7
    isplitl [H8]; · iexists i; iexact H8
    iexists k; iexact H9
  iexact Hr

theorem finds0 (c : Dev nD) (t : Fin cfg0.N) (Y) (h : (rdat m c).Finds 0 t Y) : Y = iblk m c 0 t := by
  obtain ⟨d, hd⟩ := RDat.finds_in_eq_fetched (rd := rdat m c) 0 rfl (fun _ _ _ => rfl) (fun _ _ _ h => h) t Y h
  exact hd
theorem finds1 (c : Dev nD) (t : Fin cfg0.N) (Y) (h : (rdat m c).Finds 1 t Y) : Y = iblk m c 1 t := by
  obtain ⟨d, hd⟩ := RDat.finds_in_eq_fetched (rd := rdat m c) 1 rfl (fun _ _ _ => rfl) (fun _ _ _ h => h) t Y h
  exact hd
theorem finds2 (c : Dev nD) (t : Fin cfg0.N) (Y) (h : (rdat m c).Finds 2 t Y) : Y = iblk m c 2 t := by
  obtain ⟨d, hd⟩ := RDat.finds_in_eq_fetched (rd := rdat m c) 2 rfl (fun _ _ _ => rfl) (fun _ _ _ h => h) t Y h
  exact hd

theorem defs₀_row (t : Fin cfg0.N) : defs₀ (F := F) .tc cfg0.body (cfg0.bodyArgs t (cfg0.slots t)) = bodyAt0 t := by
  unfold defs₀; rw [Defs.onTc_tc]

/-- What the first point's work, done or not, leaves for the rest of the point. -/
theorem starts (c : Dev nD) (t : Fin cfg0.N) (s : St F) (hw : s.w = iblk m c 0 t) (hh : s.h = iblk m c 1 t) (hs : s.sg = iblk m c 2 t)
    (h7 : t.val ≠ 0 → s.hs = hsAt m c) : Starts m c t (firstF (grid0.coords t) s) := by
  refine ⟨(first_same _ s).1.trans hw, ?_⟩
  unfold firstF
  by_cases h0 : t.val = 0
  · rw [if_pos ((first_iff t).mpr h0), first_hs, hh, hs, hsAt, iblk1 m c t ⟨0, by decide⟩, iblk2 m c t ⟨0, by decide⟩]
  · rw [if_neg (fun h => h0 ((first_iff t).mp h))]
    exact h7 h0

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  rw [show (rdat m c).Φ t.castSucc = inv m c t.castSucc from rfl, show (rdat m c).Φ t.succ = inv m c t.succ from rfl,
    show (rdat m c).owesAt () t.succ = (rdat m c).owesAt () t.castSucc from rfl]
  unfold inv
  iintro ⟨⟨%x7, %x8, %x9, %x10, %x11, %x12, %x13, %x14, %x15, %hx, H7, H8, H9, H10, H11, H12, H13, H14, H15, Hr⟩, HO, H1, H2, H3, H4, H5, H6⟩
  have hx' : t.val ≠ 0 → x7 = hsAt m c := hx
  have hb := T.body (A := argsAt t) (grid0.coords t) (⟨Y 0, Y 1, Y 2, Y 3, Y 4, Y 5, x7, x8, x9, x10, x11, x12, x13, x14, x15⟩ : St F)
    Variants.none c none Set.univ
  have hst := starts m c t (⟨Y 0, Y 1, Y 2, Y 3, Y 4, Y 5, x7, x8, x9, x10, x11, x12, x13, x14, x15⟩ : St F) e0 e1 e2 hx'
  have hsame := first_same (grid0.coords t) (⟨Y 0, Y 1, Y 2, Y 3, Y 4, Y 5, x7, x8, x9, x10, x11, x12, x13, x14, x15⟩ : St F)
  generalize hs1 : firstF (grid0.coords t) (⟨Y 0, Y 1, Y 2, Y 3, Y 4, Y 5, x7, x8, x9, x10, x11, x12, x13, x14, x15⟩ : St F) = s1 at hst hsame
  have hkeep := keeps_rest s1
  have hbody : bodyF (grid0.coords t) (⟨Y 0, Y 1, Y 2, Y 3, Y 4, Y 5, x7, x8, x9, x10, x11, x12, x13, x14, x15⟩ : St F) = restF s1 := by
    unfold bodyF restF; rw [hs1]
  rw [hbody] at hb
  iapply (wp_wand_r _ _ _)
  isplitl [H1 H2 H3 H4 H5 H6 H7 H8 H9 H10 H11 H12 H13 H14 H15]
  · iapply hb
    unfold own argsAt
    iframe
  iintro %a ⟨%s', %hs', HB⟩
  subst hs'
  unfold own argsAt
  icases HB with ⟨H1, H2, H3, H4, H5, H6, H7, H8, H9, H10, H11, H12, H13, H14, H15⟩
  isplitl [H7 H8 H9 H10 H11 H12 H13 H14 H15 Hr]
  · iexists (restF s1).hs, (restF s1).u, (restF s1).pmx, (restF s1).pmn, (restF s1).rs, (restF s1).ze, (restF s1).zo, (restF s1).sct, (restF s1).zct
    isplitr
    · ipureintro; intro _; exact hkeep.2.trans hst.2
    iframe
  isplitl [HO]
  · iexact HO
  isplitl [H1]
  · iexists (restF s1).w; isplitr
    · ipureintro; exact hkeep.1.1.trans hsame.1
    · iexact H1
  isplitl [H2]
  · iexists (restF s1).h; isplitr
    · ipureintro; exact hkeep.1.2.1.trans hsame.2.1
    · iexact H2
  isplitl [H3]
  · iexists (restF s1).sg; isplitr
    · ipureintro; exact hkeep.1.2.2.trans hsame.2.2
    · iexact H3
  isplitl [H4]
  · iexists (restF s1).codes; isplitr
    · ipureintro; exact ⟨s1, hst, rfl⟩
    · iexact H4
  isplitl [H5]
  · iexists (restF s1).scales; isplitr
    · ipureintro; exact ⟨s1, hst, rfl⟩
    · iexact H5
  · iexists (restF s1).zeros; isplitr
    · ipureintro; exact ⟨s1, hst, rfl⟩
    · iexact H6

/-- The run: the three results are written block by block, everything else is as launched, and no semaphore is left up. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs 0 launch0 defs₀ Variants.none (rdat m) m ρ main (body_obligation m)
    (fun c w => by unfold RDat.share; split <;> rfl) (fun _ _ => rfl) (V m) (hmain m Variants.none) (fun _ _ => rfl) (inv_in m)
    (fun c => inv_out m c _) (hQ' := fun _ h => h)

theorem final_arg0 {r : PUnit × MemSt nD τ sig (Elt F)} (h : Pipeline.RDat.FramePost (cfgs 0) (rdat m) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem final_arg1 {r : PUnit × MemSt nD τ sig (Elt F)} (h : Pipeline.RDat.FramePost (cfgs 0) (rdat m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

end Cert.KernelIdeal.Fold
-- ==== Proof.Bits.Step.lean ====
/- The kernel body's buffers as a record of plain functions, and what it is for a program over them to run:
   from the buffers at one record it ends, and the record it ends at has a stated property. One rule for a
   load, one for a store, one for a return and one for a counted loop. -/
module

public import proofs.«01_k».proof.Proof.Gen.Kernel.Frame

@[expose] public section

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A program of the TensorCore. -/
abbrev PG (F : FTy → Type) [FloatOps F] (α : Type) := Prog (TpuEff nD τ sig (Elt F) Λ₀ .tc) α

/-- The fifteen buffers the body is called with, each a whole buffer. -/
structure Args where
  a1 : Memref sig .tc .vmem S512x4096 .bf16
  h1 : a1.IsWhole
  a2 : Memref sig .tc .vmem S512x512 .f32
  h2 : a2.IsWhole
  a3 : Memref sig .tc .vmem S1x4096 .f32
  h3 : a3.IsWhole
  a4 : Memref sig .tc .vmem S512x2048 .i8
  h4 : a4.IsWhole
  a5 : Memref sig .tc .vmem S512x32 .f32
  h5 : a5.IsWhole
  a6 : Memref sig .tc .vmem S512x32 .i8
  h6 : a6.IsWhole
  a7 : Memref sig .tc .vmem S8x512x512 .bf16
  h7 : a7.IsWhole
  a8 : Memref sig .tc .vmem S8x512x512 .f32
  h8 : a8.IsWhole
  a9 : Memref sig .tc .vmem S128x128 .f32
  h9 : a9.IsWhole
  a10 : Memref sig .tc .vmem S128x128 .f32
  h10 : a10.IsWhole
  a11 : Memref sig .tc .vmem S16x128 .f32
  h11 : a11.IsWhole
  a12 : Memref sig .tc .vmem S16x128 .i32
  h12 : a12.IsWhole
  a13 : Memref sig .tc .vmem S16x128 .i32
  h13 : a13.IsWhole
  a14 : Memref sig .tc .vmem S4x32x128 .f32
  h14 : a14.IsWhole
  a15 : Memref sig .tc .vmem S4x32x128 .i32
  h15 : a15.IsWhole

/-- What the fifteen buffers read. -/
@[ext] structure St (F : FTy → Type) where
  w : S512x4096.Idx → Elt F .bf16
  h : S512x512.Idx → Elt F .f32
  sg : S1x4096.Idx → Elt F .f32
  codes : S512x2048.Idx → Elt F .i8
  scales : S512x32.Idx → Elt F .f32
  zeros : S512x32.Idx → Elt F .i8
  hs : S8x512x512.Idx → Elt F .bf16
  u : S8x512x512.Idx → Elt F .f32
  pmx : S128x128.Idx → Elt F .f32
  pmn : S128x128.Idx → Elt F .f32
  rs : S16x128.Idx → Elt F .f32
  ze : S16x128.Idx → Elt F .i32
  zo : S16x128.Idx → Elt F .i32
  sct : S4x32x128.Idx → Elt F .f32
  zct : S4x32x128.Idx → Elt F .i32

/-- Core `c` holds the fifteen buffers, reading `s`. -/
def own (c : Dev nD) (A : Args) (s : St F) : sProp 𝕄 :=
  iprop(owns (c : Thread nD τ) A.a1 fullShare s.w ∗ owns (c : Thread nD τ) A.a2 fullShare s.h ∗ owns (c : Thread nD τ) A.a3 fullShare s.sg
    ∗ owns (c : Thread nD τ) A.a4 fullShare s.codes ∗ owns (c : Thread nD τ) A.a5 fullShare s.scales ∗ owns (c : Thread nD τ) A.a6 fullShare s.zeros
    ∗ owns (c : Thread nD τ) A.a7 fullShare s.hs ∗ owns (c : Thread nD τ) A.a8 fullShare s.u
    ∗ owns (c : Thread nD τ) A.a9 fullShare s.pmx ∗ owns (c : Thread nD τ) A.a10 fullShare s.pmn
    ∗ owns (c : Thread nD τ) A.a11 fullShare s.rs ∗ owns (c : Thread nD τ) A.a12 fullShare s.ze ∗ owns (c : Thread nD τ) A.a13 fullShare s.zo
    ∗ owns (c : Thread nD τ) A.a14 fullShare s.sct ∗ owns (c : Thread nD τ) A.a15 fullShare s.zct)

/-- From the buffers at `s` the program `p` runs, faults nowhere, and ends with a value and buffers of which `Q` holds. -/
def T (A : Args) {α : Type} (p : PG F α) (s : St F) (Q : α → St F → Prop) : Prop :=
  ∀ (𝒱 : Variants) (c : Dev nD) (bd : Option 𝒱.V) (E : Set ℕ),
    own c A s ⊢ wp frame (wpE (defs₀ (F := F)) 𝒱 (c : Thread nD τ) bd) E p (fun a => iprop(∃ s', ⌜Q a s'⌝ ∗ own c A s'))

variable {A : Args} {α : Type} {s : St F} {Q : α → St F → Prop}

theorem T.ret {a : α} (h : Q a s) : T A (.ret a : PG F α) s Q := by
  intro 𝒱 c bd E
  refine BIBase.Entails.trans ?_ (le_wp_ret _ _ _ a _)
  iintro H
  iexists s
  isplitr
  · ipureintro; exact h
  · iexact H

theorem T.mono {p : PG F α} {Q' : α → St F → Prop} (h : T A p s Q) (hq : ∀ a s', Q a s' → Q' a s') : T A p s Q' := by
  intro 𝒱 c bd E
  refine (h 𝒱 c bd E).trans (wp_mono _ _ _ fun a => ?_)
  iintro ⟨%s', %hQ, H⟩
  iexists s'
  isplitr
  · ipureintro; exact hq _ _ hQ
  · iexact H

theorem T.bind {β : Type} {p : PG F β} {k : β → PG F α} {R : β → St F → Prop} (h : T A p s R)
    (hk : ∀ b s', R b s' → T A (k b) s' Q) : T A (p >>= k) s Q := by
  intro 𝒱 c bd E
  rw [wp_bind]
  refine (h 𝒱 c bd E).trans (wp_mono _ _ _ fun b => ?_)
  iintro ⟨%s', %hR, H⟩
  iapply (hk b s' hR 𝒱 c bd E)
  iexact H

theorem T.load {cs : CoreSpace} {sh : Shape} {e : EltTy} {m : Memref sig .tc cs sh e} {r : LoadRect sh} {hl : m.view.LoadsAt r}
    {k : (r.shape.Idx → Elt F e) → PG F α} {X : sh.Idx → Elt F e}
    (ho : ∀ c : Dev nD, (own c A s : sProp 𝕄) ⊢ iprop(owns (c : Thread nD τ) m fullShare X ∗ (owns (c : Thread nD τ) m fullShare X -∗ own c A s)))
    (h : T A (k (fun x => X (r.idx x))) s Q) : T A (.op (.load m r hl) k) s Q := by
  intro 𝒱 c bd E
  refine (ho c).trans ?_
  unfold owns
  iintro ⟨⟨%f, %hf, H⟩, W⟩
  iapply (wp_load (defs := defs₀ (F := F)) 𝒱 (c : Thread nD τ) bd E (m := m) (r := r) (hl := hl) (f := f) (View.setOn_subset_set _ _)) $$ H
  iintro H
  have e1 : m.view.readAt (Elt F) r f = fun x => X (r.idx x) := by subst hf; rfl
  rw [e1]
  iapply (h 𝒱 c bd E)
  iapply W
  iexists f
  isplitr
  · ipureintro; exact hf
  · iexact H

theorem T.store {cs : CoreSpace} {sh : Shape} {e : EltTy} {m : Memref sig .tc cs sh e} {r : Rect sh} {w : r.shape.Idx → Elt F e}
    {hx : (m.access r).Stores Finset.univ} {hm : (Finset.univ : Finset r.shape.Idx) = Finset.univ ∨ ∀ a, r.stride a = 1}
    {k : PUnit → PG F α} {X : sh.Idx → Elt F e} {s' : (sh.Idx → Elt F e) → St F}
    (ho : ∀ (c : Dev nD) (Y : sh.Idx → Elt F e), (own c A s : sProp 𝕄)
      ⊢ iprop(owns (c : Thread nD τ) m fullShare X ∗ (owns (c : Thread nD τ) m fullShare Y -∗ own c A (s' Y))))
    (h : T A (k ⟨⟩) (s' (r.overlay X w)) Q) : T A (.op (.store m r w Finset.univ hx hm) k) s Q := by
  intro 𝒱 c bd E
  refine (ho c (r.overlay X w)).trans ?_
  unfold owns
  iintro ⟨⟨%f, %hf, H⟩, W⟩
  iapply (wp_store (defs := defs₀ (F := F)) 𝒱 (c : Thread nD τ) bd E (m := m) (r := r) (w := w) (hx := hx) (hm := hm) (f := f)
    (S := m.view.set) (Memref.setOn_access_subset m r _)) $$ H
  iintro H
  iapply (h 𝒱 c bd E)
  iapply W
  iexists (m.access r).write (Elt F) f w Finset.univ
  isplitr
  · ipureintro
    subst hf
    funext y
    by_cases hy : y ∈ r.set
    · obtain ⟨x, rfl⟩ := r.exists_idx_of_mem hy
      exact (View.read_writes_cons_emb m.view f r w [] x).trans (Rect.overlay_emb r _ w x).symm
    · rw [Rect.overlay_of_not_mem _ _ _ hy]
      exact View.read_writes_cons_miss m.view f ⟨r, w⟩ [] y hy
  · iexact H

/-! One rule per buffer that the body loads from or stores to. -/

theorem T.load1 {r : LoadRect S512x4096} {hl : A.a1.view.LoadsAt r} {k : (r.shape.Idx → Elt F .bf16) → PG F α}
    (h : T A (k (fun x => s.w (r.idx x))) s Q) : T A (.op (.load A.a1 r hl) k) s Q := by
  refine T.load (fun c => ?_) h
  unfold own
  iintro ⟨H1, H2, H3, H4, H5, H6, H7, H8, H9, H10, H11, H12, H13, H14, H15⟩
  isplitl [H1]
  · iexact H1
  iintro H1
  iframe

theorem T.load2 {r : LoadRect S512x512} {hl : A.a2.view.LoadsAt r} {k : (r.shape.Idx → Elt F .f32) → PG F α}
    (h : T A (k (fun x => s.h (r.idx x))) s Q) : T A (.op (.load A.a2 r hl) k) s Q := by
  refine T.load (fun c => ?_) h
  unfold own
  iintro ⟨H1, H2, H3, H4, H5, H6, H7, H8, H9, H10, H11, H12, H13, H14, H15⟩
  isplitl [H2]
  · iexact H2
  iintro H2
  iframe

theorem T.load3 {r : LoadRect S1x4096} {hl : A.a3.view.LoadsAt r} {k : (r.shape.Idx → Elt F .f32) → PG F α}
    (h : T A (k (fun x => s.sg (r.idx x))) s Q) : T A (.op (.load A.a3 r hl) k) s Q := by
  refine T.load (fun c => ?_) h
  unfold own
  iintro ⟨H1, H2, H3, H4, H5, H6, H7, H8, H9, H10, H11, H12, H13, H14, H15⟩
  isplitl [H3]
  · iexact H3
  iintro H3
  iframe

theorem T.load4 {r : LoadRect S512x2048} {hl : A.a4.view.LoadsAt r} {k : (r.shape.Idx → Elt F .i8) → PG F α}
    (h : T A (k (fun x => s.codes (r.idx x))) s Q) : T A (.op (.load A.a4 r hl) k) s Q := by
  refine T.load (fun c => ?_) h
  unfold own
  iintro ⟨H1, H2, H3, H4, H5, H6, H7, H8, H9, H10, H11, H12, H13, H14, H15⟩
  isplitl [H4]
  · iexact H4
  iintro H4
  iframe

theorem T.store4 {r : Rect S512x2048} {w : r.shape.Idx → Elt F .i8}
    {hx : (A.a4.access r).Stores Finset.univ} {hm : (Finset.univ : Finset r.shape.Idx) = Finset.univ ∨ ∀ a, r.stride a = 1}
    {k : PUnit → PG F α} (h : T A (k ⟨⟩) { s with codes := r.overlay s.codes w } Q) : T A (.op (.store A.a4 r w Finset.univ hx hm) k) s Q := by
  refine T.store (s' := fun Y => { s with codes := Y }) (fun c Y => ?_) h
  unfold own
  iintro ⟨H1, H2, H3, H4, H5, H6, H7, H8, H9, H10, H11, H12, H13, H14, H15⟩
  isplitl [H4]
  · iexact H4
  iintro H4
  iframe

theorem T.load5 {r : LoadRect S512x32} {hl : A.a5.view.LoadsAt r} {k : (r.shape.Idx → Elt F .f32) → PG F α}
    (h : T A (k (fun x => s.scales (r.idx x))) s Q) : T A (.op (.load A.a5 r hl) k) s Q := by
  refine T.load (fun c => ?_) h
  unfold own
  iintro ⟨H1, H2, H3, H4, H5, H6, H7, H8, H9, H10, H11, H12, H13, H14, H15⟩
  isplitl [H5]
  · iexact H5
  iintro H5
  iframe

theorem T.store5 {r : Rect S512x32} {w : r.shape.Idx → Elt F .f32}
    {hx : (A.a5.access r).Stores Finset.univ} {hm : (Finset.univ : Finset r.shape.Idx) = Finset.univ ∨ ∀ a, r.stride a = 1}
    {k : PUnit → PG F α} (h : T A (k ⟨⟩) { s with scales := r.overlay s.scales w } Q) : T A (.op (.store A.a5 r w Finset.univ hx hm) k) s Q := by
  refine T.store (s' := fun Y => { s with scales := Y }) (fun c Y => ?_) h
  unfold own
  iintro ⟨H1, H2, H3, H4, H5, H6, H7, H8, H9, H10, H11, H12, H13, H14, H15⟩
  isplitl [H5]
  · iexact H5
  iintro H5
  iframe

theorem T.load6 {r : LoadRect S512x32} {hl : A.a6.view.LoadsAt r} {k : (r.shape.Idx → Elt F .i8) → PG F α}
    (h : T A (k (fun x => s.zeros (r.idx x))) s Q) : T A (.op (.load A.a6 r hl) k) s Q := by
  refine T.load (fun c => ?_) h
  unfold own
  iintro ⟨H1, H2, H3, H4, H5, H6, H7, H8, H9, H10, H11, H12, H13, H14, H15⟩
  isplitl [H6]
  · iexact H6
  iintro H6
  iframe

theorem T.store6 {r : Rect S512x32} {w : r.shape.Idx → Elt F .i8}
    {hx : (A.a6.access r).Stores Finset.univ} {hm : (Finset.univ : Finset r.shape.Idx) = Finset.univ ∨ ∀ a, r.stride a = 1}
    {k : PUnit → PG F α} (h : T A (k ⟨⟩) { s with zeros := r.overlay s.zeros w } Q) : T A (.op (.store A.a6 r w Finset.univ hx hm) k) s Q := by
  refine T.store (s' := fun Y => { s with zeros := Y }) (fun c Y => ?_) h
  unfold own
  iintro ⟨H1, H2, H3, H4, H5, H6, H7, H8, H9, H10, H11, H12, H13, H14, H15⟩
  isplitl [H6]
  · iexact H6
  iintro H6
  iframe

theorem T.load7 {r : LoadRect S8x512x512} {hl : A.a7.view.LoadsAt r} {k : (r.shape.Idx → Elt F .bf16) → PG F α}
    (h : T A (k (fun x => s.hs (r.idx x))) s Q) : T A (.op (.load A.a7 r hl) k) s Q := by
  refine T.load (fun c => ?_) h
  unfold own
  iintro ⟨H1, H2, H3, H4, H5, H6, H7, H8, H9, H10, H11, H12, H13, H14, H15⟩
  isplitl [H7]
  · iexact H7
  iintro H7
  iframe

theorem T.store7 {r : Rect S8x512x512} {w : r.shape.Idx → Elt F .bf16}
    {hx : (A.a7.access r).Stores Finset.univ} {hm : (Finset.univ : Finset r.shape.Idx) = Finset.univ ∨ ∀ a, r.stride a = 1}
    {k : PUnit → PG F α} (h : T A (k ⟨⟩) { s with hs := r.overlay s.hs w } Q) : T A (.op (.store A.a7 r w Finset.univ hx hm) k) s Q := by
  refine T.store (s' := fun Y => { s with hs := Y }) (fun c Y => ?_) h
  unfold own
  iintro ⟨H1, H2, H3, H4, H5, H6, H7, H8, H9, H10, H11, H12, H13, H14, H15⟩
  isplitl [H7]
  · iexact H7
  iintro H7
  iframe

theorem T.load8 {r : LoadRect S8x512x512} {hl : A.a8.view.LoadsAt r} {k : (r.shape.Idx → Elt F .f32) → PG F α}
    (h : T A (k (fun x => s.u (r.idx x))) s Q) : T A (.op (.load A.a8 r hl) k) s Q := by
  refine T.load (fun c => ?_) h
  unfold own
  iintro ⟨H1, H2, H3, H4, H5, H6, H7, H8, H9, H10, H11, H12, H13, H14, H15⟩
  isplitl [H8]
  · iexact H8
  iintro H8
  iframe

theorem T.store8 {r : Rect S8x512x512} {w : r.shape.Idx → Elt F .f32}
    {hx : (A.a8.access r).Stores Finset.univ} {hm : (Finset.univ : Finset r.shape.Idx) = Finset.univ ∨ ∀ a, r.stride a = 1}
    {k : PUnit → PG F α} (h : T A (k ⟨⟩) { s with u := r.overlay s.u w } Q) : T A (.op (.store A.a8 r w Finset.univ hx hm) k) s Q := by
  refine T.store (s' := fun Y => { s with u := Y }) (fun c Y => ?_) h
  unfold own
  iintro ⟨H1, H2, H3, H4, H5, H6, H7, H8, H9, H10, H11, H12, H13, H14, H15⟩
  isplitl [H8]
  · iexact H8
  iintro H8
  iframe

theorem T.load9 {r : LoadRect S128x128} {hl : A.a9.view.LoadsAt r} {k : (r.shape.Idx → Elt F .f32) → PG F α}
    (h : T A (k (fun x => s.pmx (r.idx x))) s Q) : T A (.op (.load A.a9 r hl) k) s Q := by
  refine T.load (fun c => ?_) h
  unfold own
  iintro ⟨H1, H2, H3, H4, H5, H6, H7, H8, H9, H10, H11, H12, H13, H14, H15⟩
  isplitl [H9]
  · iexact H9
  iintro H9
  iframe

theorem T.store9 {r : Rect S128x128} {w : r.shape.Idx → Elt F .f32}
    {hx : (A.a9.access r).Stores Finset.univ} {hm : (Finset.univ : Finset r.shape.Idx) = Finset.univ ∨ ∀ a, r.stride a = 1}
    {k : PUnit → PG F α} (h : T A (k ⟨⟩) { s with pmx := r.overlay s.pmx w } Q) : T A (.op (.store A.a9 r w Finset.univ hx hm) k) s Q := by
  refine T.store (s' := fun Y => { s with pmx := Y }) (fun c Y => ?_) h
  unfold own
  iintro ⟨H1, H2, H3, H4, H5, H6, H7, H8, H9, H10, H11, H12, H13, H14, H15⟩
  isplitl [H9]
  · iexact H9
  iintro H9
  iframe

theorem T.load10 {r : LoadRect S128x128} {hl : A.a10.view.LoadsAt r} {k : (r.shape.Idx → Elt F .f32) → PG F α}
    (h : T A (k (fun x => s.pmn (r.idx x))) s Q) : T A (.op (.load A.a10 r hl) k) s Q := by
  refine T.load (fun c => ?_) h
  unfold own
  iintro ⟨H1, H2, H3, H4, H5, H6, H7, H8, H9, H10, H11, H12, H13, H14, H15⟩
  isplitl [H10]
  · iexact H10
  iintro H10
  iframe

theorem T.store10 {r : Rect S128x128} {w : r.shape.Idx → Elt F .f32}
    {hx : (A.a10.access r).Stores Finset.univ} {hm : (Finset.univ : Finset r.shape.Idx) = Finset.univ ∨ ∀ a, r.stride a = 1}
    {k : PUnit → PG F α} (h : T A (k ⟨⟩) { s with pmn := r.overlay s.pmn w } Q) : T A (.op (.store A.a10 r w Finset.univ hx hm) k) s Q := by
  refine T.store (s' := fun Y => { s with pmn := Y }) (fun c Y => ?_) h
  unfold own
  iintro ⟨H1, H2, H3, H4, H5, H6, H7, H8, H9, H10, H11, H12, H13, H14, H15⟩
  isplitl [H10]
  · iexact H10
  iintro H10
  iframe

theorem T.load11 {r : LoadRect S16x128} {hl : A.a11.view.LoadsAt r} {k : (r.shape.Idx → Elt F .f32) → PG F α}
    (h : T A (k (fun x => s.rs (r.idx x))) s Q) : T A (.op (.load A.a11 r hl) k) s Q := by
  refine T.load (fun c => ?_) h
  unfold own
  iintro ⟨H1, H2, H3, H4, H5, H6, H7, H8, H9, H10, H11, H12, H13, H14, H15⟩
  isplitl [H11]
  · iexact H11
  iintro H11
  iframe

theorem T.store11 {r : Rect S16x128} {w : r.shape.Idx → Elt F .f32}
    {hx : (A.a11.access r).Stores Finset.univ} {hm : (Finset.univ : Finset r.shape.Idx) = Finset.univ ∨ ∀ a, r.stride a = 1}
    {k : PUnit → PG F α} (h : T A (k ⟨⟩) { s with rs := r.overlay s.rs w } Q) : T A (.op (.store A.a11 r w Finset.univ hx hm) k) s Q := by
  refine T.store (s' := fun Y => { s with rs := Y }) (fun c Y => ?_) h
  unfold own
  iintro ⟨H1, H2, H3, H4, H5, H6, H7, H8, H9, H10, H11, H12, H13, H14, H15⟩
  isplitl [H11]
  · iexact H11
  iintro H11
  iframe

theorem T.load12 {r : LoadRect S16x128} {hl : A.a12.view.LoadsAt r} {k : (r.shape.Idx → Elt F .i32) → PG F α}
    (h : T A (k (fun x => s.ze (r.idx x))) s Q) : T A (.op (.load A.a12 r hl) k) s Q := by
  refine T.load (fun c => ?_) h
  unfold own
  iintro ⟨H1, H2, H3, H4, H5, H6, H7, H8, H9, H10, H11, H12, H13, H14, H15⟩
  isplitl [H12]
  · iexact H12
  iintro H12
  iframe

theorem T.store12 {r : Rect S16x128} {w : r.shape.Idx → Elt F .i32}
    {hx : (A.a12.access r).Stores Finset.univ} {hm : (Finset.univ : Finset r.shape.Idx) = Finset.univ ∨ ∀ a, r.stride a = 1}
    {k : PUnit → PG F α} (h : T A (k ⟨⟩) { s with ze := r.overlay s.ze w } Q) : T A (.op (.store A.a12 r w Finset.univ hx hm) k) s Q := by
  refine T.store (s' := fun Y => { s with ze := Y }) (fun c Y => ?_) h
  unfold own
  iintro ⟨H1, H2, H3, H4, H5, H6, H7, H8, H9, H10, H11, H12, H13, H14, H15⟩
  isplitl [H12]
  · iexact H12
  iintro H12
  iframe

theorem T.load13 {r : LoadRect S16x128} {hl : A.a13.view.LoadsAt r} {k : (r.shape.Idx → Elt F .i32) → PG F α}
    (h : T A (k (fun x => s.zo (r.idx x))) s Q) : T A (.op (.load A.a13 r hl) k) s Q := by
  refine T.load (fun c => ?_) h
  unfold own
  iintro ⟨H1, H2, H3, H4, H5, H6, H7, H8, H9, H10, H11, H12, H13, H14, H15⟩
  isplitl [H13]
  · iexact H13
  iintro H13
  iframe

theorem T.store13 {r : Rect S16x128} {w : r.shape.Idx → Elt F .i32}
    {hx : (A.a13.access r).Stores Finset.univ} {hm : (Finset.univ : Finset r.shape.Idx) = Finset.univ ∨ ∀ a, r.stride a = 1}
    {k : PUnit → PG F α} (h : T A (k ⟨⟩) { s with zo := r.overlay s.zo w } Q) : T A (.op (.store A.a13 r w Finset.univ hx hm) k) s Q := by
  refine T.store (s' := fun Y => { s with zo := Y }) (fun c Y => ?_) h
  unfold own
  iintro ⟨H1, H2, H3, H4, H5, H6, H7, H8, H9, H10, H11, H12, H13, H14, H15⟩
  isplitl [H13]
  · iexact H13
  iintro H13
  iframe

theorem T.load14 {r : LoadRect S4x32x128} {hl : A.a14.view.LoadsAt r} {k : (r.shape.Idx → Elt F .f32) → PG F α}
    (h : T A (k (fun x => s.sct (r.idx x))) s Q) : T A (.op (.load A.a14 r hl) k) s Q := by
  refine T.load (fun c => ?_) h
  unfold own
  iintro ⟨H1, H2, H3, H4, H5, H6, H7, H8, H9, H10, H11, H12, H13, H14, H15⟩
  isplitl [H14]
  · iexact H14
  iintro H14
  iframe

theorem T.store14 {r : Rect S4x32x128} {w : r.shape.Idx → Elt F .f32}
    {hx : (A.a14.access r).Stores Finset.univ} {hm : (Finset.univ : Finset r.shape.Idx) = Finset.univ ∨ ∀ a, r.stride a = 1}
    {k : PUnit → PG F α} (h : T A (k ⟨⟩) { s with sct := r.overlay s.sct w } Q) : T A (.op (.store A.a14 r w Finset.univ hx hm) k) s Q := by
  refine T.store (s' := fun Y => { s with sct := Y }) (fun c Y => ?_) h
  unfold own
  iintro ⟨H1, H2, H3, H4, H5, H6, H7, H8, H9, H10, H11, H12, H13, H14, H15⟩
  isplitl [H14]
  · iexact H14
  iintro H14
  iframe

theorem T.load15 {r : LoadRect S4x32x128} {hl : A.a15.view.LoadsAt r} {k : (r.shape.Idx → Elt F .i32) → PG F α}
    (h : T A (k (fun x => s.zct (r.idx x))) s Q) : T A (.op (.load A.a15 r hl) k) s Q := by
  refine T.load (fun c => ?_) h
  unfold own
  iintro ⟨H1, H2, H3, H4, H5, H6, H7, H8, H9, H10, H11, H12, H13, H14, H15⟩
  isplitl [H15]
  · iexact H15
  iintro H15
  iframe

theorem T.store15 {r : Rect S4x32x128} {w : r.shape.Idx → Elt F .i32}
    {hx : (A.a15.access r).Stores Finset.univ} {hm : (Finset.univ : Finset r.shape.Idx) = Finset.univ ∨ ∀ a, r.stride a = 1}
    {k : PUnit → PG F α} (h : T A (k ⟨⟩) { s with zct := r.overlay s.zct w } Q) : T A (.op (.store A.a15 r w Finset.univ hx hm) k) s Q := by
  refine T.store (s' := fun Y => { s with zct := Y }) (fun c Y => ?_) h
  unfold own
  iintro ⟨H1, H2, H3, H4, H5, H6, H7, H8, H9, H10, H11, H12, H13, H14, H15⟩
  isplitl [H15]
  · iexact H15
  iintro H15
  iframe

/-- A counted loop whose trip `k` takes a record `s` to `f k s` takes the record through all the trips in order. -/
theorem T.forFrom {n : ℕ} {σ : Type} (f : Fin n → St F → St F) (body : Fin n → σ → PG F σ)
    (hb : ∀ k a s, T A (body k a) s (fun _ s' => s' = f k s)) :
    ∀ (l : List (Fin n)) (a : σ) (s : St F), T A (Scf.forFrom body l a) s (fun _ s' => s' = l.foldl (fun s k => f k s) s)
  | [], a, s => T.ret rfl
  | k :: l, a, s => by
      rw [Scf.forFrom_cons]
      exact T.bind (hb k a s) fun b s' h => by subst h; exact T.forFrom f body hb l b _

end Cert.Kernel.Fold

end
-- ==== Proof.Bits.Tile.lean ====
/- One tile of the last three levels of the transform: the same eight rows of the eight blocks are loaded, put
   through an eight-point butterfly and stored back in place. -/
module

public import proofs.«01_k».proof.Proof.Bits.Step

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The eight-point butterfly, in the body's order of additions. -/
def bfly (x : Fin 8 → FVec F S8x128 .f32) : Fin 8 → FVec F S8x128 .f32
  | 0 => addf (addf (addf (x 0) (x 1)) (addf (x 2) (x 3))) (addf (addf (x 4) (x 5)) (addf (x 6) (x 7)))
  | 1 => addf (addf (subf (x 0) (x 1)) (subf (x 2) (x 3))) (addf (subf (x 4) (x 5)) (subf (x 6) (x 7)))
  | 2 => addf (subf (addf (x 0) (x 1)) (addf (x 2) (x 3))) (subf (addf (x 4) (x 5)) (addf (x 6) (x 7)))
  | 3 => addf (subf (subf (x 0) (x 1)) (subf (x 2) (x 3))) (subf (subf (x 4) (x 5)) (subf (x 6) (x 7)))
  | 4 => subf (addf (addf (x 0) (x 1)) (addf (x 2) (x 3))) (addf (addf (x 4) (x 5)) (addf (x 6) (x 7)))
  | 5 => subf (addf (subf (x 0) (x 1)) (subf (x 2) (x 3))) (addf (subf (x 4) (x 5)) (subf (x 6) (x 7)))
  | 6 => subf (subf (addf (x 0) (x 1)) (addf (x 2) (x 3))) (subf (addf (x 4) (x 5)) (addf (x 6) (x 7)))
  | 7 => subf (subf (subf (x 0) (x 1)) (subf (x 2) (x 3))) (subf (subf (x 4) (x 5)) (subf (x 6) (x 7)))

/-- Rows `128 q + 8 t` to `+ 8` of block `b`, in part `j`'s rows and lanes. -/
def rU (j : Fin k0_t2_loop.trips) (q : Fin 2) (t : Fin 16) : Fin 8 → Rect S8x512x512
  | 0 => Rect.unit (s := S8x512x512) (k0_off3 j (BitVec.ofNat 32 (128 * q.val)) (BitVec.ofNat 32 (8 * t.val))) S1x8x128.size (k0_off3_inb j q t)
  | 1 => Rect.unit (s := S8x512x512) (k0_off4 j (BitVec.ofNat 32 (128 * q.val)) (BitVec.ofNat 32 (8 * t.val))) S1x8x128.size (k0_off4_inb j q t)
  | 2 => Rect.unit (s := S8x512x512) (k0_off5 j (BitVec.ofNat 32 (128 * q.val)) (BitVec.ofNat 32 (8 * t.val))) S1x8x128.size (k0_off5_inb j q t)
  | 3 => Rect.unit (s := S8x512x512) (k0_off6 j (BitVec.ofNat 32 (128 * q.val)) (BitVec.ofNat 32 (8 * t.val))) S1x8x128.size (k0_off6_inb j q t)
  | 4 => Rect.unit (s := S8x512x512) (k0_off7 j (BitVec.ofNat 32 (128 * q.val)) (BitVec.ofNat 32 (8 * t.val))) S1x8x128.size (k0_off7_inb j q t)
  | 5 => Rect.unit (s := S8x512x512) (k0_off8 j (BitVec.ofNat 32 (128 * q.val)) (BitVec.ofNat 32 (8 * t.val))) S1x8x128.size (k0_off8_inb j q t)
  | 6 => Rect.unit (s := S8x512x512) (k0_off9 j (BitVec.ofNat 32 (128 * q.val)) (BitVec.ofNat 32 (8 * t.val))) S1x8x128.size (k0_off9_inb j q t)
  | 7 => Rect.unit (s := S8x512x512) (k0_off10 j (BitVec.ofNat 32 (128 * q.val)) (BitVec.ofNat 32 (8 * t.val))) S1x8x128.size (k0_off10_inb j q t)

/-- Eight loaded tiles as a family of `8 × 128` vectors. -/
def vec8 (x0 x1 x2 x3 x4 x5 x6 x7 : Vec F S1x8x128 .f32) : Fin 8 → FVec F S8x128 .f32
  | 0 => shapeCast S8x128 x0 shapeCasts_S1x8x128_S8x128
  | 1 => shapeCast S8x128 x1 shapeCasts_S1x8x128_S8x128
  | 2 => shapeCast S8x128 x2 shapeCasts_S1x8x128_S8x128
  | 3 => shapeCast S8x128 x3 shapeCasts_S1x8x128_S8x128
  | 4 => shapeCast S8x128 x4 shapeCasts_S1x8x128_S8x128
  | 5 => shapeCast S8x128 x5 shapeCasts_S1x8x128_S8x128
  | 6 => shapeCast S8x128 x6 shapeCasts_S1x8x128_S8x128
  | 7 => shapeCast S8x128 x7 shapeCasts_S1x8x128_S8x128

/-- Block `b`'s tile of the array `u`. -/
def tileX (j : Fin k0_t2_loop.trips) (q : Fin 2) (t : Fin 16) (u : S8x512x512.Idx → Elt F .f32) : Fin 8 → FVec F S8x128 .f32 :=
  vec8 (fun x => u ((rU j q t 0).toLoadRect.idx x)) (fun x => u ((rU j q t 1).toLoadRect.idx x))
    (fun x => u ((rU j q t 2).toLoadRect.idx x)) (fun x => u ((rU j q t 3).toLoadRect.idx x))
    (fun x => u ((rU j q t 4).toLoadRect.idx x)) (fun x => u ((rU j q t 5).toLoadRect.idx x))
    (fun x => u ((rU j q t 6).toLoadRect.idx x)) (fun x => u ((rU j q t 7).toLoadRect.idx x))

/-- The eight blocks with the tile replaced by `y`. -/
def putU (j : Fin k0_t2_loop.trips) (q : Fin 2) (t : Fin 16) (y : Fin 8 → FVec F S8x128 .f32) (u : S8x512x512.Idx → Elt F .f32) :
    S8x512x512.Idx → Elt F .f32 :=
  (rU j q t 7).overlay ((rU j q t 6).overlay ((rU j q t 5).overlay ((rU j q t 4).overlay ((rU j q t 3).overlay ((rU j q t 2).overlay
    ((rU j q t 1).overlay ((rU j q t 0).overlay u
    (shapeCast S1x8x128 (y 0) shapeCasts_S8x128_S1x8x128)) (shapeCast S1x8x128 (y 1) shapeCasts_S8x128_S1x8x128))
    (shapeCast S1x8x128 (y 2) shapeCasts_S8x128_S1x8x128)) (shapeCast S1x8x128 (y 3) shapeCasts_S8x128_S1x8x128))
    (shapeCast S1x8x128 (y 4) shapeCasts_S8x128_S1x8x128)) (shapeCast S1x8x128 (y 5) shapeCasts_S8x128_S1x8x128))
    (shapeCast S1x8x128 (y 6) shapeCasts_S8x128_S1x8x128)) (shapeCast S1x8x128 (y 7) shapeCasts_S8x128_S1x8x128)

/-- The tile's program, followed by `k` of the eight loaded vectors. -/
def tileK (A : Args) (j : Fin k0_t2_loop.trips) (q : Fin 2) (t : Fin 16)
    (k : (x0 x1 x2 x3 x4 x5 x6 x7 : Vec F S1x8x128 .f32) → PG F α) : PG F α :=
  .op (.load A.a8 (rU j q t 0).toLoadRect (View.loadsAt_vmem h_S1x8x128)) fun (x0 : Vec F S1x8x128 .f32) =>
  .op (.load A.a8 (rU j q t 1).toLoadRect (View.loadsAt_vmem h_S1x8x128)) fun (x1 : Vec F S1x8x128 .f32) =>
  .op (.load A.a8 (rU j q t 2).toLoadRect (View.loadsAt_vmem h_S1x8x128)) fun (x2 : Vec F S1x8x128 .f32) =>
  .op (.load A.a8 (rU j q t 3).toLoadRect (View.loadsAt_vmem h_S1x8x128)) fun (x3 : Vec F S1x8x128 .f32) =>
  .op (.load A.a8 (rU j q t 4).toLoadRect (View.loadsAt_vmem h_S1x8x128)) fun (x4 : Vec F S1x8x128 .f32) =>
  .op (.load A.a8 (rU j q t 5).toLoadRect (View.loadsAt_vmem h_S1x8x128)) fun (x5 : Vec F S1x8x128 .f32) =>
  .op (.load A.a8 (rU j q t 6).toLoadRect (View.loadsAt_vmem h_S1x8x128)) fun (x6 : Vec F S1x8x128 .f32) =>
  .op (.load A.a8 (rU j q t 7).toLoadRect (View.loadsAt_vmem h_S1x8x128)) fun (x7 : Vec F S1x8x128 .f32) =>
  let a0 : FVec F S8x128 .f32 := shapeCast S8x128 x0 shapeCasts_S1x8x128_S8x128
  let a1 : FVec F S8x128 .f32 := shapeCast S8x128 x1 shapeCasts_S1x8x128_S8x128
  let a2 : FVec F S8x128 .f32 := shapeCast S8x128 x2 shapeCasts_S1x8x128_S8x128
  let a3 : FVec F S8x128 .f32 := shapeCast S8x128 x3 shapeCasts_S1x8x128_S8x128
  let a4 : FVec F S8x128 .f32 := shapeCast S8x128 x4 shapeCasts_S1x8x128_S8x128
  let a5 : FVec F S8x128 .f32 := shapeCast S8x128 x5 shapeCasts_S1x8x128_S8x128
  let a6 : FVec F S8x128 .f32 := shapeCast S8x128 x6 shapeCasts_S1x8x128_S8x128
  let a7 : FVec F S8x128 .f32 := shapeCast S8x128 x7 shapeCasts_S1x8x128_S8x128
  .op (.load A.a8 (rU j q t 0).toLoadRect (View.loadsAt_vmem h_S1x8x128)) fun _ =>
  .op (.store A.a8 (rU j q t 0) (shapeCast S1x8x128 (addf (addf (addf a0 a1) (addf a2 a3)) (addf (addf a4 a5) (addf a6 a7))) shapeCasts_S8x128_S1x8x128) Finset.univ (View.stores_vmem_bits_univ h_S1x8x128 rfl) (.inl rfl)) fun _ =>
  .op (.load A.a8 (rU j q t 1).toLoadRect (View.loadsAt_vmem h_S1x8x128)) fun _ =>
  .op (.store A.a8 (rU j q t 1) (shapeCast S1x8x128 (addf (addf (subf a0 a1) (subf a2 a3)) (addf (subf a4 a5) (subf a6 a7))) shapeCasts_S8x128_S1x8x128) Finset.univ (View.stores_vmem_bits_univ h_S1x8x128 rfl) (.inl rfl)) fun _ =>
  .op (.load A.a8 (rU j q t 2).toLoadRect (View.loadsAt_vmem h_S1x8x128)) fun _ =>
  .op (.store A.a8 (rU j q t 2) (shapeCast S1x8x128 (addf (subf (addf a0 a1) (addf a2 a3)) (subf (addf a4 a5) (addf a6 a7))) shapeCasts_S8x128_S1x8x128) Finset.univ (View.stores_vmem_bits_univ h_S1x8x128 rfl) (.inl rfl)) fun _ =>
  .op (.load A.a8 (rU j q t 3).toLoadRect (View.loadsAt_vmem h_S1x8x128)) fun _ =>
  .op (.store A.a8 (rU j q t 3) (shapeCast S1x8x128 (addf (subf (subf a0 a1) (subf a2 a3)) (subf (subf a4 a5) (subf a6 a7))) shapeCasts_S8x128_S1x8x128) Finset.univ (View.stores_vmem_bits_univ h_S1x8x128 rfl) (.inl rfl)) fun _ =>
  .op (.load A.a8 (rU j q t 4).toLoadRect (View.loadsAt_vmem h_S1x8x128)) fun _ =>
  .op (.store A.a8 (rU j q t 4) (shapeCast S1x8x128 (subf (addf (addf a0 a1) (addf a2 a3)) (addf (addf a4 a5) (addf a6 a7))) shapeCasts_S8x128_S1x8x128) Finset.univ (View.stores_vmem_bits_univ h_S1x8x128 rfl) (.inl rfl)) fun _ =>
  .op (.load A.a8 (rU j q t 5).toLoadRect (View.loadsAt_vmem h_S1x8x128)) fun _ =>
  .op (.store A.a8 (rU j q t 5) (shapeCast S1x8x128 (subf (addf (subf a0 a1) (subf a2 a3)) (addf (subf a4 a5) (subf a6 a7))) shapeCasts_S8x128_S1x8x128) Finset.univ (View.stores_vmem_bits_univ h_S1x8x128 rfl) (.inl rfl)) fun _ =>
  .op (.load A.a8 (rU j q t 6).toLoadRect (View.loadsAt_vmem h_S1x8x128)) fun _ =>
  .op (.store A.a8 (rU j q t 6) (shapeCast S1x8x128 (subf (subf (addf a0 a1) (addf a2 a3)) (subf (addf a4 a5) (addf a6 a7))) shapeCasts_S8x128_S1x8x128) Finset.univ (View.stores_vmem_bits_univ h_S1x8x128 rfl) (.inl rfl)) fun _ =>
  .op (.load A.a8 (rU j q t 7).toLoadRect (View.loadsAt_vmem h_S1x8x128)) fun _ =>
  .op (.store A.a8 (rU j q t 7) (shapeCast S1x8x128 (subf (subf (subf a0 a1) (subf a2 a3)) (subf (subf a4 a5) (subf a6 a7))) shapeCasts_S8x128_S1x8x128) Finset.univ (View.stores_vmem_bits_univ h_S1x8x128 rfl) (.inl rfl)) fun _ =>
  k x0 x1 x2 x3 x4 x5 x6 x7

/-- What the tile's program runs to. -/
theorem T.tile {j : Fin k0_t2_loop.trips} (q : Fin 2) (t : Fin 16) {k : (x0 x1 x2 x3 x4 x5 x6 x7 : Vec F S1x8x128 .f32) → PG F α}
    (h : T A (k (fun x => s.u ((rU j q t 0).toLoadRect.idx x)) (fun x => s.u ((rU j q t 1).toLoadRect.idx x))
        (fun x => s.u ((rU j q t 2).toLoadRect.idx x)) (fun x => s.u ((rU j q t 3).toLoadRect.idx x))
        (fun x => s.u ((rU j q t 4).toLoadRect.idx x)) (fun x => s.u ((rU j q t 5).toLoadRect.idx x))
        (fun x => s.u ((rU j q t 6).toLoadRect.idx x)) (fun x => s.u ((rU j q t 7).toLoadRect.idx x)))
      { s with u := putU j q t (bfly (tileX j q t s.u)) s.u } Q) :
    T A (tileK A j q t k) s Q := by
  unfold putU at h
  dsimp only [bfly, tileX, vec8] at h
  unfold tileK
  refine T.load8 ?_
  refine T.load8 ?_
  refine T.load8 ?_
  refine T.load8 ?_
  refine T.load8 ?_
  refine T.load8 ?_
  refine T.load8 ?_
  refine T.load8 ?_
  refine T.load8 (T.store8 ?_)
  refine T.load8 (T.store8 ?_)
  refine T.load8 (T.store8 ?_)
  refine T.load8 (T.store8 ?_)
  refine T.load8 (T.store8 ?_)
  refine T.load8 (T.store8 ?_)
  refine T.load8 (T.store8 ?_)
  refine T.load8 (T.store8 ?_)
  dsimp only
  exact h

end Cert.Kernel.Fold
-- ==== Proof.Bits.Half.lean ====
/- One half of a part: sixteen tiles in turn, with a running maximum and minimum per block, which are stored at the end. -/
module

public import proofs.«01_k».proof.Proof.Bits.Tile

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The tiles of `ts` in turn, the running maximum and minimum of each block handed on. -/
def tilesK (A : Args) (j : Fin k0_t2_loop.trips) (q : Fin 2) : List (Fin 16) → (mx mn : Fin 8 → FVec F S8x128 .f32) →
    ((mx mn : Fin 8 → FVec F S8x128 .f32) → PG F α) → PG F α
  | [], mx, mn, k => k mx mn
  | t :: ts, mx, mn, k => tileK A j q t fun x0 x1 x2 x3 x4 x5 x6 x7 =>
      tilesK A j q ts (fun b => maximumf (mx b) (bfly (vec8 x0 x1 x2 x3 x4 x5 x6 x7) b))
        (fun b => minimumf (mn b) (bfly (vec8 x0 x1 x2 x3 x4 x5 x6 x7) b)) k

/-- The blocks, with each block's running maximum and minimum. -/
structure Acc (F : FTy → Type) where
  u : S8x512x512.Idx → Elt F .f32
  mx : Fin 8 → FVec F S8x128 .f32
  mn : Fin 8 → FVec F S8x128 .f32

/-- One more tile. -/
def tileStep (j : Fin k0_t2_loop.trips) (q : Fin 2) (a : Acc F) (t : Fin 16) : Acc F where
  u := putU j q t (bfly (tileX j q t a.u)) a.u
  mx b := maximumf (a.mx b) (bfly (tileX j q t a.u) b)
  mn b := minimumf (a.mn b) (bfly (tileX j q t a.u) b)

/-- The first tile. -/
def tileInit (j : Fin k0_t2_loop.trips) (q : Fin 2) (u : S8x512x512.Idx → Elt F .f32) : Acc F where
  u := putU j q 0 (bfly (tileX j q 0 u)) u
  mx b := bfly (tileX j q 0 u) b
  mn b := bfly (tileX j q 0 u) b

/-- The tiles after the first. -/
abbrev laterTiles : List (Fin 16) := [1, 2, 3, 4, 5, 6, 7, 8, 9, 10, 11, 12, 13, 14, 15]

/-- All sixteen tiles. -/
def halfAcc (j : Fin k0_t2_loop.trips) (q : Fin 2) (u : S8x512x512.Idx → Elt F .f32) : Acc F :=
  laterTiles.foldl (tileStep j q) (tileInit j q u)

theorem T.tiles {j : Fin k0_t2_loop.trips} {q : Fin 2} {k : (mx mn : Fin 8 → FVec F S8x128 .f32) → PG F α} (ts : List (Fin 16)) :
    ∀ (a : Acc F) (s : St F), s.u = a.u →
    T A (k (ts.foldl (tileStep j q) a).mx (ts.foldl (tileStep j q) a).mn) { s with u := (ts.foldl (tileStep j q) a).u } Q →
    T A (tilesK A j q ts a.mx a.mn k) s Q := by
  induction ts with
  | nil => intro a s e h; rw [List.foldl_nil, ← e] at h; exact h
  | cons t ts ih =>
    intro a s e h
    unfold tilesK
    refine T.tile q t ?_
    have e2 := ih (tileStep j q a t) { s with u := putU j q t (bfly (tileX j q t s.u)) s.u } (by rw [e]; rfl) h
    rw [e] at e2 ⊢
    exact e2

/-- Rows `8 (8 q + b)` to `+ 8` of the running maxima. -/
def rP (q : Fin 2) (b : Fin 8) : Rect S128x128 :=
  Rect.unit (s := S128x128) ![8 * (8 * q.val + b.val), 0] S8x128.size (by
    intro a; fin_cases a
    · show 8 * (8 * q.val + b.val) + 8 ≤ 128; omega
    · show 0 + 128 ≤ 128; omega)

/-- The running maxima and minima of the blocks `bs` are stored. -/
def storesK (A : Args) (q : Fin 2) (mx mn : Fin 8 → FVec F S8x128 .f32) : List (Fin 8) → PG F α → PG F α
  | [], k => k
  | b :: bs, k =>
    .op (.load A.a9 (rP q b).toLoadRect (View.loadsAt_vmem h_S8x128)) fun _ =>
    .op (.store A.a9 (rP q b) (shapeCast S8x128 (mx b) shapeCasts_S8x128_S8x128) Finset.univ (View.stores_vmem_bits_univ h_S8x128 rfl) (.inl rfl)) fun _ =>
    .op (.load A.a10 (rP q b).toLoadRect (View.loadsAt_vmem h_S8x128)) fun _ =>
    .op (.store A.a10 (rP q b) (shapeCast S8x128 (mn b) shapeCasts_S8x128_S8x128) Finset.univ (View.stores_vmem_bits_univ h_S8x128 rfl) (.inl rfl)) fun _ =>
    storesK A q mx mn bs k

/-- The array of running maxima with the vectors of the blocks `bs` put in. -/
def putP (q : Fin 2) (mx : Fin 8 → FVec F S8x128 .f32) (bs : List (Fin 8)) (p : S128x128.Idx → Elt F .f32) : S128x128.Idx → Elt F .f32 :=
  bs.foldl (fun p b => (rP q b).overlay p (shapeCast S8x128 (mx b) shapeCasts_S8x128_S8x128)) p

theorem T.stores {q : Fin 2} {mx mn : Fin 8 → FVec F S8x128 .f32} {k : PG F α} (bs : List (Fin 8)) :
    ∀ s : St F, T A k { s with pmx := putP q mx bs s.pmx, pmn := putP q mn bs s.pmn } Q → T A (storesK A q mx mn bs k) s Q := by
  induction bs with
  | nil => intro s h; exact h
  | cons b bs ih =>
    intro s h
    unfold storesK
    exact T.load9 (T.store9 (T.load10 (T.store10 (ih _ h))))

/-- The eight blocks. -/
abbrev blocks : List (Fin 8) := [0, 1, 2, 3, 4, 5, 6, 7]

/-- One half of a part, followed by `k`. -/
def halfK (A : Args) (j : Fin k0_t2_loop.trips) (q : Fin 2) (k : PG F α) : PG F α :=
  tileK A j q 0 fun x0 x1 x2 x3 x4 x5 x6 x7 =>
    tilesK A j q laterTiles (fun b => bfly (vec8 x0 x1 x2 x3 x4 x5 x6 x7) b) (fun b => bfly (vec8 x0 x1 x2 x3 x4 x5 x6 x7) b) fun mx mn =>
      storesK A q mx mn blocks k

/-- What one half of a part does to the buffers. -/
def halfF (j : Fin k0_t2_loop.trips) (q : Fin 2) (s : St F) : St F :=
  { s with u := (halfAcc j q s.u).u, pmx := putP q (halfAcc j q s.u).mx blocks s.pmx, pmn := putP q (halfAcc j q s.u).mn blocks s.pmn }

theorem T.half {j : Fin k0_t2_loop.trips} (q : Fin 2) {k : PG F α} (h : T A k (halfF j q s) Q) : T A (halfK A j q k) s Q := by
  unfold halfK
  refine T.tile q 0 ?_
  exact T.tiles (k := fun mx mn => storesK A q mx mn blocks k) laterTiles (tileInit j q s.u)
    { s with u := putU j q 0 (bfly (tileX j q 0 s.u)) s.u } rfl (T.stores blocks _ h)

end Cert.Kernel.Fold
-- ==== Proof.Bits.Stats.lean ====
/- The statistics of a part: from the stored maxima and minima the sixteen groups' scales and zero points, kept for the
   codes and put into the part's rows of the two tables of results. -/
module

public import proofs.«01_k».proof.Proof.Bits.Half

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Every eighth row of the running maxima, from row `r`. -/
def ldS (r : Fin 8) : LoadRect S128x128 :=
  ⟨![r.val, 0], S16x128.size, ![8, 1], by
    intro a; right; fin_cases a
    · show r.val + 8 * 15 < 128; omega
    · show 0 + 1 * 127 < 128; omega⟩

/-- The maximum over the eight rows of each of the sixteen groups. -/
def redMx (x : Fin 8 → Vec F S16x128 .f32) : FVec F S16x128 .f32 :=
  maximumf (maximumf (maximumf (maximumf (maximumf (maximumf (maximumf (x 0) (x 1)) (x 2)) (x 3)) (x 4)) (x 5)) (x 6)) (x 7)

/-- The minimum over the eight rows of each of the sixteen groups. -/
def redMn (x : Fin 8 → Vec F S16x128 .f32) : FVec F S16x128 .f32 :=
  minimumf (minimumf (minimumf (minimumf (minimumf (minimumf (minimumf (x 0) (x 1)) (x 2)) (x 3)) (x 4)) (x 5)) (x 6)) (x 7)

/-- The scales: `(mx - mn) / 15`, or `1` where the group is constant. -/
def scaleV (mx mn : FVec F S16x128 .f32) : FVec F S16x128 .f32 :=
  select (cmpf .oeq mx mn) (broadcast S16x128 (Scalar.ofBits .f32 0x3F800000#32))
    (divf (subf mx mn) (broadcast S16x128 (Scalar.ofBits .f32 0x41700000#32)))

/-- The zero points as floats. -/
def zeroV (mn sc : FVec F S16x128 .f32) : FVec F S16x128 .f32 :=
  minimumf (broadcast S16x128 (Scalar.ofBits .f32 0x41700000#32)) (maximumf (broadcast S16x128 (Scalar.ofBits .f32 0x00000000#32))
    (roundeven (divf (subf (broadcast S16x128 (Scalar.ofBits .f32 0x00000000#32)) mn) sc)))

/-- The reciprocals of the scales. -/
def recV (sc : FVec F S16x128 .f32) : FVec F S16x128 .f32 := divf (broadcast S16x128 (Scalar.ofBits .f32 0x3F800000#32)) sc

/-- The zero points plus `128`, as a pair of sixteen-bit float patterns in a word. -/
def zeV (z : FVec F S16x128 .f32) : IVec S16x128 32 :=
  ori (addi (broadcast S16x128 (1124073472#32)) (shli (fptosi 32 (subf (addf z (broadcast S16x128 (Scalar.ofBits .f32 0x43000000#32)))
      (broadcast S16x128 (Scalar.ofBits .f32 0x43000000#32)))) (broadcast S16x128 (16#32))))
    (shrui (addi (broadcast S16x128 (1124073472#32)) (shli (fptosi 32 (subf (addf z (broadcast S16x128 (Scalar.ofBits .f32 0x43000000#32)))
      (broadcast S16x128 (Scalar.ofBits .f32 0x43000000#32)))) (broadcast S16x128 (16#32)))) (broadcast S16x128 (16#32)))

/-- The zero points plus `16`, as a pair of sixteen-bit float patterns in a word. -/
def zoV (z : FVec F S16x128 .f32) : IVec S16x128 32 :=
  ori (addi (broadcast S16x128 (1098907648#32)) (shli (fptosi 32 (subf (addf z (broadcast S16x128 (Scalar.ofBits .f32 0x41800000#32)))
      (broadcast S16x128 (Scalar.ofBits .f32 0x41800000#32)))) (broadcast S16x128 (19#32))))
    (shrui (addi (broadcast S16x128 (1098907648#32)) (shli (fptosi 32 (subf (addf z (broadcast S16x128 (Scalar.ofBits .f32 0x41800000#32)))
      (broadcast S16x128 (Scalar.ofBits .f32 0x41800000#32)))) (broadcast S16x128 (19#32)))) (broadcast S16x128 (16#32)))

/-- The rows of the tables of scales and zero points that half `q` of part `j` fills. -/
def rT (j : Fin k0_t2_loop.trips) (q : Fin 2) : Rect S4x32x128 :=
  ⟨(⟨k0_off11 j (BitVec.ofNat 32 q.val), S1x8x128.size, ![1, 4, 1], k0_off11_inb j q⟩ : LoadRect S4x32x128), spos_1_4_1⟩

/-- A table of scales with half `0`'s and half `1`'s rows put in. -/
def putSc (j : Fin k0_t2_loop.trips) (sc : FVec F S16x128 .f32) (t : S4x32x128.Idx → Elt F .f32) : S4x32x128.Idx → Elt F .f32 :=
  (rT j 1).overlay ((rT j 0).overlay t (shapeCast S1x8x128 (extractStridedSlice S8x128 ![0, 0] sc slices_S16x128_o0_0_S8x128) shapeCasts_S8x128_S1x8x128))
    (shapeCast S1x8x128 (extractStridedSlice S8x128 ![8, 0] sc slices_S16x128_o8_0_S8x128) shapeCasts_S8x128_S1x8x128)

/-- A table of zero points with half `0`'s and half `1`'s rows put in. -/
def putZc (j : Fin k0_t2_loop.trips) (z : FVec F S16x128 .f32) (t : S4x32x128.Idx → Elt F .i32) : S4x32x128.Idx → Elt F .i32 :=
  (rT j 1).overlay ((rT j 0).overlay t
      (shapeCast S1x8x128 (fptosi 32 (extractStridedSlice S8x128 ![0, 0] z slices_S16x128_o0_0_S8x128)) shapeCasts_S8x128_S1x8x128))
    (shapeCast S1x8x128 (fptosi 32 (extractStridedSlice S8x128 ![8, 0] z slices_S16x128_o8_0_S8x128)) shapeCasts_S8x128_S1x8x128)

/-- All sixteen rows of a table of sixteen. -/
abbrev rAll : Rect S16x128 := Rect.unit (s := S16x128) ![0, 0] S16x128.size inb_S16x128_S16x128_0_0

/-- The program after the loads: from the group maxima `mx` and minima `mn`. -/
def statsTail (A : Args) (j : Fin k0_t2_loop.trips) (mx mn : FVec F S16x128 .f32) (k : PG F α) : PG F α :=
  .op (.load A.a11 rAll.toLoadRect (View.loadsAt_vmem h_S16x128)) fun _ =>
  .op (.store A.a11 rAll (shapeCast S16x128 (recV (scaleV mx mn)) shapeCasts_S16x128_S16x128) Finset.univ (View.stores_vmem_bits_univ h_S16x128 rfl) (.inl rfl)) fun _ =>
  .op (.load A.a12 rAll.toLoadRect (View.loadsAt_vmem h_S16x128)) fun _ =>
  .op (.store A.a12 rAll (shapeCast S16x128 (zeV (zeroV mn (scaleV mx mn))) shapeCasts_S16x128_S16x128) Finset.univ (View.stores_vmem_bits_univ h_S16x128 rfl) (.inl rfl)) fun _ =>
  .op (.load A.a13 rAll.toLoadRect (View.loadsAt_vmem h_S16x128)) fun _ =>
  .op (.store A.a13 rAll (shapeCast S16x128 (zoV (zeroV mn (scaleV mx mn))) shapeCasts_S16x128_S16x128) Finset.univ (View.stores_vmem_bits_univ h_S16x128 rfl) (.inl rfl)) fun _ =>
  .op (.load A.a14 (rT j 0).toLoadRect (View.loadsAt_vmem h_S1x8x128)) fun _ =>
  .op (.store A.a14 (rT j 0) (shapeCast S1x8x128 (extractStridedSlice S8x128 ![0, 0] (scaleV mx mn) slices_S16x128_o0_0_S8x128) shapeCasts_S8x128_S1x8x128) Finset.univ (View.stores_vmem_bits_univ h_S1x8x128 rfl) (.inl rfl)) fun _ =>
  .op (.load A.a15 (rT j 0).toLoadRect (View.loadsAt_vmem h_S1x8x128)) fun _ =>
  .op (.store A.a15 (rT j 0) (shapeCast S1x8x128 (fptosi 32 (extractStridedSlice S8x128 ![0, 0] (zeroV mn (scaleV mx mn)) slices_S16x128_o0_0_S8x128)) shapeCasts_S8x128_S1x8x128) Finset.univ (View.stores_vmem_bits_univ h_S1x8x128 rfl) (.inl rfl)) fun _ =>
  .op (.load A.a14 (rT j 1).toLoadRect (View.loadsAt_vmem h_S1x8x128)) fun _ =>
  .op (.store A.a14 (rT j 1) (shapeCast S1x8x128 (extractStridedSlice S8x128 ![8, 0] (scaleV mx mn) slices_S16x128_o8_0_S8x128) shapeCasts_S8x128_S1x8x128) Finset.univ (View.stores_vmem_bits_univ h_S1x8x128 rfl) (.inl rfl)) fun _ =>
  .op (.load A.a15 (rT j 1).toLoadRect (View.loadsAt_vmem h_S1x8x128)) fun _ =>
  .op (.store A.a15 (rT j 1) (shapeCast S1x8x128 (fptosi 32 (extractStridedSlice S8x128 ![8, 0] (zeroV mn (scaleV mx mn)) slices_S16x128_o8_0_S8x128)) shapeCasts_S8x128_S1x8x128) Finset.univ (View.stores_vmem_bits_univ h_S1x8x128 rfl) (.inl rfl)) fun _ =>
  k

/-- Eight loaded vectors as a family. -/
def fam8 (x0 x1 x2 x3 x4 x5 x6 x7 : Vec F S16x128 .f32) : Fin 8 → Vec F S16x128 .f32
  | 0 => x0 | 1 => x1 | 2 => x2 | 3 => x3 | 4 => x4 | 5 => x5 | 6 => x6 | 7 => x7

/-- The statistics' program, followed by `k`. -/
def statsK (A : Args) (j : Fin k0_t2_loop.trips) (k : PG F α) : PG F α :=
  .op (.load A.a9 (ldS 0) (View.loadsAt_vmem h_S16x128)) fun (x0 : Vec F S16x128 .f32) =>
  .op (.load A.a9 (ldS 1) (View.loadsAt_vmem h_S16x128)) fun (x1 : Vec F S16x128 .f32) =>
  .op (.load A.a9 (ldS 2) (View.loadsAt_vmem h_S16x128)) fun (x2 : Vec F S16x128 .f32) =>
  .op (.load A.a9 (ldS 3) (View.loadsAt_vmem h_S16x128)) fun (x3 : Vec F S16x128 .f32) =>
  .op (.load A.a9 (ldS 4) (View.loadsAt_vmem h_S16x128)) fun (x4 : Vec F S16x128 .f32) =>
  .op (.load A.a9 (ldS 5) (View.loadsAt_vmem h_S16x128)) fun (x5 : Vec F S16x128 .f32) =>
  .op (.load A.a9 (ldS 6) (View.loadsAt_vmem h_S16x128)) fun (x6 : Vec F S16x128 .f32) =>
  .op (.load A.a9 (ldS 7) (View.loadsAt_vmem h_S16x128)) fun (x7 : Vec F S16x128 .f32) =>
  .op (.load A.a10 (ldS 0) (View.loadsAt_vmem h_S16x128)) fun (y0 : Vec F S16x128 .f32) =>
  .op (.load A.a10 (ldS 1) (View.loadsAt_vmem h_S16x128)) fun (y1 : Vec F S16x128 .f32) =>
  .op (.load A.a10 (ldS 2) (View.loadsAt_vmem h_S16x128)) fun (y2 : Vec F S16x128 .f32) =>
  .op (.load A.a10 (ldS 3) (View.loadsAt_vmem h_S16x128)) fun (y3 : Vec F S16x128 .f32) =>
  .op (.load A.a10 (ldS 4) (View.loadsAt_vmem h_S16x128)) fun (y4 : Vec F S16x128 .f32) =>
  .op (.load A.a10 (ldS 5) (View.loadsAt_vmem h_S16x128)) fun (y5 : Vec F S16x128 .f32) =>
  .op (.load A.a10 (ldS 6) (View.loadsAt_vmem h_S16x128)) fun (y6 : Vec F S16x128 .f32) =>
  .op (.load A.a10 (ldS 7) (View.loadsAt_vmem h_S16x128)) fun (y7 : Vec F S16x128 .f32) =>
  statsTail A j (redMx (fam8 x0 x1 x2 x3 x4 x5 x6 x7)) (redMn (fam8 y0 y1 y2 y3 y4 y5 y6 y7)) k

/-- The group maxima that the stored running maxima give. -/
def mxOf (p : S128x128.Idx → Elt F .f32) : FVec F S16x128 .f32 :=
  redMx (fam8 (fun x => p ((ldS 0).idx x)) (fun x => p ((ldS 1).idx x)) (fun x => p ((ldS 2).idx x)) (fun x => p ((ldS 3).idx x))
    (fun x => p ((ldS 4).idx x)) (fun x => p ((ldS 5).idx x)) (fun x => p ((ldS 6).idx x)) (fun x => p ((ldS 7).idx x)))

/-- The group minima that the stored running minima give. -/
def mnOf (p : S128x128.Idx → Elt F .f32) : FVec F S16x128 .f32 :=
  redMn (fam8 (fun x => p ((ldS 0).idx x)) (fun x => p ((ldS 1).idx x)) (fun x => p ((ldS 2).idx x)) (fun x => p ((ldS 3).idx x))
    (fun x => p ((ldS 4).idx x)) (fun x => p ((ldS 5).idx x)) (fun x => p ((ldS 6).idx x)) (fun x => p ((ldS 7).idx x)))

/-- What the program after the loads does to the buffers. -/
def statsG (j : Fin k0_t2_loop.trips) (mx mn : FVec F S16x128 .f32) (s : St F) : St F :=
  { s with
    rs := rAll.overlay s.rs (shapeCast S16x128 (recV (scaleV mx mn)) shapeCasts_S16x128_S16x128)
    ze := rAll.overlay s.ze (shapeCast S16x128 (zeV (zeroV mn (scaleV mx mn))) shapeCasts_S16x128_S16x128)
    zo := rAll.overlay s.zo (shapeCast S16x128 (zoV (zeroV mn (scaleV mx mn))) shapeCasts_S16x128_S16x128)
    sct := putSc j (scaleV mx mn) s.sct
    zct := putZc j (zeroV mn (scaleV mx mn)) s.zct }

/-- What the statistics do to the buffers. -/
def statsF (j : Fin k0_t2_loop.trips) (s : St F) : St F := statsG j (mxOf s.pmx) (mnOf s.pmn) s

theorem T.statsTail {j : Fin k0_t2_loop.trips} {mx mn : FVec F S16x128 .f32} {k : PG F α} (h : T A k (statsG j mx mn s) Q) :
    T A (statsTail A j mx mn k) s Q := by
  unfold statsG putSc putZc at h
  unfold Fold.statsTail
  refine T.load11 (T.store11 ?_)
  refine T.load12 (T.store12 ?_)
  refine T.load13 (T.store13 ?_)
  refine T.load14 (T.store14 ?_)
  refine T.load15 (T.store15 ?_)
  refine T.load14 (T.store14 ?_)
  refine T.load15 (T.store15 ?_)
  dsimp only
  exact h

theorem T.stats {j : Fin k0_t2_loop.trips} {k : PG F α} (h : T A k (statsF j s) Q) : T A (statsK A j k) s Q := by
  unfold statsK
  refine T.load9 ?_
  refine T.load9 ?_
  refine T.load9 ?_
  refine T.load9 ?_
  refine T.load9 ?_
  refine T.load9 ?_
  refine T.load9 ?_
  refine T.load9 ?_
  refine T.load10 ?_
  refine T.load10 ?_
  refine T.load10 ?_
  refine T.load10 ?_
  refine T.load10 ?_
  refine T.load10 ?_
  refine T.load10 ?_
  refine T.load10 ?_
  exact T.statsTail h

end Cert.Kernel.Fold
-- ==== Proof.Bits.Quant.lean ====
/- The codes of one block in one part: sixteen-row units of the two halves of each group's rows, scaled, rounded,
   shifted by the zero point, clipped and packed two to a byte. -/
module

public import proofs.«01_k».proof.Proof.Bits.Stats

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Row `8 q + b` of a table of sixteen. -/
def rR (q : Fin 2) (b : Fin 8) : Rect S16x128 :=
  Rect.unit (s := S16x128) ![8 * q.val + b.val, 0] S1x128.size (by
    intro a; fin_cases a
    · show 8 * q.val + b.val + 1 ≤ 16; omega
    · show 0 + 128 ≤ 128; omega)

/-- Where sixteen rows, `128 q + 64 p + 16 c` on, of a block start, in part `j`'s rows and lanes. -/
def offC (j : Fin k0_t2_loop.trips) (q p : Fin 2) (c : Fin 4) : Fin 8 → Fin 3 → ℕ
  | 0 => k0_off12 j (BitVec.ofNat 32 (128 * q.val)) (BitVec.ofNat 32 (64 * p.val)) (BitVec.ofNat 32 (16 * c.val))
  | 1 => k0_off14 j (BitVec.ofNat 32 (128 * q.val)) (BitVec.ofNat 32 (64 * p.val)) (BitVec.ofNat 32 (16 * c.val))
  | 2 => k0_off15 j (BitVec.ofNat 32 (128 * q.val)) (BitVec.ofNat 32 (64 * p.val)) (BitVec.ofNat 32 (16 * c.val))
  | 3 => k0_off16 j (BitVec.ofNat 32 (128 * q.val)) (BitVec.ofNat 32 (64 * p.val)) (BitVec.ofNat 32 (16 * c.val))
  | 4 => k0_off17 j (BitVec.ofNat 32 (128 * q.val)) (BitVec.ofNat 32 (64 * p.val)) (BitVec.ofNat 32 (16 * c.val))
  | 5 => k0_off18 j (BitVec.ofNat 32 (128 * q.val)) (BitVec.ofNat 32 (64 * p.val)) (BitVec.ofNat 32 (16 * c.val))
  | 6 => k0_off19 j (BitVec.ofNat 32 (128 * q.val)) (BitVec.ofNat 32 (64 * p.val)) (BitVec.ofNat 32 (16 * c.val))
  | 7 => k0_off20 j (BitVec.ofNat 32 (128 * q.val)) (BitVec.ofNat 32 (64 * p.val)) (BitVec.ofNat 32 (16 * c.val))

theorem offC_inb (j : Fin k0_t2_loop.trips) (q p : Fin 2) (c : Fin 4) : ∀ b : Fin 8, ∀ a, offC j q p c b a + S1x16x128.size a ≤ S8x512x512.size a
  | 0 => k0_off12_inb j q p c
  | 1 => k0_off14_inb j q p c
  | 2 => k0_off15_inb j q p c
  | 3 => k0_off16_inb j q p c
  | 4 => k0_off17_inb j q p c
  | 5 => k0_off18_inb j q p c
  | 6 => k0_off19_inb j q p c
  | 7 => k0_off20_inb j q p c

/-- Those rows. -/
def rC (j : Fin k0_t2_loop.trips) (q p : Fin 2) (c : Fin 4) (b : Fin 8) : Rect S8x512x512 :=
  Rect.unit (s := S8x512x512) (offC j q p c b) S1x16x128.size (offC_inb j q p c b)

/-- A loaded row of reciprocals on every row of a unit. -/
def rowR (x : Vec F S1x128 .f32) : FVec F S16x128 .f32 :=
  broadcastTo S16x128 (shapeCast S1x128 x shapeCasts_S1x128_S1x128) broadcasts_S1x128_S16x128

/-- A loaded row of packed zero points on every row of a unit, read as sixteen-bit floats. -/
def rowZ (x : Vec F S1x128 .i32) : FVec F S16x128 .bf16 :=
  bitcastToFloat .bf16 (bitcast S16x128 16 (broadcastTo S8x128 (shapeCast S1x128 x shapeCasts_S1x128_S1x128) broadcasts_S1x128_S8x128)
    bitcasts_S8x128_w32_S16x128_w16)

/-- The codes of a unit, `lo` to `hi` before `lo` is taken off, shifted left by `sh` and put over `base`. -/
def codeV (lo hi sh base : BitVec 16) (x : Vec F S1x16x128 .f32) (r : FVec F S16x128 .f32) (z : FVec F S16x128 .bf16) : IVec S8x128 32 :=
  bitcast S8x128 32 (addi (shli (fptosi 16 (subf (minimumf (maximumf (addf (truncf .bf16 (roundeven (mulf
      (shapeCast S16x128 x shapeCasts_S1x16x128_S16x128) r)) bitsLt_bf16_f32) z) (broadcast S16x128 (Scalar.ofBits .bf16 lo)))
      (broadcast S16x128 (Scalar.ofBits .bf16 hi))) (broadcast S16x128 (Scalar.ofBits .bf16 lo)))) (broadcast S16x128 sh)) (broadcast S16x128 base))
    bitcasts_S16x128_w16_S8x128_w32

/-- The packed codes of one unit from its two loaded halves. -/
def unitV (r : FVec F S16x128 .f32) (ze zo : FVec F S16x128 .bf16) (x y : Vec F S1x16x128 .f32) : IVec S16x128 16 :=
  bitcast S16x128 16 (addi (codeV 0x4300#16 0x430F#16 0#16 17152#16 x r ze)
      (addi (codeV 0x4180#16 0x41F8#16 3#16 16768#16 y r zo) (codeV 0x4180#16 0x41F8#16 3#16 16768#16 y r zo)))
    bitcasts_S8x128_w32_S16x128_w16

/-- The packed codes of one block, transposed into the rows and columns of the result. -/
def outV (t0 t1 t2 t3 t4 t5 t6 t7 : IVec S16x128 16) : IVec S128x128 8 :=
  trunci 8 (transpose S128x128 [1, 0] (concatenate S128x128 0 [⟨S16x128, t0⟩, ⟨S16x128, t1⟩, ⟨S16x128, t2⟩, ⟨S16x128, t3⟩, ⟨S16x128, t4⟩, ⟨S16x128, t5⟩, ⟨S16x128, t6⟩, ⟨S16x128, t7⟩]
    concatenates_S16x128_S16x128_S16x128_S16x128_S16x128_S16x128_S16x128_S16x128_S128x128_d0) transposes_S128x128_p1_0_S128x128) natLt_8_16

/-- Where block `b`'s codes of part `j` go. -/
def rO (j : Fin k0_t2_loop.trips) (b : Fin 8) : Rect S512x2048 :=
  Rect.unit (s := S512x2048) (k0_off13 j (BitVec.ofNat 32 (256 * b.val))) S128x128.size (k0_off13_inb j b)

/-- The two loads of unit `c` in half `q`. -/
def unitK (A : Args) (j : Fin k0_t2_loop.trips) (b : Fin 8) (q : Fin 2) (c : Fin 4) (r : FVec F S16x128 .f32) (ze zo : FVec F S16x128 .bf16)
    (k : IVec S16x128 16 → PG F α) : PG F α :=
  .op (.load A.a8 (rC j q 0 c b).toLoadRect (View.loadsAt_vmem h_S1x16x128)) fun (x : Vec F S1x16x128 .f32) =>
  .op (.load A.a8 (rC j q 1 c b).toLoadRect (View.loadsAt_vmem h_S1x16x128)) fun (y : Vec F S1x16x128 .f32) =>
  k (unitV r ze zo x y)

/-- The four units of half `q`. -/
def halfQK (A : Args) (j : Fin k0_t2_loop.trips) (b : Fin 8) (q : Fin 2) (k : (t0 t1 t2 t3 : IVec S16x128 16) → PG F α) : PG F α :=
  .op (.load A.a11 (rR q b).toLoadRect (View.loadsAt_vmem h_S1x128)) fun (r : Vec F S1x128 .f32) =>
  .op (.load A.a12 (rR q b).toLoadRect (View.loadsAt_vmem h_S1x128)) fun (ze : Vec F S1x128 .i32) =>
  .op (.load A.a13 (rR q b).toLoadRect (View.loadsAt_vmem h_S1x128)) fun (zo : Vec F S1x128 .i32) =>
  unitK A j b q 0 (rowR r) (rowZ ze) (rowZ zo) fun t0 => unitK A j b q 1 (rowR r) (rowZ ze) (rowZ zo) fun t1 =>
  unitK A j b q 2 (rowR r) (rowZ ze) (rowZ zo) fun t2 => unitK A j b q 3 (rowR r) (rowZ ze) (rowZ zo) fun t3 => k t0 t1 t2 t3

/-- The codes of block `b`, followed by `k`. -/
def quantK (A : Args) (j : Fin k0_t2_loop.trips) (b : Fin 8) (k : PG F α) : PG F α :=
  halfQK A j b 0 fun t0 t1 t2 t3 => halfQK A j b 1 fun t4 t5 t6 t7 =>
  .op (.load A.a4 (rO j b).toLoadRect (View.loadsAt_vmem h_S128x128)) fun _ =>
  .op (.store A.a4 (rO j b) (outV t0 t1 t2 t3 t4 t5 t6 t7) Finset.univ
    (View.stores_vmem h_S128x128 (A.h4.storeExact_slice rfl _ (k0_off13_packedi8 j b)) (fun _ => rfl)) (.inl rfl)) fun _ => k

/-- Unit `c` of half `q` of block `b`, from the buffers. -/
def unitOf (j : Fin k0_t2_loop.trips) (b : Fin 8) (q : Fin 2) (c : Fin 4) (s : St F) : IVec S16x128 16 :=
  unitV (rowR (fun x => s.rs ((rR q b).toLoadRect.idx x))) (rowZ (fun x => s.ze ((rR q b).toLoadRect.idx x)))
    (rowZ (fun x => s.zo ((rR q b).toLoadRect.idx x)))
    (fun x => s.u ((rC j q 0 c b).toLoadRect.idx x)) (fun x => s.u ((rC j q 1 c b).toLoadRect.idx x))

/-- What the codes of block `b` do to the buffers. -/
def quantF (j : Fin k0_t2_loop.trips) (b : Fin 8) (s : St F) : St F :=
  { s with codes := (rO j b).overlay s.codes (outV (unitOf j b 0 0 s) (unitOf j b 0 1 s) (unitOf j b 0 2 s) (unitOf j b 0 3 s)
      (unitOf j b 1 0 s) (unitOf j b 1 1 s) (unitOf j b 1 2 s) (unitOf j b 1 3 s)) }

theorem T.halfQ {j : Fin k0_t2_loop.trips} {b : Fin 8} {q : Fin 2} {k : (t0 t1 t2 t3 : IVec S16x128 16) → PG F α}
    (h : T A (k (unitOf j b q 0 s) (unitOf j b q 1 s) (unitOf j b q 2 s) (unitOf j b q 3 s)) s Q) : T A (halfQK A j b q k) s Q := by
  unfold halfQK unitK
  refine T.load11 (T.load12 (T.load13 ?_))
  refine T.load8 (T.load8 ?_)
  refine T.load8 (T.load8 ?_)
  refine T.load8 (T.load8 ?_)
  refine T.load8 (T.load8 ?_)
  exact h

theorem T.quant {j : Fin k0_t2_loop.trips} (b : Fin 8) {k : PG F α} (h : T A k (quantF j b s) Q) : T A (quantK A j b k) s Q := by
  unfold quantK
  refine T.halfQ (T.halfQ ?_)
  exact T.load4 (T.store4 h)

end Cert.Kernel.Fold
-- ==== Proof.Bits.Body.lean ====
/- The whole body at one grid point: the signed transform matrix at the first point, the eight products, the eight parts,
   and the two small results. -/
module

public import proofs.«01_k».proof.Proof.Bits.Quant

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- Columns `512 b` to `+ 512` of the signs. -/
def rS (b : Fin 8) : Rect S1x4096 :=
  Rect.unit (s := S1x4096) ![0, 512 * b.val] S1x512.size (by
    intro a; fin_cases a
    · show 0 + 1 ≤ 1; omega
    · show 512 * b.val + 512 ≤ 4096; omega)

/-- Block `b` of the signed matrix. -/
def rH (b : Fin 8) : Rect S8x512x512 :=
  Rect.unit (s := S8x512x512) ![b.val, 0, 0] S1x512x512.size (by
    intro a; fin_cases a
    · show b.val + 1 ≤ 8; omega
    · show 0 + 512 ≤ 512; omega
    · show 0 + 512 ≤ 512; omega)

theorem rH_packed : ∀ b : Fin 8, (rH b).PackedRows (EltTy.packing .bf16)
  | 0 => packedbf16_S8x512x512_S1x512x512_0_0_0
  | 1 => packedbf16_S8x512x512_S1x512x512_1_0_0
  | 2 => packedbf16_S8x512x512_S1x512x512_2_0_0
  | 3 => packedbf16_S8x512x512_S1x512x512_3_0_0
  | 4 => packedbf16_S8x512x512_S1x512x512_4_0_0
  | 5 => packedbf16_S8x512x512_S1x512x512_5_0_0
  | 6 => packedbf16_S8x512x512_S1x512x512_6_0_0
  | 7 => packedbf16_S8x512x512_S1x512x512_7_0_0

/-- The whole transform matrix. -/
abbrev rM : Rect S512x512 := Rect.unit (s := S512x512) ![0, 0] S512x512.size inb_S512x512_S512x512_0_0

/-- The signed matrix of one block. -/
def signV (g : Vec F S1x512 .f32) (h : Vec F S512x512 .f32) : FVec F S1x512x512 .bf16 :=
  shapeCast S1x512x512 (truncf .bf16 (mulf (shapeCast S512x512 h shapeCasts_S512x512_S512x512)
    (broadcastTo S512x512 (shapeCast S1x512 g shapeCasts_S1x512_S1x512) broadcasts_S1x512_S512x512)) bitsLt_bf16_f32) shapeCasts_S512x512_S1x512x512

/-- The signed matrices of the blocks `bs`, one after the other. -/
def initK (A : Args) : List (Fin 8) → PG F α → PG F α
  | [], k => k
  | b :: bs, k =>
    .op (.load A.a3 (rS b).toLoadRect (View.loadsAt_vmem h_S1x512)) fun (g : Vec F S1x512 .f32) =>
    .op (.load A.a2 rM.toLoadRect (View.loadsAt_vmem h_S512x512)) fun (h : Vec F S512x512 .f32) =>
    .op (.load A.a7 (rH b).toLoadRect (View.loadsAt_vmem h_S1x512x512)) fun _ =>
    .op (.store A.a7 (rH b) (signV g h) Finset.univ
      (View.stores_vmem h_S1x512x512 (A.h7.storeExact_slice rfl _ (rH_packed b)) (fun _ => rfl)) (.inl rfl)) fun _ =>
    initK A bs k

/-- What one block's signed matrix does to the buffers. -/
def initF (s : St F) (b : Fin 8) : St F :=
  { s with hs := (rH b).overlay s.hs (signV (fun x => s.sg ((rS b).toLoadRect.idx x)) (fun x => s.h (rM.toLoadRect.idx x))) }

theorem T.init {k : PG F α} (bs : List (Fin 8)) : ∀ s : St F, T A k (bs.foldl initF s) Q → T A (initK A bs k) s Q := by
  induction bs with
  | nil => intro s h; exact h
  | cons b bs ih =>
    intro s h
    rw [List.foldl_cons] at h
    have h2 := ih _ h
    unfold initK
    refine T.load3 ?_
    refine T.load2 ?_
    refine T.load7 ?_
    refine T.store7 ?_
    unfold initF at h2
    exact h2

/-- Block `k` of the products, and of the weights. -/
abbrev rB (k : Fin k0_t1_loop.trips) : Rect S8x512x512 := Rect.unit (s := S8x512x512) (k0_off1 k) S1x512x512.size (k0_off1_inb k)
abbrev rW (k : Fin k0_t1_loop.trips) : Rect S512x4096 := Rect.unit (s := S512x4096) (k0_off2 k) S512x512.size (k0_off2_inb k)

/-- One block's product. -/
def mmV (h : Vec F S1x512x512 .bf16) (w : Vec F S512x512 .bf16) : FVec F S1x512x512 .f32 :=
  shapeCast S1x512x512 (matmul dot_S512x512_S512x512_S512x512_1_1_0_0_n_n none (shapeCast S512x512 h shapeCasts_S1x512x512_S512x512)
    (shapeCast S512x512 w shapeCasts_S512x512_S512x512) (constant S512x512 .f32 0x00000000#32)) shapeCasts_S512x512_S1x512x512

/-- One block's product, stored. -/
def mmK (A : Args) (j : Fin k0_t1_loop.trips) (k : PG F α) : PG F α :=
  .op (.load A.a7 (rB j).toLoadRect (View.loadsAt_vmem h_S1x512x512)) fun (h : Vec F S1x512x512 .bf16) =>
  .op (.load A.a1 (rW j).toLoadRect (View.loadsAt_vmem h_S512x512)) fun (w : Vec F S512x512 .bf16) =>
  .op (.load A.a8 (rB j).toLoadRect (View.loadsAt_vmem h_S1x512x512)) fun _ =>
  .op (.store A.a8 (rB j) (mmV h w) Finset.univ (View.stores_vmem_bits_univ h_S1x512x512 rfl) (.inl rfl)) fun _ => k

/-- What one block's product does to the buffers. -/
def mmF (s : St F) (j : Fin k0_t1_loop.trips) : St F :=
  { s with u := (rB j).overlay s.u (mmV (fun x => s.hs ((rB j).toLoadRect.idx x)) (fun x => s.w ((rW j).toLoadRect.idx x))) }

theorem T.mm {j : Fin k0_t1_loop.trips} {k : PG F α} (h : T A k (mmF s j) Q) : T A (mmK A j k) s Q := by
  unfold mmK
  refine T.load7 ?_
  refine T.load1 ?_
  refine T.load8 ?_
  refine T.store8 ?_
  unfold mmF at h
  exact h

/-- One part: both halves, the statistics and the codes of the eight blocks. -/
def partF (s : St F) (j : Fin k0_t2_loop.trips) : St F :=
  quantF j 7 (quantF j 6 (quantF j 5 (quantF j 4 (quantF j 3 (quantF j 2 (quantF j 1 (quantF j 0 (statsF j (halfF j 1 (halfF j 0 s))))))))))

/-- Rows `128 l` to `+ 128` of a small result, and plane `l` of a table. -/
def rD (l : Fin 4) : Rect S512x32 :=
  Rect.unit (s := S512x32) ![128 * l.val, 0] S128x32.size (by
    intro a; fin_cases a
    · show 128 * l.val + 128 ≤ 512; omega
    · show 0 + 32 ≤ 32; omega)
def rL (l : Fin 4) : Rect S4x32x128 :=
  Rect.unit (s := S4x32x128) ![l.val, 0, 0] S1x32x128.size (by
    intro a; fin_cases a
    · show l.val + 1 ≤ 4; omega
    · show 0 + 32 ≤ 32; omega
    · show 0 + 128 ≤ 128; omega)

theorem rD_packed : ∀ l : Fin 4, (rD l).PackedRows (EltTy.packing .i8)
  | 0 => packedi8_S512x32_S128x32_0_0
  | 1 => packedi8_S512x32_S128x32_128_0
  | 2 => packedi8_S512x32_S128x32_256_0
  | 3 => packedi8_S512x32_S128x32_384_0

/-- A plane of the table of scales, transposed. -/
def scT (x : Vec F S1x32x128 .f32) : FVec F S128x32 .f32 :=
  transpose S128x32 [1, 0] (shapeCast S32x128 x shapeCasts_S1x32x128_S32x128) transposes_S32x128_p1_0_S128x32
/-- A plane of the table of zero points, transposed and cut to bytes. -/
def zcT (x : Vec F S1x32x128 .i32) : IVec S128x32 8 :=
  trunci 8 (transpose S128x32 [1, 0] (shapeCast S32x128 x shapeCasts_S1x32x128_S32x128) transposes_S32x128_p1_0_S128x32) natLt_8_32

/-- The small results of the planes `ls`. -/
def finK (A : Args) : List (Fin 4) → PG F α → PG F α
  | [], k => k
  | l :: ls, k =>
    .op (.load A.a14 (rL l).toLoadRect (View.loadsAt_vmem h_S1x32x128)) fun (x : Vec F S1x32x128 .f32) =>
    .op (.load A.a5 (rD l).toLoadRect (View.loadsAt_vmem h_S128x32)) fun _ =>
    .op (.store A.a5 (rD l) (scT x) Finset.univ (View.stores_vmem_bits_univ h_S128x32 rfl) (.inl rfl)) fun _ =>
    .op (.load A.a15 (rL l).toLoadRect (View.loadsAt_vmem h_S1x32x128)) fun (z : Vec F S1x32x128 .i32) =>
    .op (.load A.a6 (rD l).toLoadRect (View.loadsAt_vmem h_S128x32)) fun _ =>
    .op (.store A.a6 (rD l) (zcT z) Finset.univ
      (View.stores_vmem h_S128x32 (A.h6.storeExact_slice rfl _ (rD_packed l)) (fun _ => rfl)) (.inl rfl)) fun _ =>
    finK A ls k

/-- What one plane's small results do to the buffers. -/
def finF (s : St F) (l : Fin 4) : St F :=
  { s with
    scales := (rD l).overlay s.scales (scT (fun x => s.sct ((rL l).toLoadRect.idx x)))
    zeros := (rD l).overlay s.zeros (zcT (fun x => s.zct ((rL l).toLoadRect.idx x))) }

theorem T.fin {k : PG F α} (ls : List (Fin 4)) : ∀ s : St F, T A k (ls.foldl finF s) Q → T A (finK A ls k) s Q := by
  induction ls with
  | nil => intro s h; exact h
  | cons b bs ih =>
    intro s h
    rw [List.foldl_cons] at h
    have h2 := ih _ h
    unfold finK
    refine T.load14 (T.load5 (T.store5 (T.load15 (T.load6 (T.store6 ?_)))))
    unfold finF at h2
    exact h2

/-- The planes. -/
abbrev planes : List (Fin 4) := [0, 1, 2, 3]

/-- The condition of the first point. -/
abbrev atFirst (i : grid0.Coords) : Prop :=
  Scalar.cmpi .ne (Scalar.extui (Scalar.cmpi .eq (BitVec.ofNat 32 (i 0).val) 0#32) : BitVec 32) 0#32 = 1#1

/-- The first point's work, done or not. -/
def firstF (i : grid0.Coords) (s : St F) : St F := if atFirst i then blocks.foldl initF s else s

theorem T.first (i : grid0.Coords) {e : PG F α} (h : T A e (firstF i s) Q) :
    T A (if _ : atFirst i then initK A blocks e else e) s Q := by
  unfold firstF at h
  split
  · next hc => rw [if_pos hc] at h; exact T.init blocks _ h
  · next hc => rw [if_neg hc] at h; exact h

theorem T.for1 {body : Fin k0_t1_loop.trips → Unit → PG F Unit} {k : Unit → PG F α}
    (hb : ∀ j a s, T A (body j a) s (fun _ s' => s' = mmF s j)) (h : T A (k ⟨⟩) ((List.finRange k0_t1_loop.trips).foldl mmF s) Q) :
    T A (Scf.Loop.for k0_t1_loop k0_t1_ok ⟨⟩ body >>= k) s Q := by
  unfold Scf.Loop.for
  rw [Scf.for_eq]
  exact T.bind (T.forFrom (fun j s => mmF s j) body hb _ _ _) fun a s' e => by subst e; exact h

theorem T.for2 {body : Fin k0_t2_loop.trips → Unit → PG F Unit} {k : Unit → PG F α}
    (hb : ∀ j a s, T A (body j a) s (fun _ s' => s' = partF s j)) (h : T A (k ⟨⟩) ((List.finRange k0_t2_loop.trips).foldl partF s) Q) :
    T A (Scf.Loop.for k0_t2_loop k0_t2_ok ⟨⟩ body >>= k) s Q := by
  unfold Scf.Loop.for
  rw [Scf.for_eq]
  exact T.bind (T.forFrom (fun j s => partF s j) body hb _ _ _) fun a s' e => by subst e; exact h

/-- The buffers after the eight products and the eight parts. -/
def loopsF (s : St F) : St F := (List.finRange k0_t2_loop.trips).foldl partF ((List.finRange k0_t1_loop.trips).foldl mmF s)

/-- The second plane's scales alone. -/
def halfFin (s : St F) : St F := { s with scales := (rD 1).overlay s.scales (scT (fun x => s.sct ((rL 1).toLoadRect.idx x))) }

/-- What the body does to the buffers. -/
def bodyF (i : grid0.Coords) (s : St F) : St F := planes.foldl finF (loopsF (firstF i s))

set_option maxHeartbeats 1000000 in
theorem T.part164 (i : grid0.Coords) (s : St F) :
    T A (k0_part164 i A.a1 A.h1 A.a2 A.h2 A.a3 A.h3 A.a4 A.h4 A.a5 A.h5 A.a6 A.h6 A.a7 A.h7 A.a8 A.h8 A.a9 A.h9 A.a10 A.h10
      A.a11 A.h11 A.a12 A.h12 A.a13 A.h13 A.a14 A.h14 A.a15 A.h15) s
      (fun v s' => s' = halfFin (finF (loopsF (firstF i s)) 0) ∧ v = zcT (fun x => s'.zct ((rL 1).toLoadRect.idx x))) := by
  unfold k0_part164
  refine T.first i ?_
  refine T.for1 ?_ ?_
  · intro j a s
    refine T.mm ?_
    exact T.ret rfl
  refine T.for2 ?_ ?_
  · intro j a s
    refine T.half (j := j) 0 ?_
    refine T.half (j := j) 1 ?_
    refine T.stats (j := j) ?_
    refine T.quant (j := j) 0 ?_
    refine T.quant (j := j) 1 ?_
    refine T.quant (j := j) 2 ?_
    refine T.quant (j := j) 3 ?_
    refine T.quant (j := j) 4 ?_
    refine T.quant (j := j) 5 ?_
    refine T.quant (j := j) 6 ?_
    refine T.quant (j := j) 7 ?_
    exact T.ret rfl
  refine T.fin [0] _ ?_
  refine T.load14 ?_
  refine T.load5 ?_
  refine T.store5 ?_
  refine T.load15 ?_
  refine T.load6 ?_
  exact T.ret ⟨rfl, rfl⟩

end Cert.Kernel.Fold
-- ==== Proof.Bits.BodyRun.lean ====
/- The body's last stores, and the body whole. -/
module

public import proofs.«01_k».proof.Proof.Bits.Body

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The second plane's zero points. -/
def zeroK (A : Args) (v : IVec S128x32 8) (k : PG F α) : PG F α :=
    .op (.store A.a6 (rD 1) v Finset.univ
      (View.stores_vmem h_S128x32 (A.h6.storeExact_slice rfl _ (rD_packed 1)) (fun _ => rfl)) (.inl rfl)) fun _ => k

theorem T.zero1 {v : IVec S128x32 8} {k : PG F α} (X : St F)
    (h : T A k { X with zeros := (rD 1).overlay X.zeros v } Q) : T A (zeroK A v k) X Q := T.store6 h

theorem finF_one (X : St F) :
    { halfFin X with zeros := (rD 1).overlay (halfFin X).zeros (zcT (fun x => (halfFin X).zct ((rL 1).toLoadRect.idx x))) } = finF X 1 := by
  unfold halfFin finF
  rfl

theorem bodyF_eq (L : St F) : planes.foldl finF L = [2, 3].foldl finF (finF (finF L 0) 1) := by
  unfold planes
  rw [List.foldl_cons, List.foldl_cons]

theorem T.rest {v : IVec S128x32 8} (L s' : St F) {k : PG F Unit} (hk : k = .ret ⟨⟩)
    (h1 : s' = halfFin (finF L 0)) (h2 : v = zcT (fun x => s'.zct ((rL 1).toLoadRect.idx x))) :
    T A (zeroK A v (finK A [2, 3] k)) s' (fun _ s'' => s'' = planes.foldl finF L) := by
  refine T.zero1 _ ?_
  have e : { s' with zeros := (rD 1).overlay s'.zeros v } = finF (finF L 0) 1 := by
    rw [h2, h1]
    exact finF_one _
  rw [e, bodyF_eq]
  refine T.fin [2, 3] _ ?_
  rw [hk]
  exact T.ret rfl

/-- From any contents of the buffers the body ends with the contents `bodyF` computes. -/
theorem T.body (i : grid0.Coords) (s : St F)  :
    T A (cc0_fold i A.a1 A.h1 A.a2 A.h2 A.a3 A.h3 A.a4 A.h4 A.a5 A.h5 A.a6 A.h6 A.a7 A.h7 A.a8 A.h8 A.a9 A.h9 A.a10 A.h10
      A.a11 A.h11 A.a12 A.h12 A.a13 A.h13 A.a14 A.h14 A.a15 A.h15) s (fun _ s' => s' = bodyF i s) := by
  unfold cc0_fold
  refine T.bind (T.part164 i s) fun v s' h => ?_
  unfold bodyF
  exact T.rest (loopsF (firstF i s)) s' (k := .ret ⟨⟩) rfl h.1 h.2
end Cert.Kernel.Fold
-- ==== Proof.Bits.Keep.lean ====
/- What the body leaves alone: the weights, the matrix, the signs, and — after the first point — the signed matrices. -/
module

public import proofs.«01_k».proof.Proof.Bits.BodyRun
public import Idealize.ShloMosaic.Lib.Pointwise

@[expose] public section

noncomputable section

namespace Cert.Kernel.Fold

open Idealize.ShloMosaic Idealize.ShloMosaic.TcCoe Idealize.ShloMosaic.Tactic
open Idealize.SL Idealize.SL.RA Idealize.SL.BI
open Idealize.SL.Sem
open Facts₀ Facts

variable {F : FTy → Type} [FloatOps F]
variable {A : Args} {α : Type} {s : St F} {Q : α → St F → Prop}

/-- The three inputs are the same. -/
def Same (s s' : St F) : Prop := s'.w = s.w ∧ s'.h = s.h ∧ s'.sg = s.sg

/-- The three inputs and the signed matrices are the same. -/
def Keeps (s s' : St F) : Prop := Same s s' ∧ s'.hs = s.hs

theorem Same.trans {a b c : St F} (h : Same a b) (h' : Same b c) : Same a c :=
  ⟨h'.1.trans h.1, h'.2.1.trans h.2.1, h'.2.2.trans h.2.2⟩

theorem Keeps.trans {a b c : St F} (h : Keeps a b) (h' : Keeps b c) : Keeps a c := ⟨h.1.trans h'.1, h'.2.trans h.2⟩

theorem Keeps.foldl {ι : Type} (f : St F → ι → St F) (hf : ∀ s i, Keeps s (f s i)) : ∀ (l : List ι) (s : St F), Keeps s (l.foldl f s)
  | [], s => ⟨⟨rfl, rfl, rfl⟩, rfl⟩
  | i :: l, s => (hf s i).trans (Keeps.foldl f hf l _)

theorem keeps_mm (s : St F) (j : Fin k0_t1_loop.trips) : Keeps s (mmF s j) := by
  unfold mmF
  exact ⟨⟨rfl, rfl, rfl⟩, rfl⟩
theorem keeps_fin (s : St F) (l : Fin 4) : Keeps s (finF s l) := by
  unfold finF
  exact ⟨⟨rfl, rfl, rfl⟩, rfl⟩
theorem keeps_half (j : Fin k0_t2_loop.trips) (q : Fin 2) (s : St F) : Keeps s (halfF j q s) := by
  unfold halfF
  exact ⟨⟨rfl, rfl, rfl⟩, rfl⟩
theorem keeps_stats (j : Fin k0_t2_loop.trips) (s : St F) : Keeps s (statsF j s) := by
  unfold statsF statsG
  exact ⟨⟨rfl, rfl, rfl⟩, rfl⟩
theorem keeps_quant (j : Fin k0_t2_loop.trips) (b : Fin 8) (s : St F) : Keeps s (quantF j b s) := by
  unfold quantF
  exact ⟨⟨rfl, rfl, rfl⟩, rfl⟩

theorem keeps_part (s : St F) (j : Fin k0_t2_loop.trips) : Keeps s (partF s j) := by
  unfold partF
  exact (keeps_half j 0 s).trans <| (keeps_half j 1 _).trans <| (keeps_stats j _).trans <| (keeps_quant j 0 _).trans <|
    (keeps_quant j 1 _).trans <| (keeps_quant j 2 _).trans <| (keeps_quant j 3 _).trans <| (keeps_quant j 4 _).trans <|
    (keeps_quant j 5 _).trans <| (keeps_quant j 6 _).trans <| keeps_quant j 7 _

/-- What the body does after the first point's work. -/
def restF (s : St F) : St F := planes.foldl finF (loopsF s)

theorem keeps_rest (s : St F) : Keeps s (restF s) := by
  unfold restF loopsF
  exact (Keeps.foldl mmF keeps_mm _ s).trans ((Keeps.foldl partF keeps_part _ _).trans (Keeps.foldl finF keeps_fin _ _))

theorem overlay_unit {s : Shape} {α : Type} (off sz : Fin s.rank → ℕ) (h : ∀ a, off a + sz a ≤ s.size a)
    (G : s.Idx → α) (v : (Rect.unit off sz h).shape.Idx → α) (x : s.Idx) (hx : ∀ a, off a ≤ (x a).val ∧ (x a).val < off a + sz a) :
    (Rect.unit off sz h).overlay G v x
      = v (fun a => ⟨(x a).val - off a, by have := hx a; show (x a).val - off a < sz a; omega⟩) := by
  have e : x = (Rect.unit off sz h).emb (fun a => ⟨(x a).val - off a, by have := hx a; show (x a).val - off a < sz a; omega⟩) := by
    funext a
    apply Fin.ext
    show (x a).val = off a + 1 * ((x a).val - off a)
    have := hx a
    omega
  conv_lhs => rw [e]
  rw [Rect.overlay_emb]

theorem overlay_unit_not {s : Shape} {α : Type} (off sz : Fin s.rank → ℕ) (h : ∀ a, off a + sz a ≤ s.size a)
    (G : s.Idx → α) (v : (Rect.unit off sz h).shape.Idx → α) (x : s.Idx) (a : Fin s.rank)
    (hx : ¬ (off a ≤ (x a).val ∧ (x a).val < off a + sz a)) : (Rect.unit off sz h).overlay G v x = G x := by
  rw [Rect.overlay_of_not_mem]
  intro hm
  obtain ⟨y, hy⟩ := (Rect.unit off sz h).exists_idx_of_mem hm
  apply hx
  have e : (x a).val = off a + 1 * (y a).val := by rw [← hy]; rfl
  have h2 : (y a).val < sz a := (y a).isLt
  omega

/-- The signed matrices, from the matrix and the signs. -/
def hsV (h : S512x512.Idx → Elt F .f32) (sg : S1x4096.Idx → Elt F .f32) : S8x512x512.Idx → Elt F .bf16 := fun x =>
  signV (fun y => sg ((rS (x 0)).toLoadRect.idx y)) (fun y => h (rM.toLoadRect.idx y)) (ix3 0 (x 1) (x 2))

theorem init_same (bs : List (Fin 8)) : ∀ s : St F, Same s (bs.foldl initF s) := by
  induction bs with
  | nil => intro s; exact ⟨rfl, rfl, rfl⟩
  | cons b bs ih =>
    intro s
    rw [List.foldl_cons]
    have h1 : Same s (initF s b) := by unfold initF; exact ⟨rfl, rfl, rfl⟩
    exact h1.trans (ih _)

/-- The cells of the block `b` after block `b`'s work. -/
theorem initF_hs (s : St F) (b c : Fin 8) (r k : Fin 512) :
    (initF s b).hs (ix3 c r k) = if c = b then hsV s.h s.sg (ix3 c r k) else s.hs (ix3 c r k) := by
  unfold initF rH
  dsimp only
  by_cases hx : c = b
  · rw [if_pos hx]
    subst hx
    rw [overlay_unit]
    · unfold hsV
      congr 1
      funext a
      apply Fin.ext
      fin_cases a
      · show c.val - c.val = 0; omega
      · show r.val - 0 = r.val; omega
      · show k.val - 0 = k.val; omega
    · intro a
      fin_cases a
      · show c.val ≤ c.val ∧ c.val < c.val + 1; omega
      · show 0 ≤ r.val ∧ r.val < 0 + 512; omega
      · show 0 ≤ k.val ∧ k.val < 0 + 512; omega
  · rw [if_neg hx, overlay_unit_not (a := (0 : Fin 3))]
    show ¬ (b.val ≤ c.val ∧ c.val < b.val + 1)
    omega

theorem init_hs (bs : List (Fin 8)) : ∀ (s : St F) (c : Fin 8) (r k : Fin 512),
    (bs.foldl initF s).hs (ix3 c r k) = if c ∈ bs then hsV s.h s.sg (ix3 c r k) else s.hs (ix3 c r k) := by
  induction bs with
  | nil => intro s c r k; simp
  | cons b bs ih =>
    intro s c r k
    rw [List.foldl_cons, ih, initF_hs]
    have e : hsV (initF s b).h (initF s b).sg (ix3 c r k) = hsV s.h s.sg (ix3 c r k) := by unfold initF; rfl
    rw [e]
    by_cases h1 : c ∈ bs
    · rw [if_pos h1, if_pos (List.mem_cons_of_mem _ h1)]
    · rw [if_neg h1]
      by_cases h2 : c = b
      · rw [if_pos h2, if_pos (by rw [h2]; exact List.mem_cons_self)]
      · rw [if_neg h2, if_neg (by simp [h1, h2])]

theorem mem_blocks : ∀ b : Fin 8, b ∈ blocks := by decide

/-- The first point's work leaves the signed matrices of its inputs, whatever was there. -/
theorem first_hs (s : St F) : (blocks.foldl initF s).hs = hsV s.h s.sg := by
  funext x
  idx_vars x
  rw [init_hs, if_pos (mem_blocks _)]

theorem first_same (i : grid0.Coords) (s : St F) : Same s (firstF i s) := by
  unfold firstF
  split
  · exact init_same _ s
  · exact ⟨rfl, rfl, rfl⟩

end Cert.Kernel.Fold
-- ==== Proof.Bits.Launch.lean ====
/- The launch: every grid point leaves in the three results' blocks what the body computes from the point's block of weights and
   the signed matrices, and the arguments are unchanged. -/
module

public import proofs.«01_k».proof.Proof.Bits.Keep
public import proofs.«01_k».proof.Proof.Gen.Kernel.Frame
public import Idealize.ShloMosaic.Lib.Pipeline.ArrRel

@[expose] public section

noncomputable section

namespace Cert.Kernel.Fold

open Idealize.ShloMosaic Idealize.ShloMosaic.TcCoe Idealize.ShloMosaic.Tactic
open Idealize.SL Idealize.SL.RA Idealize.SL.BI
open Idealize.SL.Sem

open Gen
open Idealize.ShloMosaic.Pipeline (RDat)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := Memref.whole cc0_scratch6
  h13 := Memref.isWhole_whole _
  a14 := Memref.whole cc0_scratch7
  h14 := Memref.isWhole_whole _
  a15 := Memref.whole cc0_scratch8
  h15 := Memref.isWhole_whole _

/-- Core `c`'s signed matrices: of the matrix and the signs the first point finds. -/
def hsAt (c : Dev nD) : S8x512x512.Idx → Elt F .bf16 := hsV (iblk m c 1 ⟨0, by decide⟩) (iblk m c 2 ⟨0, by decide⟩)

/-- The invariant between points: the scratch buffers, the signed matrices in the first of them after the first point. -/
def inv (c : Dev nD) (t : Fin (cfg0.N + 1)) : sProp 𝕄 :=
  iprop(∃ (x7 : S8x512x512.Idx → Elt F .bf16) (x8 : S8x512x512.Idx → Elt F .f32) (x9 x10 : S128x128.Idx → Elt F .f32) (x11 : S16x128.Idx → Elt F .f32)
      (x12 x13 : S16x128.Idx → Elt F .i32) (x14 : S4x32x128.Idx → Elt F .f32) (x15 : S4x32x128.Idx → Elt F .i32),
    ⌜t.val ≠ 0 → x7 = hsAt m c⌝
    ∗ owns (c : Thread nD τ) (Memref.whole cc0_scratch0) fullShare x7 ∗ owns (c : Thread nD τ) (Memref.whole cc0_scratch1) fullShare x8
    ∗ owns (c : Thread nD τ) (Memref.whole cc0_scratch2) fullShare x9 ∗ owns (c : Thread nD τ) (Memref.whole cc0_scratch3) fullShare x10
    ∗ owns (c : Thread nD τ) (Memref.whole cc0_scratch4) fullShare x11 ∗ owns (c : Thread nD τ) (Memref.whole cc0_scratch5) fullShare x12
    ∗ owns (c : Thread nD τ) (Memref.whole cc0_scratch6) fullShare x13 ∗ owns (c : Thread nD τ) (Memref.whole cc0_scratch7) fullShare x14
    ∗ owns (c : Thread nD τ) (Memref.whole cc0_scratch8) fullShare x15 ∗ ∃ r, prngReg c r)

/-- What a point starts from after the first point's work. -/
def Starts (c : Dev nD) (t : Fin cfg0.N) (s : St F) : Prop := s.w = iblk m c 0 t ∧ s.hs = hsAt m c

/-- What the body may leave in each window's buffer at a point. -/
def afterR (c : Dev nD) : (w : Fin cfg0.W) → Fin cfg0.N → (Y X : (cfg0.win w).block.Idx → Elt F (cfg0.win w).elt) → Prop
  | 0, _ => fun Y X => X = Y
  | 1, _ => fun Y X => X = Y
  | 2, _ => fun Y X => X = Y
  | 3, t => fun _ X => ∃ s : St F, Starts m c t s ∧ X = (restF s).codes
  | 4, t => fun _ X => ∃ s : St F, Starts m c t s ∧ X = (restF s).scales
  | 5, t => fun _ X => ∃ s : St F, Starts m c t s ∧ X = (restF s).zeros
  | ⟨_ + 6, h⟩, _ => absurd h (by show ¬ (_ + 6 < 6); omega)

/-- The launch's data on core `c`. -/
def rdat (c : Dev nD) : RDat τ (Elt F) Unit ℕ (UR sig nD τ) ℕ cfg0 c where
  A w := V m c (Pipeline.arrRef spec0 w)
  after := afterR m c
  Φ := inv m c
  q _ := fullShare
  owed _ := 0

theorem first_iff : ∀ t : Fin grid0.N, atFirst (grid0.coords t) ↔ t.val = 0 := by decide

theorem iblk1 (c : Dev nD) (t t' : Fin cfg0.N) : iblk m c 1 t = iblk m c 1 t' := rfl
theorem iblk2 (c : Dev nD) (t t' : Fin cfg0.N) : iblk m c 2 t = iblk m c 2 t' := rfl

theorem inv_in (c : Dev nD) : Pipeline.ΦA spec0 c ⊢ inv m c 0 := by
  unfold Pipeline.ΦA inv
  rw [scopedRest0_eq]
  simp only [owns_whole]
  iintro ⟨⟨⟨%a, H1⟩, ⟨%b, H2⟩, ⟨%d, H3⟩, ⟨%e, H4⟩, ⟨%f, H5⟩, ⟨%g, H6⟩, ⟨%h, H7⟩, ⟨%i, H8⟩, ⟨%k, H9⟩⟩, Hr⟩
  iexists a, b, d, e, f, g, h, i, k
  isplitr
  · ipureintro; intro h; exact absurd rfl h
  iframe

theorem inv_out (c : Dev nD) (t) : inv m c t ⊢ Pipeline.ΦA spec0 c := by
  unfold Pipeline.ΦA inv
  rw [scopedRest0_eq]
  simp only [owns_whole]
  iintro ⟨%a, %b, %d, %e, %f, %g, %h, %i, %k, %hx, H1, H2, H3, H4, H5, H6, H7, H8, H9, Hr⟩
  isplitr [Hr]
  · isplitl [H1]; · iexists a; iexact H1
    isplitl [H2]; · iexists b; iexact H2
    isplitl [H3]; · iexists d; iexact H3
    isplitl [H4]; · iexists e; iexact H4
    isplitl [H5]; · iexists f; iexact H5
    isplitl [H6]; · iexists g; iexact H6
    isplitl [H7]; · iexists h; iexact H7
    isplitl [H8]; · iexists i; iexact H8
    iexists k; iexact H9
  iexact Hr

theorem finds0 (c : Dev nD) (t : Fin cfg0.N) (Y) (h : (rdat m c).Finds 0 t Y) : Y = iblk m c 0 t := by
  obtain ⟨d, hd⟩ := RDat.finds_in_eq_fetched (rd := rdat m c) 0 rfl (fun _ _ _ => rfl) (fun _ _ _ h => h) t Y h
  exact hd
theorem finds1 (c : Dev nD) (t : Fin cfg0.N) (Y) (h : (rdat m c).Finds 1 t Y) : Y = iblk m c 1 t := by
  obtain ⟨d, hd⟩ := RDat.finds_in_eq_fetched (rd := rdat m c) 1 rfl (fun _ _ _ => rfl) (fun _ _ _ h => h) t Y h
  exact hd
theorem finds2 (c : Dev nD) (t : Fin cfg0.N) (Y) (h : (rdat m c).Finds 2 t Y) : Y = iblk m c 2 t := by
  obtain ⟨d, hd⟩ := RDat.finds_in_eq_fetched (rd := rdat m c) 2 rfl (fun _ _ _ => rfl) (fun _ _ _ h => h) t Y h
  exact hd

theorem defs₀_row (t : Fin cfg0.N) : defs₀ (F := F) .tc cfg0.body (cfg0.bodyArgs t (cfg0.slots t)) = bodyAt0 t := by
  unfold defs₀; rw [Defs.onTc_tc]

/-- What the first point's work, done or not, leaves for the rest of the point. -/
theorem starts (c : Dev nD) (t : Fin cfg0.N) (s : St F) (hw : s.w = iblk m c 0 t) (hh : s.h = iblk m c 1 t) (hs : s.sg = iblk m c 2 t)
    (h7 : t.val ≠ 0 → s.hs = hsAt m c) : Starts m c t (firstF (grid0.coords t) s) := by
  refine ⟨(first_same _ s).1.trans hw, ?_⟩
  unfold firstF
  by_cases h0 : t.val = 0
  · rw [if_pos ((first_iff t).mpr h0), first_hs, hh, hs, hsAt, iblk1 m c t ⟨0, by decide⟩, iblk2 m c t ⟨0, by decide⟩]
  · rw [if_neg (fun h => h0 ((first_iff t).mp h))]
    exact h7 h0

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  rw [show (rdat m c).Φ t.castSucc = inv m c t.castSucc from rfl, show (rdat m c).Φ t.succ = inv m c t.succ from rfl,
    show (rdat m c).owesAt () t.succ = (rdat m c).owesAt () t.castSucc from rfl]
  unfold inv
  iintro ⟨⟨%x7, %x8, %x9, %x10, %x11, %x12, %x13, %x14, %x15, %hx, H7, H8, H9, H10, H11, H12, H13, H14, H15, Hr⟩, HO, H1, H2, H3, H4, H5, H6⟩
  have hx' : t.val ≠ 0 → x7 = hsAt m c := hx
  have hb := T.body (A := argsAt t) (grid0.coords t) (⟨Y 0, Y 1, Y 2, Y 3, Y 4, Y 5, x7, x8, x9, x10, x11, x12, x13, x14, x15⟩ : St F)
    Variants.none c none Set.univ
  have hst := starts m c t (⟨Y 0, Y 1, Y 2, Y 3, Y 4, Y 5, x7, x8, x9, x10, x11, x12, x13, x14, x15⟩ : St F) e0 e1 e2 hx'
  have hsame := first_same (grid0.coords t) (⟨Y 0, Y 1, Y 2, Y 3, Y 4, Y 5, x7, x8, x9, x10, x11, x12, x13, x14, x15⟩ : St F)
  generalize hs1 : firstF (grid0.coords t) (⟨Y 0, Y 1, Y 2, Y 3, Y 4, Y 5, x7, x8, x9, x10, x11, x12, x13, x14, x15⟩ : St F) = s1 at hst hsame
  have hkeep := keeps_rest s1
  have hbody : bodyF (grid0.coords t) (⟨Y 0, Y 1, Y 2, Y 3, Y 4, Y 5, x7, x8, x9, x10, x11, x12, x13, x14, x15⟩ : St F) = restF s1 := by
    unfold bodyF restF; rw [hs1]
  rw [hbody] at hb
  iapply (wp_wand_r _ _ _)
  isplitl [H1 H2 H3 H4 H5 H6 H7 H8 H9 H10 H11 H12 H13 H14 H15]
  · iapply hb
    unfold own argsAt
    iframe
  iintro %a ⟨%s', %hs', HB⟩
  subst hs'
  unfold own argsAt
  icases HB with ⟨H1, H2, H3, H4, H5, H6, H7, H8, H9, H10, H11, H12, H13, H14, H15⟩
  isplitl [H7 H8 H9 H10 H11 H12 H13 H14 H15 Hr]
  · iexists (restF s1).hs, (restF s1).u, (restF s1).pmx, (restF s1).pmn, (restF s1).rs, (restF s1).ze, (restF s1).zo, (restF s1).sct, (restF s1).zct
    isplitr
    · ipureintro; intro _; exact hkeep.2.trans hst.2
    iframe
  isplitl [HO]
  · iexact HO
  isplitl [H1]
  · iexists (restF s1).w; isplitr
    · ipureintro; exact hkeep.1.1.trans hsame.1
    · iexact H1
  isplitl [H2]
  · iexists (restF s1).h; isplitr
    · ipureintro; exact hkeep.1.2.1.trans hsame.2.1
    · iexact H2
  isplitl [H3]
  · iexists (restF s1).sg; isplitr
    · ipureintro; exact hkeep.1.2.2.trans hsame.2.2
    · iexact H3
  isplitl [H4]
  · iexists (restF s1).codes; isplitr
    · ipureintro; exact ⟨s1, hst, rfl⟩
    · iexact H4
  isplitl [H5]
  · iexists (restF s1).scales; isplitr
    · ipureintro; exact ⟨s1, hst, rfl⟩
    · iexact H5
  · iexists (restF s1).zeros; isplitr
    · ipureintro; exact ⟨s1, hst, rfl⟩
    · iexact H6

/-- The run: the three results are written block by block, everything else is as launched, and no semaphore is left up. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs 0 launch0 defs₀ Variants.none (rdat m) m ρ main (body_obligation m)
    (fun c w => by unfold RDat.share; split <;> rfl) (fun _ _ => rfl) (V m) (hmain m Variants.none) (fun _ _ => rfl) (inv_in m)
    (fun c => inv_out m c _) (hQ' := fun _ h => h)

theorem final_arg0 {r : PUnit × MemSt nD τ sig (Elt F)} (h : Pipeline.RDat.FramePost (cfgs 0) (rdat m) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem final_arg1 {r : PUnit × MemSt nD τ sig (Elt F)} (h : Pipeline.RDat.FramePost (cfgs 0) (rdat m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

end Cert.Kernel.Fold
-- ==== Proof.Frames.lean ====
/- The three frames: each program terminates without a fault, leaves its arguments as they were and every
   semaphore at zero.  The kernel's two are its run (Launch.lean, at either reading of the floats). -/
module

public import proofs.«01_k».proof.Defs
public import proofs.«01_k».proof.Proof.Launch
public import proofs.«01_k».proof.Proof.Bits.Launch
public import proofs.«01_k».proof.Proof.Gen.ReferenceIdeal.Run

@[expose] public section

noncomputable section

namespace Cert.Proof

open Idealize.ShloMosaic Idealize.SL.Sem

theorem frame_p : Cert.quiescent_Kernel := fun m ρ _ =>
  (θ_run Cert.Kernel.defs _ _).mono
    (fun _ h => ⟨fun c => ⟨Cert.Kernel.Fold.final_arg0 m h.1 c, Cert.Kernel.Fold.final_arg1 m h.1 c⟩, h.2⟩)
    (Cert.Kernel.Fold.run_main (F := Bits) m ρ)

theorem frame_pi : Cert.quiescent_KernelIdeal := fun m ρ _ =>
  (θ_run Cert.KernelIdeal.defs _ _).mono
    (fun _ h => ⟨fun c => ⟨Cert.KernelIdeal.Fold.final_arg0 m h.1 c, Cert.KernelIdeal.Fold.final_arg1 m h.1 c⟩, h.2⟩)
    (Cert.KernelIdeal.Fold.run_main (F := Ideal) m ρ)

theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

end Cert.Proof

end
-- ==== Proof.Scalar.lean ====
/- The quantiser on one value, over the extended reals, as the reference writes it and as the kernel does: the kernel
   multiplies by the reciprocal of the scale, clips above an offset of 128 or 16, and reads two codes from one word. -/
module

public import Idealize.ShloMosaic.Lib.Pointwise
public import Idealize.ShloMosaic.Lib.BitcastPair

@[expose] public section

noncomputable section

namespace Cert.Quantiser

open Idealize.ShloMosaic

theorem ofBits_one : Ideal.ofBits .f32 0x3F800000#32 = ((1 : ℝ) : EReal) := by
  simp [Ideal.ofBits, Ideal.ieee, -EReal.coe_mul] <;> norm_num
theorem ofBits_fifteen : Ideal.ofBits .f32 0x41700000#32 = ((15 : ℝ) : EReal) := by
  simp [Ideal.ofBits, Ideal.ieee, -EReal.coe_mul] <;> norm_num
theorem ofBits_128 : Ideal.ofBits .f32 0x43000000#32 = ((128 : ℝ) : EReal) := by
  simp [Ideal.ofBits, Ideal.ieee, -EReal.coe_mul] <;> norm_num
theorem ofBits_16 : Ideal.ofBits .f32 0x41800000#32 = ((16 : ℝ) : EReal) := by
  simp [Ideal.ofBits, Ideal.ieee, -EReal.coe_mul] <;> norm_num
theorem ofBits_64th : Ideal.ofBits .f32 0x3C800000#32 = ((1 / 64 : ℝ) : EReal) := by
  simp [Ideal.ofBits, Ideal.ieee, -EReal.coe_mul] <;> norm_num
theorem ofBits_lo128 : Ideal.ofBits .bf16 0x4300#16 = ((128 : ℝ) : EReal) := by
  simp [Ideal.ofBits, Ideal.ieee, -EReal.coe_mul] <;> norm_num
theorem ofBits_hi143 : Ideal.ofBits .bf16 0x430F#16 = ((143 : ℝ) : EReal) := by
  simp [Ideal.ofBits, Ideal.ieee, -EReal.coe_mul] <;> norm_num
theorem ofBits_lo16 : Ideal.ofBits .bf16 0x4180#16 = ((16 : ℝ) : EReal) := by
  simp [Ideal.ofBits, Ideal.ieee, -EReal.coe_mul] <;> norm_num
theorem ofBits_hi31 : Ideal.ofBits .bf16 0x41F8#16 = ((31 : ℝ) : EReal) := by
  simp [Ideal.ofBits, Ideal.ieee, -EReal.coe_mul] <;> norm_num

theorem ofBits_z128 (n : Fin 16) : Ideal.ofBits .bf16 (BitVec.ofNat 16 (0x4300 + n.val)) = ((128 + n.val : ℝ) : EReal) := by
  fin_cases n <;> (simp [Ideal.ofBits, Ideal.ieee, -EReal.coe_mul, -EReal.coe_add] <;> norm_num)
theorem ofBits_z16 (n : Fin 16) : Ideal.ofBits .bf16 (BitVec.ofNat 16 (0x4180 + 8 * n.val)) = ((16 + n.val : ℝ) : EReal) := by
  fin_cases n <;> (simp [Ideal.ofBits, Ideal.ieee, -EReal.coe_mul, -EReal.coe_add] <;> norm_num)

/-- The scale of a group, from its maximum and minimum. -/
def scaleE (mx mn : EReal) : EReal :=
  Scalar.select (Ideal.cmp .oeq mx mn) (Ideal.ofBits .f32 0x3F800000#32) (Ideal.div (mx - mn) (Ideal.ofBits .f32 0x41700000#32))

/-- The zero point of a group. -/
def zeroE (mn sc : EReal) : EReal :=
  min (Ideal.ofBits .f32 0x41700000#32) (max (Ideal.ofBits .f32 0x00000000#32) (Ideal.liftRound Ideal.roundHalfEven (Ideal.div (-mn) sc)))

/-- The code of a value. -/
def codeE (x sc z : EReal) : EReal :=
  min (Ideal.ofBits .f32 0x41700000#32) (max (Ideal.ofBits .f32 0x00000000#32) (Ideal.liftRound Ideal.roundHalfEven (Ideal.div x sc) + z))

/-- The byte of two values. -/
def byteE (x y sc z : EReal) : BitVec 8 :=
  (Ideal.fptosi 32 (codeE x sc z) ||| Ideal.fptosi 32 (codeE y sc z) <<< 4).setWidth 8

/-- An integer cut to `0 … 15`. -/
def clip (k : ℤ) : Fin 16 := ⟨(min 15 (max 0 k)).toNat, by omega⟩

theorem clip_val (k : ℤ) : ((clip k).val : ℤ) = min 15 (max 0 k) := by
  show (((min 15 (max 0 k)).toNat : ℕ) : ℤ) = _
  omega

theorem div_coe (x s : ℝ) (hs : s ≠ 0) : Ideal.div (x : EReal) (s : EReal) = ((x / s : ℝ) : EReal) := by
  unfold Ideal.div
  rw [if_neg (by exact_mod_cast hs), ← EReal.coe_inv, ← EReal.coe_mul, div_eq_mul_inv]

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

theorem clip_real (k : ℤ) : min (15 : ℝ) (max 0 (k : ℝ)) = ((clip k).val : ℝ) := by
  have h := clip_val k
  have : (((clip k).val : ℤ) : ℝ) = ((min 15 (max 0 k) : ℤ) : ℝ) := by rw [h]
  push_cast at this
  rw [this]

theorem codeE_coe (x s : ℝ) (hs : s ≠ 0) (n : Fin 16) :
    codeE x s ((n.val : ℝ) : EReal) = (((clip (Ideal.roundHalfEven (x / s) + n.val)).val : ℝ) : EReal) := by
  unfold codeE
  rw [div_coe x s hs, Ideal.liftRound_coe, ofBits_fifteen, Ideal.ofBits_zero_f32, ← EReal.coe_zero, ← EReal.coe_add, coe_max, coe_min,
    ← clip_real]
  push_cast
  rfl

/-- The kernel's code: by the reciprocal, above an offset. -/
theorem kcode_coe (x s lo : ℝ) (hs : s ≠ 0) (n : Fin 16) :
    min (max (Ideal.liftRound Ideal.roundHalfEven ((x : EReal) * Ideal.div ((1 : ℝ) : EReal) s) + ((lo + n.val : ℝ) : EReal)) (lo : EReal))
        ((lo + 15 : ℝ) : EReal) - (lo : EReal) = (((clip (Ideal.roundHalfEven (x / s) + n.val)).val : ℝ) : EReal) := by
  rw [div_coe 1 s hs, ← EReal.coe_mul, Ideal.liftRound_coe, ← EReal.coe_add, coe_max, coe_min, ← EReal.coe_sub, ← clip_real]
  rw [show x * (1 / s) = x / s by ring]
  congr 1
  push_cast
  generalize (Ideal.roundHalfEven (x / s) : ℝ) = k
  rw [min_def, min_def, max_def, max_def]
  split_ifs <;> linarith

theorem zeroE_coe (mn s : ℝ) (hs : s ≠ 0) : ∃ n : Fin 16, zeroE mn s = ((n.val : ℝ) : EReal) := by
  refine ⟨clip (Ideal.roundHalfEven (-mn / s)), ?_⟩
  unfold zeroE
  rw [← EReal.coe_neg, div_coe _ s hs, Ideal.liftRound_coe, ofBits_fifteen, Ideal.ofBits_zero_f32, ← EReal.coe_zero, coe_max, coe_min, clip_real]

theorem scaleE_coe (mx mn : ℝ) : ∃ s : ℝ, s ≠ 0 ∧ scaleE mx mn = (s : EReal) := by
  unfold scaleE Ideal.cmp
  by_cases h : mx = mn
  · refine ⟨1, one_ne_zero, ?_⟩
    rw [show decide ((mx : EReal) = (mn : EReal)) = true by simpa using h, ofBits_one]
    rfl
  · refine ⟨(mx - mn) / 15, div_ne_zero (sub_ne_zero.mpr h) (by norm_num), ?_⟩
    rw [show decide ((mx : EReal) = (mn : EReal)) = false by simpa using h, ofBits_fifteen, ← EReal.coe_sub, div_coe _ 15 (by norm_num)]
    rfl

theorem fptosi_fin (w : ℕ) (hw : 6 ≤ w) (n : Fin 16) : Ideal.fptosi w ((n.val : ℝ) : EReal) = BitVec.ofNat w n.val := by
  have h5 : 2 ^ 5 ≤ 2 ^ (w - 1) := Nat.pow_le_pow_right (by norm_num) (by omega)
  show BitVec.ofInt w (max _ (min _ (if 0 ≤ ((n.val : ℝ)) then ⌊(n.val : ℝ)⌋ else ⌈(n.val : ℝ)⌉))) = _
  rw [if_pos (Nat.cast_nonneg _), Int.floor_natCast, min_eq_right (by have := n.isLt; omega), max_eq_right (by omega), BitVec.ofInt_natCast]

/-- The kernel's word of four codes, read back as bytes. -/
theorem word_half (a0 a1 b0 b1 : Fin 16) (k : ℕ) (hk : k < 2) :
    (BitVec.extractLsb' (16 * k) 16
        (((BitVec.ofNat 16 (0x4300 + a1.val) ++ BitVec.ofNat 16 (0x4300 + a0.val) : BitVec 32))
          + (((BitVec.ofNat 16 (0x4180 + 8 * b1.val) ++ BitVec.ofNat 16 (0x4180 + 8 * b0.val) : BitVec 32))
            + ((BitVec.ofNat 16 (0x4180 + 8 * b1.val) ++ BitVec.ofNat 16 (0x4180 + 8 * b0.val) : BitVec 32))))).setWidth 8
      = BitVec.ofNat 8 ((if k = 0 then a0.val else a1.val) + 16 * (if k = 0 then b0.val else b1.val)) := by
  have e : ∀ x y : ℕ, x < 65536 → y < 65536 → (BitVec.ofNat 16 x ++ BitVec.ofNat 16 y : BitVec 32).toNat = x * 65536 + y := by
    intro x y hx hy
    rw [BitVec.toNat_append, BitVec.toNat_ofNat, BitVec.toNat_ofNat, Nat.mod_eq_of_lt hx, Nat.mod_eq_of_lt hy, Nat.shiftLeft_eq,
      Nat.mul_comm, ← Nat.two_pow_add_eq_or_of_lt hy]
  apply BitVec.eq_of_toNat_eq
  have := a0.isLt; have := a1.isLt; have := b0.isLt; have := b1.isLt
  rw [BitVec.toNat_setWidth, BitVec.extractLsb'_toNat, BitVec.toNat_add, BitVec.toNat_add, e _ _ (by omega) (by omega),
    e _ _ (by omega) (by omega), BitVec.toNat_ofNat, Nat.shiftRight_eq_div_pow]
  obtain rfl | rfl : k = 0 ∨ k = 1 := by omega
  · simp only [if_true]; omega
  · simp only [one_ne_zero, if_false]; omega

theorem byteE_coe (x y s : ℝ) (hs : s ≠ 0) (n : Fin 16) :
    byteE x y s ((n.val : ℝ) : EReal) = BitVec.ofNat 8 ((clip (Ideal.roundHalfEven (x / s) + n.val)).val
      + 16 * (clip (Ideal.roundHalfEven (y / s) + n.val)).val) := by
  unfold byteE
  rw [codeE_coe x s hs, codeE_coe y s hs, fptosi_fin 32 (by norm_num), fptosi_fin 32 (by norm_num)]
  generalize clip (Ideal.roundHalfEven (x / s) + n.val) = a
  generalize clip (Ideal.roundHalfEven (y / s) + n.val) = b
  revert a b
  decide +kernel

end Cert.Quantiser

end
-- ==== Proof.Transform.lean ====
/- The Walsh–Hadamard transform by levels, and its first levels as sums of signed entries. -/
module

public import proofs.«01_k».proof.Proof.Scalar

@[expose] public section

noncomputable section

namespace Cert.Transform

/-- Level by level: `m` butterflies, with strides `1, 2, 4, …`, of the sequence `v`. -/
def F (v : ℕ → ℝ) : ℕ → ℕ → ℝ
  | 0, i => v i
  | m + 1, i => if i / 2 ^ m % 2 = 0 then F v m i + F v m (i + 2 ^ m) else F v m (i - 2 ^ m) - F v m i

/-- The sign of the low `m` bits of `x`. -/
def χ : ℕ → ℕ → ℝ
  | 0, _ => 1
  | m + 1, x => (if x / 2 ^ m % 2 = 1 then -1 else 1) * χ m x

/-- The sign that entry `k` takes in place `i`. -/
def H : ℕ → ℕ → ℕ → ℝ
  | 0, _, _ => 1
  | m + 1, i, k => (if i / 2 ^ m % 2 = 1 ∧ k / 2 ^ m % 2 = 1 then -1 else 1) * H m i k

theorem H_and (m i k : ℕ) : H m i k = χ m (i &&& k) := by
  induction m with
  | zero => rfl
  | succ m ih =>
    unfold H χ
    rw [ih]
    congr 1
    have h : ∀ x : ℕ, x / 2 ^ m % 2 = 1 ↔ x.testBit m = true := fun x => by
      rw [Nat.testBit_eq_decide_div_mod_eq]; simp
    simp only [h, Nat.testBit_and, Bool.and_eq_true]

theorem bit_add (m n i : ℕ) (h : m < n) : (i + 2 ^ n) / 2 ^ m % 2 = i / 2 ^ m % 2 := by
  obtain ⟨d, rfl⟩ : ∃ d, n = m + (d + 1) := ⟨n - m - 1, by omega⟩
  rw [pow_add, Nat.add_mul_div_left _ _ (by positivity), pow_succ]
  omega

theorem H_left (m n i k : ℕ) (h : m ≤ n) : H m (i + 2 ^ n) k = H m i k := by
  induction m with
  | zero => rfl
  | succ m ih => unfold H; rw [ih (by omega), bit_add m n i (by omega)]

theorem H_right (m n i k : ℕ) (h : m ≤ n) : H m i (k + 2 ^ n) = H m i k := by
  induction m with
  | zero => rfl
  | succ m ih => unfold H; rw [ih (by omega), bit_add m n k (by omega)]

/-- The first `m` levels make of each block of `2 ^ m` entries the sums of its signed entries. -/
theorem F_sum (v : ℕ → ℝ) (m : ℕ) : ∀ i : ℕ,
    F v m i = ∑ k ∈ Finset.range (2 ^ m), H m i k * v (2 ^ m * (i / 2 ^ m) + k) := by
  induction m with
  | zero => intro i; simp [F, H]
  | succ m ih =>
    intro i
    have hp : 0 < 2 ^ m := by positivity
    have h2 : i / 2 ^ m = 2 * (i / 2 ^ (m + 1)) + i / 2 ^ m % 2 := by
      rw [pow_succ, ← Nat.div_div_eq_div_mul]; omega
    have hd : (2 : ℕ) ^ (m + 1) = 2 ^ m + 2 ^ m := by rw [pow_succ]; omega
    have hlow : ∀ k ∈ Finset.range (2 ^ m), ¬ k / 2 ^ m % 2 = 1 := fun k hk => by
      rw [Nat.div_eq_of_lt (Finset.mem_range.mp hk)]; omega
    have hhigh : ∀ k ∈ Finset.range (2 ^ m), (2 ^ m + k) / 2 ^ m % 2 = 1 := fun k hk => by
      rw [Nat.add_div_left _ hp, Nat.div_eq_of_lt (Finset.mem_range.mp hk)]
    rw [F, ih, ih, ih]
    conv_rhs => rw [hd, Finset.sum_range_add]
    by_cases hb : i / 2 ^ m % 2 = 0
    · rw [if_pos hb]
      have e1 : (i + 2 ^ m) / 2 ^ m = i / 2 ^ m + 1 := Nat.add_div_right _ hp
      congr 1
      · refine Finset.sum_congr rfl fun k hk => ?_
        rw [H, if_neg (fun h => hlow k hk h.2), one_mul, ← hd, pow_succ, mul_assoc, ← pow_succ]
        congr 2
        rw [h2, hb, add_zero]
      · refine Finset.sum_congr rfl fun k hk => ?_
        rw [H, if_neg (fun h => by omega), one_mul, e1, H_left _ _ _ _ le_rfl, add_comm (2 ^ m) k, H_right _ _ _ _ le_rfl]
        congr 2
        rw [h2, hb, add_zero, mul_add, ← mul_assoc, ← hd, pow_succ, ← pow_succ]
        ring
    · rw [if_neg hb]
      have hb1 : i / 2 ^ m % 2 = 1 := by omega
      have hi : 2 ^ m ≤ i := by
        by_contra h
        rw [Nat.div_eq_of_lt (by omega)] at hb1
        omega
      obtain ⟨j, rfl⟩ : ∃ j, i = j + 2 ^ m := ⟨i - 2 ^ m, by omega⟩
      have e1 : (j + 2 ^ m) / 2 ^ m = j / 2 ^ m + 1 := Nat.add_div_right _ hp
      rw [sub_eq_add_neg, ← Finset.sum_neg_distrib, Nat.add_sub_cancel]
      have h3 : j / 2 ^ m = 2 * ((j + 2 ^ m) / 2 ^ (m + 1)) := by omega
      congr 1
      · refine Finset.sum_congr rfl fun k hk => ?_
        rw [H, if_neg (fun h => hlow k hk h.2), one_mul, H_left _ _ _ _ le_rfl, h3, ← hd, pow_succ, mul_assoc, ← pow_succ]
      · refine Finset.sum_congr rfl fun k hk => ?_
        rw [H, if_pos ⟨hb1, hhigh k hk⟩, add_comm (2 ^ m) k, H_right _ _ _ _ le_rfl, e1, h3, neg_one_mul, neg_mul]
        congr 3
        rw [← hd, pow_succ, ← pow_succ]
        ring

/-- Three levels over eight entries. -/
def bflyR (x : ℕ → ℝ) : ℕ → ℝ
  | 0 => ((x 0 + x 1) + (x 2 + x 3)) + ((x 4 + x 5) + (x 6 + x 7))
  | 1 => ((x 0 - x 1) + (x 2 - x 3)) + ((x 4 - x 5) + (x 6 - x 7))
  | 2 => ((x 0 + x 1) - (x 2 + x 3)) + ((x 4 + x 5) - (x 6 + x 7))
  | 3 => ((x 0 - x 1) - (x 2 - x 3)) + ((x 4 - x 5) - (x 6 - x 7))
  | 4 => ((x 0 + x 1) + (x 2 + x 3)) - ((x 4 + x 5) + (x 6 + x 7))
  | 5 => ((x 0 - x 1) + (x 2 - x 3)) - ((x 4 - x 5) + (x 6 - x 7))
  | 6 => ((x 0 + x 1) - (x 2 + x 3)) - ((x 4 + x 5) - (x 6 + x 7))
  | _ => ((x 0 - x 1) - (x 2 - x 3)) - ((x 4 - x 5) - (x 6 - x 7))

theorem bfly_levels (g9 g10 g11 g12 : ℕ → ℝ)
    (e10 : ∀ c, c < 8 → g10 c = if c % 2 = 0 then g9 c + g9 (c + 1) else g9 (c - 1) - g9 c)
    (e11 : ∀ c, c < 8 → g11 c = if c / 2 % 2 = 0 then g10 c + g10 (c + 2) else g10 (c - 2) - g10 c)
    (e12 : ∀ c, c < 8 → g12 c = if c / 4 % 2 = 0 then g11 c + g11 (c + 4) else g11 (c - 4) - g11 c)
    (b : ℕ) (hb : b < 8) : g12 b = bflyR g9 b := by
  interval_cases b <;> simp [e12, e11, e10, bflyR]

/-- The three last levels of twelve: the entry of place `512 b + i` from the eight of places `512 c + i`. -/
theorem F_top (v : ℕ → ℝ) (b i : ℕ) (hb : b < 8) (hi : i < 512) :
    F v 12 (512 * b + i) = bflyR (fun c => F v 9 (512 * c + i)) b := by
  have s11 : ∀ j, F v 12 j = if j / 2048 % 2 = 0 then F v 11 j + F v 11 (j + 2048) else F v 11 (j - 2048) - F v 11 j := fun j => rfl
  have s10 : ∀ j, F v 11 j = if j / 1024 % 2 = 0 then F v 10 j + F v 10 (j + 1024) else F v 10 (j - 1024) - F v 10 j := fun j => rfl
  have s9 : ∀ j, F v 10 j = if j / 512 % 2 = 0 then F v 9 j + F v 9 (j + 512) else F v 9 (j - 512) - F v 9 j := fun j => rfl
  have e10 : ∀ c, c < 8 → F v 10 (512 * c + i) = if c % 2 = 0 then F v 9 (512 * c + i) + F v 9 (512 * (c + 1) + i) else F v 9 (512 * (c - 1) + i) - F v 9 (512 * c + i) := by
    intro c hc
    have a1 : (512 * c + i) / 512 % 2 = c % 2 := by omega
    rw [s9, a1]
    split_ifs with h
    · rw [show 512 * c + i + 512 = 512 * (c + 1) + i by omega]
    · rw [show 512 * c + i - 512 = 512 * (c - 1) + i by omega]
  have e11 : ∀ c, c < 8 → F v 11 (512 * c + i) = if c / 2 % 2 = 0 then F v 10 (512 * c + i) + F v 10 (512 * (c + 2) + i) else F v 10 (512 * (c - 2) + i) - F v 10 (512 * c + i) := by
    intro c hc
    have a1 : (512 * c + i) / 1024 % 2 = c / 2 % 2 := by omega
    rw [s10, a1]
    split_ifs with h
    · rw [show 512 * c + i + 1024 = 512 * (c + 2) + i by omega]
    · rw [show 512 * c + i - 1024 = 512 * (c - 2) + i by omega]
  have e12 : ∀ c, c < 8 → F v 12 (512 * c + i) = if c / 4 % 2 = 0 then F v 11 (512 * c + i) + F v 11 (512 * (c + 4) + i) else F v 11 (512 * (c - 4) + i) - F v 11 (512 * c + i) := by
    intro c hc
    have a1 : (512 * c + i) / 2048 % 2 = c / 4 % 2 := by omega
    rw [s11, a1]
    split_ifs with h
    · rw [show 512 * c + i + 2048 = 512 * (c + 4) + i by omega]
    · rw [show 512 * c + i - 2048 = 512 * (c - 4) + i by omega]
  exact bfly_levels (fun c => F v 9 (512 * c + i)) (fun c => F v 10 (512 * c + i)) (fun c => F v 11 (512 * c + i))
    (fun c => F v 12 (512 * c + i)) e10 e11 e12 b hb

end Cert.Transform
-- ==== Proof.RefLevel.lean ====
/- One level of a transform by stacked halves, read at a cell of a row. -/
module

public import proofs.«01_k».proof.Proof.Transform

@[expose] public section

noncomputable section

namespace Cert.Levels

open Idealize.ShloMosaic Idealize.ShloMosaic.TcCoe Idealize.ShloMosaic.Tactic
open Cert.Transform

variable {α : Type} {A B N s D N' s' : ℕ}

/-- A half of the pairs of a level. -/
theorem half_at (o : ℕ) (ho : o < 2) (x : (⟨5, ![A, B, N, 2, s]⟩ : Shape).Idx → α)
    (h : (⟨5, ![A, B, N, 2, s]⟩ : Shape).Slices ![0, 0, 0, o, 0] ⟨5, ![A, B, N, 1, s]⟩)
    (h' : (⟨5, ![A, B, N, 1, s]⟩ : Shape).ShapeCasts ⟨4, ![A, B, N, s]⟩) (a : Fin A) (b : Fin B) (p : Fin N) (r : Fin s) :
    shapeCast ⟨4, ![A, B, N, s]⟩ (extractStridedSlice ⟨5, ![A, B, N, 1, s]⟩ ![0, 0, 0, o, 0] x h) h' (ix4 a b p r)
      = x (ix5 a b p (⟨o, ho⟩ : Fin 2) r) := by
  rw [shapeCast_apply _ h' (ix4 a b p r) (ix5 a b p (0 : Fin 1) r)]
  · refine extractStridedSlice_apply _ x h _ _ ?_
    intro i
    fin_cases i
    · show a.val = 0 + a.val; omega
    · show b.val = 0 + b.val; omega
    · show p.val = 0 + p.val; omega
    · show o = o + 0; omega
    · show r.val = 0 + r.val; omega
  · rw [Shape.rowMajor_val_five, Shape.rowMajor_val_four]
    show (((a.val * B + b.val) * N + p.val) * 1 + 0) * s + r.val = ((a.val * B + b.val) * N + p.val) * s + r.val
    rw [mul_one, add_zero]

/-- A broadcast of a level's cells to pairs of one. -/
theorem unit_at (y : (⟨4, ![A, B, N, s]⟩ : Shape).Idx → α)
    (h : (⟨4, ![A, B, N, s]⟩ : Shape).BroadcastsInDim ⟨5, ![A, B, N, 1, s]⟩ ![0, 1, 2, 4]) (a : Fin A) (b : Fin B) (p : Fin N) (r : Fin s) :
    broadcastInDim ⟨5, ![A, B, N, 1, s]⟩ ![0, 1, 2, 4] h y (ix5 a b p (0 : Fin 1) r) = y (ix4 a b p r) := by
  refine broadcastInDim_apply _ h y _ _ ?_
  have key : ∀ (n : ℕ) (k : Fin n), k.val = if n = 1 then 0 else k.val := fun n k => by
    split_ifs with e
    · omega
    · rfl
  intro i
  fin_cases i
  · exact key A a
  · exact key B b
  · exact key N p
  · exact key s r

/-- Pairs stacked, as one row. -/
theorem stack_at (y0 y1 : (⟨5, ![A, B, N, 1, s]⟩ : Shape).Idx → α)
    (h : Shape.Concatenates [⟨5, ![A, B, N, 1, s]⟩, ⟨5, ![A, B, N, 1, s]⟩] ⟨5, ![A, B, N, 2, s]⟩ 3)
    (a : Fin A) (b : Fin B) (p : Fin N) (q : Fin 2) (r : Fin s) :
    concatenate ⟨5, ![A, B, N, 2, s]⟩ 3 [⟨⟨5, ![A, B, N, 1, s]⟩, y0⟩, ⟨⟨5, ![A, B, N, 1, s]⟩, y1⟩] h (ix5 a b p q r)
      = if q.val = 0 then y0 (ix5 a b p (0 : Fin 1) r) else y1 (ix5 a b p (0 : Fin 1) r) := by
  by_cases hq : q.val = 0
  · rw [if_pos hq]
    refine concatenate_pair_apply_left _ y0 y1 h _ rfl _ ?_
    intro i
    fin_cases i
    · rfl
    · rfl
    · rfl
    · exact hq.symm
    · rfl
  · rw [if_neg hq]
    refine concatenate_pair_apply_right _ y0 y1 h _ rfl rfl _ ?_ ?_
    · intro i hi
      fin_cases i
      · rfl
      · rfl
      · rfl
      · exact absurd rfl hi
      · rfl
    · show 0 + 1 = q.val
      omega

/-- A row's cell among its pairs. -/
theorem row_at (x : (⟨5, ![A, B, N, 2, s]⟩ : Shape).Idx → α) (h : (⟨5, ![A, B, N, 2, s]⟩ : Shape).ShapeCasts ⟨3, ![A, B, D]⟩)
    (hD : D = N * (2 * s)) (a : Fin A) (b : Fin B) (i : Fin D) (p : Fin N) (q : Fin 2) (r : Fin s) (e : i.val = p.val * (2 * s) + q.val * s + r.val) :
    shapeCast ⟨3, ![A, B, D]⟩ x h (ix3 a b i) = x (ix5 a b p q r) := by
  apply shapeCast_apply
  rw [Shape.rowMajor_val_five, Shape.rowMajor_val_three]
  show (((a.val * B + b.val) * N + p.val) * 2 + q.val) * s + r.val = (a.val * B + b.val) * D + i.val
  rw [e, hD]
  ring

theorem pairs_at (x : (⟨3, ![A, B, D]⟩ : Shape).Idx → α) (h : (⟨3, ![A, B, D]⟩ : Shape).ShapeCasts ⟨5, ![A, B, N, 2, s]⟩)
    (hD : D = N * (2 * s)) (a : Fin A) (b : Fin B) (i : Fin D) (p : Fin N) (q : Fin 2) (r : Fin s) (e : i.val = p.val * (2 * s) + q.val * s + r.val) :
    shapeCast ⟨5, ![A, B, N, 2, s]⟩ x h (ix5 a b p q r) = x (ix3 a b i) := by
  apply shapeCast_apply
  rw [Shape.rowMajor_val_five, Shape.rowMajor_val_three]
  show (a.val * B + b.val) * D + i.val = (((a.val * B + b.val) * N + p.val) * 2 + q.val) * s + r.val
  rw [e, hD]
  ring

/-- One level: sums and differences of the halves of the pairs, stacked, as rows. -/
theorem level (v : ℕ → ℝ) (m : ℕ) (hs : s = 2 ^ m) (x : (⟨5, ![A, B, N, 2, s]⟩ : Shape).Idx → EReal) (a : Fin A) (b : Fin B)
    (hx : ∀ (p : Fin N) (q : Fin 2) (r : Fin s), x (ix5 a b p q r) = ((F v m (p.val * (2 * s) + q.val * s + r.val) : ℝ) : EReal))
    (hD : D = N * (2 * s))
    (h0 : (⟨5, ![A, B, N, 2, s]⟩ : Shape).Slices ![0, 0, 0, 0, 0] ⟨5, ![A, B, N, 1, s]⟩)
    (h1 : (⟨5, ![A, B, N, 2, s]⟩ : Shape).Slices ![0, 0, 0, 1, 0] ⟨5, ![A, B, N, 1, s]⟩)
    (h' : (⟨5, ![A, B, N, 1, s]⟩ : Shape).ShapeCasts ⟨4, ![A, B, N, s]⟩)
    (hb : (⟨4, ![A, B, N, s]⟩ : Shape).BroadcastsInDim ⟨5, ![A, B, N, 1, s]⟩ ![0, 1, 2, 4])
    (hc : Shape.Concatenates [⟨5, ![A, B, N, 1, s]⟩, ⟨5, ![A, B, N, 1, s]⟩] ⟨5, ![A, B, N, 2, s]⟩ 3)
    (hr : (⟨5, ![A, B, N, 2, s]⟩ : Shape).ShapeCasts ⟨3, ![A, B, D]⟩) (y0 y1 : FVec Ideal ⟨4, ![A, B, N, s]⟩ .f32)
    (e0 : y0 = shapeCast ⟨4, ![A, B, N, s]⟩ (extractStridedSlice ⟨5, ![A, B, N, 1, s]⟩ ![0, 0, 0, 0, 0] x h0) h')
    (e1 : y1 = shapeCast ⟨4, ![A, B, N, s]⟩ (extractStridedSlice ⟨5, ![A, B, N, 1, s]⟩ ![0, 0, 0, 1, 0] x h1) h') (i : Fin D) :
    shapeCast ⟨3, ![A, B, D]⟩ (concatenate ⟨5, ![A, B, N, 2, s]⟩ 3
      [⟨⟨5, ![A, B, N, 1, s]⟩, broadcastInDim ⟨5, ![A, B, N, 1, s]⟩ ![0, 1, 2, 4] hb (addf y0 y1)⟩,
       ⟨⟨5, ![A, B, N, 1, s]⟩, broadcastInDim ⟨5, ![A, B, N, 1, s]⟩ ![0, 1, 2, 4] hb (subf y0 y1)⟩] hc) hr (ix3 a b i)
      = ((F v (m + 1) i.val : ℝ) : EReal) := by
  have sp : 0 < s := by rw [hs]; positivity
  have hi := i.isLt
  have p_lt : i.val / (2 * s) < N := by
    rw [Nat.div_lt_iff_lt_mul (by omega), ← hD]; exact hi
  have q_lt : i.val / s % 2 < 2 := Nat.mod_lt _ (by omega)
  have r_lt : i.val % s < s := Nat.mod_lt _ sp
  have ei : i.val = i.val / (2 * s) * (2 * s) + i.val / s % 2 * s + i.val % s := by
    have a1 : i.val / (2 * s) = i.val / s / 2 := by rw [mul_comm, Nat.div_div_eq_div_mul]
    have a2 := Nat.div_add_mod i.val s
    have a3 := Nat.div_add_mod (i.val / s) 2
    rw [a1]
    calc i.val = s * (i.val / s) + i.val % s := a2.symm
      _ = s * (2 * (i.val / s / 2) + i.val / s % 2) + i.val % s := by rw [a3]
      _ = _ := by ring
  rw [row_at _ hr hD a b i ⟨_, p_lt⟩ ⟨_, q_lt⟩ ⟨_, r_lt⟩ ei, stack_at, unit_at, unit_at]
  have g0 : y0 (ix4 a b ⟨_, p_lt⟩ ⟨_, r_lt⟩) = ((F v m (i.val / (2 * s) * (2 * s) + i.val % s) : ℝ) : EReal) := by
    rw [e0, half_at 0 (by omega), hx]
    congr 2
    show i.val / (2 * s) * (2 * s) + 0 * s + i.val % s = _
    omega
  have g1 : y1 (ix4 a b ⟨_, p_lt⟩ ⟨_, r_lt⟩) = ((F v m (i.val / (2 * s) * (2 * s) + s + i.val % s) : ℝ) : EReal) := by
    rw [e1, half_at 1 (by omega), hx]
    congr 2
    show i.val / (2 * s) * (2 * s) + 1 * s + i.val % s = _
    omega
  show (if i.val / s % 2 = 0 then (y0 _ + y1 _ : EReal) else (y0 _ - y1 _ : EReal)) = _
  rw [g0, g1, F, ← hs]
  by_cases hq : i.val / s % 2 = 0
  · rw [hq, zero_mul, add_zero] at ei
    rw [if_pos hq, if_pos hq, ← EReal.coe_add]
    congr 3
    · exact ei.symm
    · omega
  · have hq1 : i.val / s % 2 = 1 := by omega
    rw [hq1, one_mul] at ei
    rw [if_neg hq, if_neg hq, ← EReal.coe_sub]
    congr 3
    · omega
    · exact ei.symm

end Cert.Levels
-- ==== Proof.RefRows.lean ====
/- The levels of the reference's transform, as the numbers they hold. -/
module

public import proofs.«01_k».proof.Proof.RefLevel
public import proofs.«01_k».proof.Proof.Gen.ReferenceIdeal.Run

@[expose] public section

noncomputable section

namespace Cert.ReferenceIdeal.Rows

open Idealize.ShloMosaic Idealize.ShloMosaic.TcCoe Idealize.ShloMosaic.Tactic
open Cert.Transform Cert.Levels Cert.ReferenceIdeal Cert.ReferenceIdeal.Gen Cert.ReferenceIdeal.Value Idealize.SL.Sem Idealize.ShloMosaic.StableHlo

/-- Pairs of `x` are the numbers `w`. -/
def Is {N s : ℕ} (x : (⟨5, ![24, 1024, N, 2, s]⟩ : Shape).Idx → EReal) (w : Fin 24 → Fin 1024 → ℕ → ℝ) : Prop :=
  ∀ (a : Fin 24) (b : Fin 1024) (p : Fin N) (q : Fin 2) (r : Fin s), x (ix5 a b p q r) = ((w a b (p.val * (2 * s) + q.val * s + r.val) : ℝ) : EReal)

/-- Rows cut into pairs. -/
theorem isPairs {N s : ℕ} (x : (⟨3, ![24, 1024, 4096]⟩ : Shape).Idx → EReal) (w : Fin 24 → Fin 1024 → ℕ → ℝ) (hD : 4096 = N * (2 * s))
    (h : (⟨3, ![24, 1024, 4096]⟩ : Shape).ShapeCasts ⟨5, ![24, 1024, N, 2, s]⟩)
    (hx : ∀ a b (i : Fin 4096), x (ix3 a b i) = ((w a b i.val : ℝ) : EReal)) : Is (shapeCast ⟨5, ![24, 1024, N, 2, s]⟩ x h) w := by
  intro a b p q r
  have hq := q.isLt
  have hr := r.isLt
  have hi : p.val * (2 * s) + q.val * s + r.val < 4096 := by
    have h1 : (p.val + 1) * (2 * s) ≤ N * (2 * s) := Nat.mul_le_mul_right _ p.isLt
    have h2 : (q.val + 1) * s ≤ 2 * s := Nat.mul_le_mul_right _ hq
    rw [add_mul, one_mul] at h1 h2
    omega
  rw [pairs_at x h hD a b ⟨_, hi⟩ p q r rfl, hx]

/-- Rows cut into groups. -/
theorem groups_at {A B D G E : ℕ} {α : Type} (x : (⟨3, ![A, B, D]⟩ : Shape).Idx → α) (h : (⟨3, ![A, B, D]⟩ : Shape).ShapeCasts ⟨4, ![A, B, G, E]⟩)
    (hD : D = G * E) (a : Fin A) (b : Fin B) (g : Fin G) (e : Fin E) (i : Fin D) (hi : i.val = g.val * E + e.val) :
    shapeCast ⟨4, ![A, B, G, E]⟩ x h (ix4 a b g e) = x (ix3 a b i) := by
  apply shapeCast_apply
  rw [Shape.rowMajor_val_four, Shape.rowMajor_val_three]
  show (a.val * B + b.val) * D + i.val = ((a.val * B + b.val) * G + g.val) * E + e.val
  rw [hi, hD]
  ring

/-- A cell times the reciprocal of 64. -/
theorem scaled_at {A B D : ℕ} (x : FVec Ideal ⟨3, ![A, B, D]⟩ .f32) (h : (⟨0, ![]⟩ : Shape).BroadcastsInDim ⟨3, ![A, B, D]⟩ ![]) (j : (⟨3, ![A, B, D]⟩ : Shape).Idx) {y : EReal}
    (hx : x j = y) : (mulf x (broadcastInDim ⟨3, ![A, B, D]⟩ ![] h (constant ⟨0, ![]⟩ .f32 0x3C800000#32)) j : EReal) = y * ((1 / 64 : ℝ) : EReal) := by
  rw [← Cert.Quantiser.ofBits_64th, ← hx]
  rfl

section
variable {V0 : Valuation τ sig (Elt Ideal)} {v : Fin 24 → Fin 1024 → ℕ → ℝ}

theorem level1 (h : Is (N := 2048) (s := 1) (res_main_v4 V0) (fun a b => F (v a b) 0)) :
    Is (N := 1024) (s := 2) (res_main_v15 V0) (fun a b => F (v a b) 1) := by
  unfold res_main_v15
  refine isPairs _ _ rfl _ fun a b i => ?_
  exact level (v a b) 0 rfl _ a b (h a b) rfl _ _ _ _ _ _ _ _ rfl rfl i

theorem level2 (h : Is (N := 1024) (s := 2) (res_main_v15 V0) (fun a b => F (v a b) 1)) :
    Is (N := 512) (s := 4) (res_main_v26 V0) (fun a b => F (v a b) 2) := by
  unfold res_main_v26
  refine isPairs _ _ rfl _ fun a b i => ?_
  exact level (v a b) 1 rfl _ a b (h a b) rfl _ _ _ _ _ _ _ _ rfl rfl i

theorem level3 (h : Is (N := 512) (s := 4) (res_main_v26 V0) (fun a b => F (v a b) 2)) :
    Is (N := 256) (s := 8) (res_main_v37 V0) (fun a b => F (v a b) 3) := by
  unfold res_main_v37
  refine isPairs _ _ rfl _ fun a b i => ?_
  exact level (v a b) 2 rfl _ a b (h a b) rfl _ _ _ _ _ _ _ _ rfl rfl i

theorem level4 (h : Is (N := 256) (s := 8) (res_main_v37 V0) (fun a b => F (v a b) 3)) :
    Is (N := 128) (s := 16) (res_main_v48 V0) (fun a b => F (v a b) 4) := by
  unfold res_main_v48
  refine isPairs _ _ rfl _ fun a b i => ?_
  exact level (v a b) 3 rfl _ a b (h a b) rfl _ _ _ _ _ _ _ _ rfl rfl i

theorem level5 (h : Is (N := 128) (s := 16) (res_main_v48 V0) (fun a b => F (v a b) 4)) :
    Is (N := 64) (s := 32) (res_main_v59 V0) (fun a b => F (v a b) 5) := by
  unfold res_main_v59
  refine isPairs _ _ rfl _ fun a b i => ?_
  exact level (v a b) 4 rfl _ a b (h a b) rfl _ _ _ _ _ _ _ _ rfl rfl i

theorem level6 (h : Is (N := 64) (s := 32) (res_main_v59 V0) (fun a b => F (v a b) 5)) :
    Is (N := 32) (s := 64) (res_main_v70 V0) (fun a b => F (v a b) 6) := by
  unfold res_main_v70
  refine isPairs _ _ rfl _ fun a b i => ?_
  exact level (v a b) 5 rfl _ a b (h a b) rfl _ _ _ _ _ _ _ _ rfl rfl i

theorem level7 (h : Is (N := 32) (s := 64) (res_main_v70 V0) (fun a b => F (v a b) 6)) :
    Is (N := 16) (s := 128) (res_main_v81 V0) (fun a b => F (v a b) 7) := by
  unfold res_main_v81
  refine isPairs _ _ rfl _ fun a b i => ?_
  exact level (v a b) 6 rfl _ a b (h a b) rfl _ _ _ _ _ _ _ _ rfl rfl i

theorem level8 (h : Is (N := 16) (s := 128) (res_main_v81 V0) (fun a b => F (v a b) 7)) :
    Is (N := 8) (s := 256) (res_main_v92 V0) (fun a b => F (v a b) 8) := by
  unfold res_main_v92
  refine isPairs _ _ rfl _ fun a b i => ?_
  exact level (v a b) 7 rfl _ a b (h a b) rfl _ _ _ _ _ _ _ _ rfl rfl i

theorem level9 (h : Is (N := 8) (s := 256) (res_main_v92 V0) (fun a b => F (v a b) 8)) :
    Is (N := 4) (s := 512) (res_main_v103 V0) (fun a b => F (v a b) 9) := by
  unfold res_main_v103
  refine isPairs _ _ rfl _ fun a b i => ?_
  exact level (v a b) 8 rfl _ a b (h a b) rfl _ _ _ _ _ _ _ _ rfl rfl i

theorem level10 (h : Is (N := 4) (s := 512) (res_main_v103 V0) (fun a b => F (v a b) 9)) :
    Is (N := 2) (s := 1024) (res_main_v114 V0) (fun a b => F (v a b) 10) := by
  unfold res_main_v114
  refine isPairs _ _ rfl _ fun a b i => ?_
  exact level (v a b) 9 rfl _ a b (h a b) rfl _ _ _ _ _ _ _ _ rfl rfl i

theorem level11 (h : Is (N := 2) (s := 1024) (res_main_v114 V0) (fun a b => F (v a b) 10)) :
    Is (N := 1) (s := 2048) (res_main_v125 V0) (fun a b => F (v a b) 11) := by
  unfold res_main_v125
  refine isPairs _ _ rfl _ fun a b i => ?_
  exact level (v a b) 10 rfl _ a b (h a b) rfl _ _ _ _ _ _ _ _ rfl rfl i

theorem level12 (h : Is (N := 1) (s := 2048) (res_main_v125 V0) (fun a b => F (v a b) 11)) (a : Fin 24) (b : Fin 1024) (g : Fin 32) (e : Fin 128) (i : Fin 4096)
    (hi : i.val = g.val * 128 + e.val) :
    (res_main_v138 V0 (ix4 a b g e) : EReal) = ((F (v a b) 12 i.val : ℝ) : EReal) * ((1 / 64 : ℝ) : EReal) := by
  unfold res_main_v138
  refine (groups_at _ _ rfl a b g e i hi).trans ?_
  exact scaled_at _ _ _ (level (v a b) 11 rfl _ a b (h a b) rfl _ _ _ _ _ _ _ _ rfl rfl i)

end

end Cert.ReferenceIdeal.Rows
-- ==== Proof.RefQuant.lean ====
/- The reference's quantiser, read at a group of a row. -/
module

public import proofs.«01_k».proof.Proof.RefRows

@[expose] public section

noncomputable section

namespace Cert.ReferenceIdeal.Quant

open Idealize.ShloMosaic Idealize.ShloMosaic.TcCoe Idealize.ShloMosaic.Tactic
open Cert.Quantiser Cert.ReferenceIdeal Cert.ReferenceIdeal.Gen Cert.ReferenceIdeal.Value Idealize.SL.Sem Idealize.ShloMosaic.StableHlo

theorem lift_at {A B G E : ℕ} (h : (⟨4, ![A, B, G, E]⟩ : Shape).Reduces [3] ⟨3, ![A, B, G]⟩) (a : Fin A) (b : Fin B) (g : Fin G) (e : Fin E) :
    h.lift (ix3 a b g) e = ix4 a b g e := by
  funext i
  apply Fin.ext
  refine (Shape.Reduces.lift_val h (ix3 a b g) e i).trans ?_
  fin_cases i <;> rfl

/-- The greatest of a group. -/
theorem max_at {A B G E : ℕ} (x : FVec Ideal ⟨4, ![A, B, G, E]⟩ .f32) (h : (⟨4, ![A, B, G, E]⟩ : Shape).ReducesTo [3] ⟨3, ![A, B, G]⟩)
    (h' : (⟨4, ![A, B, G, E]⟩ : Shape).Reduces [3] ⟨3, ![A, B, G]⟩) (hu : 0 < (⟨0, ![]⟩ : Shape).numel) (a : Fin A) (b : Fin B) (g : Fin G) :
    (Host.reduce (FloatOps.maximumf (F := Ideal) (φ := .f32)) x (constant ⟨0, ![]⟩ .f32 0xFF800000#32) h hu (ix3 a b g) : Ideal .f32) = ⨆ e : Fin E, (x (ix4 a b g e) : EReal) := by
  rw [Host.reduce_eq_fold_single _ x _ h h' hu]
  show Finset.univ.fold (max : EReal → EReal → EReal) (Ideal.ofBits .f32 0xFF800000#32) (x ∘ h'.lift (ix3 a b g)) = _
  rw [show Ideal.ofBits .f32 0xFF800000#32 = ⊥ by simp [Ideal.ofBits, Ideal.ieee], ← Finset.sup_univ_eq_iSup]
  show Finset.univ.sup _ = _
  exact Finset.sup_congr rfl fun e _ => congrArg x (lift_at h' a b g e)

/-- The least of a group. -/
theorem min_at {A B G E : ℕ} (x : FVec Ideal ⟨4, ![A, B, G, E]⟩ .f32) (h : (⟨4, ![A, B, G, E]⟩ : Shape).ReducesTo [3] ⟨3, ![A, B, G]⟩)
    (h' : (⟨4, ![A, B, G, E]⟩ : Shape).Reduces [3] ⟨3, ![A, B, G]⟩) (hu : 0 < (⟨0, ![]⟩ : Shape).numel) (a : Fin A) (b : Fin B) (g : Fin G) :
    (Host.reduce (FloatOps.minimumf (F := Ideal) (φ := .f32)) x (constant ⟨0, ![]⟩ .f32 0x7F800000#32) h hu (ix3 a b g) : Ideal .f32) = ⨅ e : Fin E, (x (ix4 a b g e) : EReal) := by
  rw [Host.reduce_eq_fold_single _ x _ h h' hu]
  show Finset.univ.fold (min : EReal → EReal → EReal) (Ideal.ofBits .f32 0x7F800000#32) (x ∘ h'.lift (ix3 a b g)) = _
  rw [show Ideal.ofBits .f32 0x7F800000#32 = ⊤ by simp [Ideal.ofBits, Ideal.ieee], ← Finset.inf_univ_eq_iInf]
  show Finset.univ.inf _ = _
  exact Finset.inf_congr rfl fun e _ => congrArg x (lift_at h' a b g e)

/-- The scale from the greatest and the least. -/
theorem scale_at {t : Shape} (mx mn : FVec Ideal t .f32) (h : (⟨0, ![]⟩ : Shape).BroadcastsInDim t ![]) (j : t.Idx) :
    select (cmpf .oeq mx mn) (broadcastInDim t ![] h (constant ⟨0, ![]⟩ .f32 0x3F800000#32))
      (Host.divf (subf mx mn) (broadcastInDim t ![] h (constant ⟨0, ![]⟩ .f32 0x41700000#32))) j = scaleE (mx j) (mn j) := rfl

/-- The zero point from the least and the scale. -/
theorem zero_at {t : Shape} (mn sc : FVec Ideal t .f32) (h : (⟨0, ![]⟩ : Shape).BroadcastsInDim t ![]) (j : t.Idx) :
    minimumf (broadcastInDim t ![] h (id (constant ⟨0, ![]⟩ .f32 0x41700000#32)))
      (maximumf (broadcastInDim t ![] h (id (constant ⟨0, ![]⟩ .f32 0x00000000#32))) (Host.roundeven (Host.divf (Host.negf mn) sc))) j
      = zeroE (mn j) (sc j) := rfl

/-- A group's number at each of its cells. -/
theorem spread_at {A B G E : ℕ} {α : Type} (y : (⟨3, ![A, B, G]⟩ : Shape).Idx → α) (h : (⟨3, ![A, B, G]⟩ : Shape).BroadcastsInDim ⟨4, ![A, B, G, 1]⟩ ![0, 1, 2])
    (h' : (⟨4, ![A, B, G, 1]⟩ : Shape).BroadcastsInDim ⟨4, ![A, B, G, E]⟩ ![0, 1, 2, 3]) (a : Fin A) (b : Fin B) (g : Fin G) (e : Fin E) :
    broadcastInDim ⟨4, ![A, B, G, E]⟩ ![0, 1, 2, 3] h' (broadcastInDim ⟨4, ![A, B, G, 1]⟩ ![0, 1, 2] h y) (ix4 a b g e) = y (ix3 a b g) := by
  have key : ∀ (n : ℕ) (k : Fin n), k.val = if n = 1 then 0 else k.val := fun n k => by
    split_ifs with e
    · omega
    · rfl
  refine (broadcastInDim_apply _ h' _ _ (ix4 a b g (0 : Fin 1)) ?_).trans (broadcastInDim_apply _ h y _ _ ?_)
  · intro i
    fin_cases i
    · exact key A a
    · exact key B b
    · exact key G g
    · rfl
  · intro i
    fin_cases i
    · exact key A a
    · exact key B b
    · exact key G g

/-- A cell's code. -/
theorem code_at {t : Shape} (x sc z : FVec Ideal t .f32) (h : (⟨0, ![]⟩ : Shape).BroadcastsInDim t ![]) (j : t.Idx) {sc' z' : EReal} (e : sc j = sc') (e' : z j = z') :
    fptosi 32 (minimumf (broadcastInDim t ![] h (id (constant ⟨0, ![]⟩ .f32 0x41700000#32)))
      (maximumf (broadcastInDim t ![] h (id (constant ⟨0, ![]⟩ .f32 0x00000000#32))) (addf (Host.roundeven (Host.divf x sc)) z))) j
      = Ideal.fptosi 32 (codeE (x j) sc' z') := by
  subst e e'
  rfl

/-- The cells of the groups in pairs. -/
theorem paired_at {A B G E M : ℕ} {α : Type} (x : (⟨4, ![A, B, G, E]⟩ : Shape).Idx → α) (h : (⟨4, ![A, B, G, E]⟩ : Shape).ShapeCasts ⟨4, ![A, B, M, 2]⟩)
    (hM : G * E = M * 2) (a : Fin A) (b : Fin B) (g : Fin G) (e : Fin E) (p : Fin M) (q : Fin 2) (hp : p.val * 2 + q.val = g.val * E + e.val) :
    shapeCast ⟨4, ![A, B, M, 2]⟩ x h (ix4 a b p q) = x (ix4 a b g e) := by
  apply shapeCast_apply
  rw [Shape.rowMajor_val_four, Shape.rowMajor_val_four]
  show ((a.val * B + b.val) * G + g.val) * E + e.val = ((a.val * B + b.val) * M + p.val) * 2 + q.val
  calc ((a.val * B + b.val) * G + g.val) * E + e.val = (a.val * B + b.val) * (G * E) + (g.val * E + e.val) := by ring
    _ = (a.val * B + b.val) * (M * 2) + (p.val * 2 + q.val) := by rw [hM, hp]
    _ = _ := by ring

/-- One of each pair. -/
theorem pick_at {A B M : ℕ} {α : Type} (o : ℕ) (ho : o < 2) (x : (⟨4, ![A, B, M, 2]⟩ : Shape).Idx → α)
    (h : (⟨4, ![A, B, M, 2]⟩ : Shape).Slices ![0, 0, 0, o] ⟨4, ![A, B, M, 1]⟩) (h' : (⟨4, ![A, B, M, 1]⟩ : Shape).ShapeCasts ⟨3, ![A, B, M]⟩)
    (a : Fin A) (b : Fin B) (p : Fin M) :
    shapeCast ⟨3, ![A, B, M]⟩ (extractStridedSlice ⟨4, ![A, B, M, 1]⟩ ![0, 0, 0, o] x h) h' (ix3 a b p) = x (ix4 a b p (⟨o, ho⟩ : Fin 2)) := by
  rw [shapeCast_apply _ h' (ix3 a b p) (ix4 a b p (0 : Fin 1))]
  · refine extractStridedSlice_apply _ x h _ _ ?_
    intro i
    fin_cases i
    · show a.val = 0 + a.val; omega
    · show b.val = 0 + b.val; omega
    · show p.val = 0 + p.val; omega
    · show o = o + 0; omega
  · rw [Shape.rowMajor_val_four, Shape.rowMajor_val_three]
    show ((a.val * B + b.val) * M + p.val) * 1 + 0 = (a.val * B + b.val) * M + p.val
    omega

/-- Two codes in a byte. -/
theorem pack_at {t : Shape} (x y : IVec t 32) (h : (⟨0, ![]⟩ : Shape).BroadcastsInDim t ![]) (hn : 8 < 32) (j : t.Idx) {x' y' : BitVec 32} (e : x j = x') (e' : y j = y') :
    trunci 8 (ori x (Host.shli y (broadcastInDim t ![] h (constantI ⟨0, ![]⟩ 32 4#32)))) hn j = (x' ||| y' <<< 4).setWidth 8 := by
  subst e e'
  rfl

variable (V0 : Valuation τ sig (Elt Ideal)) (a : Fin 24) (b : Fin 1024) (g : Fin 32)

/-- The cells of a group, its greatest and its least, its scale and its zero point. -/
def X (e : Fin 128) : EReal := res_main_v138 V0 (ix4 a b g e)
def mxR : EReal := ⨆ e, X V0 a b g e
def mnR : EReal := ⨅ e, X V0 a b g e
def scR : EReal := scaleE (mxR V0 a b g) (mnR V0 a b g)
def zR : EReal := zeroE (mnR V0 a b g) (scR V0 a b g)

theorem reduces : S24x1024x32x128.Reduces [3] S24x1024x32 := by decide

theorem v140_at : (res_main_v140 V0 (ix3 a b g) : EReal) = mxR V0 a b g := by
  unfold res_main_v140
  exact max_at _ _ reduces _ a b g

theorem v139_at : (res_main_v139 V0 (ix3 a b g) : EReal) = mnR V0 a b g := by
  unfold res_main_v139
  exact min_at _ _ reduces _ a b g

theorem v145_at : (res_main_v145 V0 (ix3 a b g) : EReal) = scR V0 a b g := by
  unfold scR
  rw [← v140_at, ← v139_at]
  unfold res_main_v145
  exact scale_at _ _ _ _

theorem v149_at : (res_main_v149 V0 (ix3 a b g) : EReal) = zR V0 a b g := by
  unfold zR
  rw [← v145_at, ← v139_at]
  unfold res_main_v149
  exact zero_at _ _ _ _

theorem v161_at (e : Fin 128) (p : Fin 2048) (q : Fin 2) (hp : p.val * 2 + q.val = g.val * 128 + e.val) :
    res_main_v161 V0 (ix4 a b p q) = Ideal.fptosi 32 (codeE (X V0 a b g e) (scR V0 a b g) (zR V0 a b g)) := by
  unfold res_main_v161
  refine (paired_at (A := 24) (B := 1024) (G := 32) (E := 128) (M := 2048) _ _ (by norm_num) a b g e p q hp).trans ?_
  exact code_at _ _ _ _ _ ((spread_at _ _ _ a b g e).trans (v145_at V0 a b g)) ((spread_at _ _ _ a b g e).trans (v149_at V0 a b g))

/-- The two cells of a byte. -/
def lo (p : Fin 2048) : Fin 128 := ⟨2 * (p.val % 64), by omega⟩
def hi (p : Fin 2048) : Fin 128 := ⟨2 * (p.val % 64) + 1, by omega⟩
def gp (p : Fin 2048) : Fin 32 := ⟨p.val / 64, by omega⟩

/-- The three results before their leading axes are joined. -/
def codesR : IVec S24x1024x2048 8 :=
  trunci 8 (ori (shapeCast S24x1024x2048 (extractStridedSlice S24x1024x2048x1 ![0, 0, 0, 0] (res_main_v161 V0) slices_S24x1024x2048x2_S24x1024x2048x1_0_0_0_0) shapeCasts_S24x1024x2048x1_S24x1024x2048)
    (Host.shli (shapeCast S24x1024x2048 (extractStridedSlice S24x1024x2048x1 ![0, 0, 0, 1] (res_main_v161 V0) slices_S24x1024x2048x2_S24x1024x2048x1_0_0_0_1) shapeCasts_S24x1024x2048x1_S24x1024x2048)
      (broadcastInDim S24x1024x2048 ![] bcast_S_S24x1024x2048 (constantI S_ 32 4#32)))) natLt_8_32

theorem codes_at (p : Fin 2048) :
    codesR V0 (ix3 a b p) = byteE (X V0 a b (gp p) (lo p)) (X V0 a b (gp p) (hi p)) (scR V0 a b (gp p)) (zR V0 a b (gp p)) := by
  unfold codesR byteE
  refine pack_at _ _ _ _ _ ?_ ?_
  · refine (pick_at 0 (by omega) _ _ _ a b p).trans (v161_at V0 a b (gp p) (lo p) p _ ?_)
    show p.val * 2 + 0 = p.val / 64 * 128 + 2 * (p.val % 64)
    omega
  · refine (pick_at 1 (by omega) _ _ _ a b p).trans (v161_at V0 a b (gp p) (hi p) p _ ?_)
    show p.val * 2 + 1 = p.val / 64 * 128 + (2 * (p.val % 64) + 1)
    omega

theorem zeros_at : trunci 8 (fptosi 32 (res_main_v149 V0)) natLt_8_32 (ix3 a b g) = (Ideal.fptosi 32 (zR V0 a b g)).setWidth 8 := by
  rw [← v149_at]
  rfl

end Cert.ReferenceIdeal.Quant
-- ==== Proof.Spec.lean ====
/- What both programs compute of finite weights and signs, row by row. -/
module

public import proofs.«01_k».proof.Proof.RefQuant

@[expose] public section

noncomputable section

namespace Cert.Spec

open Idealize.ShloMosaic Idealize.ShloMosaic.TcCoe Idealize.ShloMosaic.Tactic
open Cert.Quantiser Cert.Transform

export Cert.ReferenceIdeal.Quant (lo hi gp)

variable (W : (⟨3, ![24, 1024, 4096]⟩ : Shape).Idx → EReal) (S : (⟨1, ![4096]⟩ : Shape).Idx → EReal)

/-- A row of the weights, and the signs, as real numbers. -/
def row (a : Fin 24) (b : Fin 1024) (i : ℕ) : ℝ := if h : i < 4096 then (W (ix3 a b ⟨i, h⟩)).toReal else 0
def sgn (i : ℕ) : ℝ := if h : i < 4096 then (S (ix1 (⟨i, h⟩ : Fin 4096))).toReal else 0

/-- The signed row. -/
def signed (a : Fin 24) (b : Fin 1024) (i : ℕ) : ℝ := row W a b i * sgn S i

/-- Every weight and every sign is a real number. -/
def Finite : Prop := (∀ j, W j = ((W j).toReal : EReal)) ∧ ∀ j, S j = ((S j).toReal : EReal)

/-- A group's elements, its scale and its zero point. -/
def cell (a : Fin 24) (b : Fin 1024) (g : Fin 32) (e : Fin 128) : EReal := ((F (signed W S a b) 12 (128 * g.val + e.val) * (1 / 64) : ℝ) : EReal)
def sc (a : Fin 24) (b : Fin 1024) (g : Fin 32) : EReal := scaleE (⨆ e, cell W S a b g e) (⨅ e, cell W S a b g e)
def zp (a : Fin 24) (b : Fin 1024) (g : Fin 32) : EReal := zeroE (⨅ e, cell W S a b g e) (sc W S a b g)

/-- The three results at row `(a, b)`. -/
def codes (a : Fin 24) (b : Fin 1024) (p : Fin 2048) : BitVec 8 :=
  byteE (cell W S a b (gp p) (lo p)) (cell W S a b (gp p) (hi p)) (sc W S a b (gp p)) (zp W S a b (gp p))
def zeros (a : Fin 24) (b : Fin 1024) (g : Fin 32) : BitVec 8 := (Ideal.fptosi 32 (zp W S a b g)).setWidth 8

variable {W S} (h : Finite W S)
include h

theorem row_eq (a : Fin 24) (b : Fin 1024) (i : Fin 4096) : W (ix3 a b i) = ((row W a b i.val : ℝ) : EReal) := by
  unfold row
  rw [dif_pos i.isLt]
  exact h.1 _

theorem sgn_eq (i : Fin 4096) : S (ix1 i) = ((sgn S i.val : ℝ) : EReal) := by
  unfold sgn
  rw [dif_pos i.isLt]
  exact h.2 _

end Cert.Spec
-- ==== Proof.Finite.lean ====
/- The precondition: every weight and every sign is a real number. -/
module

public import proofs.«01_k».proof.Proof.Spec
public import proofs.«01_k».proof.Defs

@[expose] public section

noncomputable section

namespace Cert.Proof

open Idealize.ShloMosaic Idealize.SL.Sem

theorem facts_finite : Cert.Pre_finite.Facts where
  bitsLt_bf16_f32 := by decide
  bcast_S_S24x1024x4096 := by decide
  bcast_S_S4096 := by decide

theorem lt_infinity (x : EReal) (h : max x (-x) < (⊤ : EReal)) : x = ((x.toReal : ℝ) : EReal) := by
  induction x using EReal.rec with
  | bot => exact absurd h (by simp)
  | coe x => rfl
  | top => exact absurd h (by simp)

/-- An element whose magnitude is less than infinity is a real number. -/
theorem real_of_lt {t : Shape} (x : FVec Ideal t .f32) (h : (⟨0, ![]⟩ : Shape).BroadcastsInDim t ![])
    (e : cmpf .olt (Host.absf x) (broadcastInDim t ![] h (constant ⟨0, ![]⟩ .f32 0x7F800000#32)) = fun _ => 1#1) (j : t.Idx) :
    (x j : EReal) = (((x j : EReal).toReal : ℝ) : EReal) := by
  have ej := congrFun e j
  apply lt_infinity
  have ej' : BitVec.ofBool (decide (max (x j : EReal) (-(x j)) < Ideal.ofBits .f32 0x7F800000#32)) = 1#1 := ej
  rw [show Ideal.ofBits .f32 0x7F800000#32 = ⊤ by simp [Ideal.ofBits, Ideal.ieee]] at ej'
  by_contra hn
  rw [decide_eq_false hn] at ej'
  exact absurd ej' (by decide)

theorem finite_of_pre (hP : Cert.Pre_finite.Facts) (m : (ℓ : Loc Cert.KernelIdeal.nD Cert.KernelIdeal.τ Cert.KernelIdeal.sig) → Buf (Elt Ideal) ℓ)
    (h : Cert.Pre_KernelIdeal_finite (hPre_finite := hP) m) (c : Dev Cert.KernelIdeal.nD) :
    Cert.Spec.Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  ⟨fun j => real_of_lt (extf .f32 _ hP.bitsLt_bf16_f32) hP.bcast_S_S24x1024x4096 (h c).1 j, fun j => real_of_lt _ hP.bcast_S_S4096 (h c).2 j⟩

end Cert.Proof
-- ==== Proof.HalfVal.lean ====
/- One half of a part over the extended reals: the butterfly of its rows, and their running maximum and minimum. -/
module

public import proofs.«01_k».proof.Proof.Keep
public import proofs.«01_k».proof.Proof.Scalar

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

/-- The eight-point butterfly on numbers. -/
def bflyE (x : Fin 8 → EReal) : Fin 8 → EReal
  | 0 => ((x 0 + x 1) + (x 2 + x 3)) + ((x 4 + x 5) + (x 6 + x 7))
  | 1 => ((x 0 - x 1) + (x 2 - x 3)) + ((x 4 - x 5) + (x 6 - x 7))
  | 2 => ((x 0 + x 1) - (x 2 + x 3)) + ((x 4 + x 5) - (x 6 + x 7))
  | 3 => ((x 0 - x 1) - (x 2 - x 3)) + ((x 4 - x 5) - (x 6 - x 7))
  | 4 => ((x 0 + x 1) + (x 2 + x 3)) - ((x 4 + x 5) + (x 6 + x 7))
  | 5 => ((x 0 - x 1) + (x 2 - x 3)) - ((x 4 - x 5) + (x 6 - x 7))
  | 6 => ((x 0 + x 1) - (x 2 + x 3)) - ((x 4 + x 5) - (x 6 + x 7))
  | 7 => ((x 0 - x 1) - (x 2 - x 3)) - ((x 4 - x 5) - (x 6 - x 7))

theorem bfly_apply (x : Fin 8 → FVec Ideal S8x128 .f32) (b : Fin 8) (i : S8x128.Idx) : bfly x b i = bflyE (fun c => x c i) b := by
  fin_cases b <;> rfl

/-- The blocks' contents. -/
abbrev U : Type := S8x512x512.Idx → EReal

/-- A cell after the butterfly over the blocks. -/
def N (u : U) (b : Fin 8) (r l : Fin 512) : EReal := bflyE (fun c => u (ix3 c r l)) b

/-- Row `ρ` of half `q` of part `j`, and lane `l` of part `j`. -/
def rowOf (j : Fin k0_t2_loop.trips) (q : Fin 2) (ρ : Fin 128) : Fin 512 :=
  ⟨128 * (2 * (j.val % 2) + q.val) + ρ.val, by have := q.isLt; have := ρ.isLt; omega⟩
def lanOf (j : Fin k0_t2_loop.trips) (l : Fin 128) : Fin 512 :=
  ⟨128 * (j.val / 2) + l.val, by have h : j.val < 8 := j.isLt; have := l.isLt; omega⟩
/-- Row `i` of tile `t`. -/
def tr (t : Fin 16) (i : Fin 8) : Fin 128 := ⟨8 * t.val + i.val, by omega⟩

/-- A load through a rectangle whose offsets are known by their values. -/
theorem unit_load {s : Shape} {α : Type} {off off' sz : Fin s.rank → ℕ} (e : off = off') (h : ∀ a, off a + sz a ≤ s.size a) (u : s.Idx → α)
    (x : (⟨s.rank, sz⟩ : Shape).Idx) (y : s.Idx) (hy : ∀ a, off' a + (x a).val = (y a).val) : u ((Rect.unit off sz h).toLoadRect.idx x) = u y := by
  subst e
  congr 1
  funext a
  apply Fin.ext
  rw [← hy a]
  show off a + 1 * (x a).val = _
  rw [Nat.one_mul]

/-- Where tile `t` of half `q` of part `j` starts in block `b`. -/
def offN (j : Fin k0_t2_loop.trips) (q : Fin 2) (t : Fin 16) (b : Fin 8) : Fin 3 → ℕ :=
  ![b.val, 128 * (2 * (j.val % 2) + q.val) + 8 * t.val, 128 * (j.val / 2)]

theorem offN_inb (j : Fin k0_t2_loop.trips) (q : Fin 2) (t : Fin 16) (b : Fin 8) : ∀ a, offN j q t b a + S1x8x128.size a ≤ S8x512x512.size a := by
  have h : j.val < 8 := j.isLt
  intro a
  fin_cases a
  · show b.val + 1 ≤ 8; omega
  · show 128 * (2 * (j.val % 2) + q.val) + 8 * t.val + 8 ≤ 512; omega
  · show 128 * (j.val / 2) + 128 ≤ 512; omega

theorem off3_eq : ∀ (j : Fin k0_t2_loop.trips) (q : Fin 2) (t : Fin 16), k0_off3 j (BitVec.ofNat 32 (128 * q.val)) (BitVec.ofNat 32 (8 * t.val)) = offN j q t 0 := by
  decide +kernel
theorem off4_eq : ∀ (j : Fin k0_t2_loop.trips) (q : Fin 2) (t : Fin 16), k0_off4 j (BitVec.ofNat 32 (128 * q.val)) (BitVec.ofNat 32 (8 * t.val)) = offN j q t 1 := by
  decide +kernel
theorem off5_eq : ∀ (j : Fin k0_t2_loop.trips) (q : Fin 2) (t : Fin 16), k0_off5 j (BitVec.ofNat 32 (128 * q.val)) (BitVec.ofNat 32 (8 * t.val)) = offN j q t 2 := by
  decide +kernel
theorem off6_eq : ∀ (j : Fin k0_t2_loop.trips) (q : Fin 2) (t : Fin 16), k0_off6 j (BitVec.ofNat 32 (128 * q.val)) (BitVec.ofNat 32 (8 * t.val)) = offN j q t 3 := by
  decide +kernel
theorem off7_eq : ∀ (j : Fin k0_t2_loop.trips) (q : Fin 2) (t : Fin 16), k0_off7 j (BitVec.ofNat 32 (128 * q.val)) (BitVec.ofNat 32 (8 * t.val)) = offN j q t 4 := by
  decide +kernel
theorem off8_eq : ∀ (j : Fin k0_t2_loop.trips) (q : Fin 2) (t : Fin 16), k0_off8 j (BitVec.ofNat 32 (128 * q.val)) (BitVec.ofNat 32 (8 * t.val)) = offN j q t 5 := by
  decide +kernel
theorem off9_eq : ∀ (j : Fin k0_t2_loop.trips) (q : Fin 2) (t : Fin 16), k0_off9 j (BitVec.ofNat 32 (128 * q.val)) (BitVec.ofNat 32 (8 * t.val)) = offN j q t 6 := by
  decide +kernel
theorem off10_eq : ∀ (j : Fin k0_t2_loop.trips) (q : Fin 2) (t : Fin 16), k0_off10 j (BitVec.ofNat 32 (128 * q.val)) (BitVec.ofNat 32 (8 * t.val)) = offN j q t 7 := by
  decide +kernel

/-- A tile's load, at a cell. -/
theorem tile_load (j : Fin k0_t2_loop.trips) (q : Fin 2) (t : Fin 16) (b : Fin 8) {off : Fin 3 → ℕ} (e : off = offN j q t b)
    (h : ∀ a, off a + S1x8x128.size a ≤ S8x512x512.size a) (u : U) (i : Fin 8) (l : Fin 128) :
    u ((Rect.unit (s := S8x512x512) off S1x8x128.size h).toLoadRect.idx (ix3 (0 : Fin 1) i l)) = u (ix3 b (rowOf j q (tr t i)) (lanOf j l)) := by
  refine unit_load e h u (ix3 (0 : Fin 1) i l) _ ?_
  intro a
  fin_cases a
  · show b.val + 0 = b.val; omega
  · show 128 * (2 * (j.val % 2) + q.val) + 8 * t.val + i.val = 128 * (2 * (j.val % 2) + q.val) + (8 * t.val + i.val); omega
  · show 128 * (j.val / 2) + l.val = 128 * (j.val / 2) + l.val; omega

theorem cast_tile (x : Vec Ideal S1x8x128 .f32) (i : Fin 8) (l : Fin 128) :
    shapeCast S8x128 x shapeCasts_S1x8x128_S8x128 (ix2 i l) = x (ix3 (0 : Fin 1) i l) := by
  pointwise

theorem cast_tile' (x : FVec Ideal S8x128 .f32) (i : Fin 8) (l : Fin 128) :
    shapeCast S1x8x128 x shapeCasts_S8x128_S1x8x128 (ix3 (0 : Fin 1) i l) = x (ix2 i l) := by
  pointwise

theorem tileX_apply (j : Fin k0_t2_loop.trips) (q : Fin 2) (t : Fin 16) (u : U) (b : Fin 8) (i : Fin 8) (l : Fin 128) :
    tileX (F := Ideal) j q t u b (ix2 i l) = u (ix3 b (rowOf j q (tr t i)) (lanOf j l)) := by
  unfold tileX
  match b with
  | 0 => dsimp only [vec8]; refine (cast_tile _ i l).trans ?_; exact tile_load j q t 0 (off3_eq j q t) (k0_off3_inb j q t) u i l
  | 1 => dsimp only [vec8]; refine (cast_tile _ i l).trans ?_; exact tile_load j q t 1 (off4_eq j q t) (k0_off4_inb j q t) u i l
  | 2 => dsimp only [vec8]; refine (cast_tile _ i l).trans ?_; exact tile_load j q t 2 (off5_eq j q t) (k0_off5_inb j q t) u i l
  | 3 => dsimp only [vec8]; refine (cast_tile _ i l).trans ?_; exact tile_load j q t 3 (off6_eq j q t) (k0_off6_inb j q t) u i l
  | 4 => dsimp only [vec8]; refine (cast_tile _ i l).trans ?_; exact tile_load j q t 4 (off7_eq j q t) (k0_off7_inb j q t) u i l
  | 5 => dsimp only [vec8]; refine (cast_tile _ i l).trans ?_; exact tile_load j q t 5 (off8_eq j q t) (k0_off8_inb j q t) u i l
  | 6 => dsimp only [vec8]; refine (cast_tile _ i l).trans ?_; exact tile_load j q t 6 (off9_eq j q t) (k0_off9_inb j q t) u i l
  | 7 => dsimp only [vec8]; refine (cast_tile _ i l).trans ?_; exact tile_load j q t 7 (off10_eq j q t) (k0_off10_inb j q t) u i l

/-- One block's store of a tile, at a cell. -/
theorem put_one (j : Fin k0_t2_loop.trips) (q : Fin 2) (t : Fin 16) (c : Fin 8) {off : Fin 3 → ℕ} (e : off = offN j q t c)
    (hb : ∀ a, off a + S1x8x128.size a ≤ S8x512x512.size a) (y : FVec Ideal S8x128 .f32) (u : U) (b : Fin 8) (r l : Fin 512) (v : EReal)
    (hv : u (ix3 b r l) = v) :
    (Rect.unit (s := S8x512x512) off S1x8x128.size hb).overlay u (shapeCast S1x8x128 y shapeCasts_S8x128_S1x8x128) (ix3 b r l)
      = if c = b ∧ r.val / 8 = 16 * (2 * (j.val % 2) + q.val) + t.val ∧ l.val / 128 = j.val / 2
        then y (ix2 ⟨r.val % 8, by omega⟩ ⟨l.val % 128, by omega⟩) else v := by
  subst e hv
  have hj : j.val < 8 := j.isLt
  by_cases h : c = b ∧ r.val / 8 = 16 * (2 * (j.val % 2) + q.val) + t.val ∧ l.val / 128 = j.val / 2
  · rw [if_pos h]
    obtain ⟨rfl, h1, h2⟩ := h
    rw [overlay_unit]
    · refine Eq.trans ?_ (cast_tile' y ⟨r.val % 8, by omega⟩ ⟨l.val % 128, by omega⟩)
      congr 1
      funext a
      apply Fin.ext
      fin_cases a
      · show c.val - c.val = 0; omega
      · show r.val - (128 * (2 * (j.val % 2) + q.val) + 8 * t.val) = r.val % 8; omega
      · show l.val - 128 * (j.val / 2) = l.val % 128; omega
    · intro a
      fin_cases a
      · show c.val ≤ c.val ∧ c.val < c.val + 1; omega
      · show 128 * (2 * (j.val % 2) + q.val) + 8 * t.val ≤ r.val ∧ r.val < 128 * (2 * (j.val % 2) + q.val) + 8 * t.val + 8; omega
      · show 128 * (j.val / 2) ≤ l.val ∧ l.val < 128 * (j.val / 2) + 128; omega
  · rw [if_neg h]
    by_cases h0 : c = b
    · by_cases h1 : r.val / 8 = 16 * (2 * (j.val % 2) + q.val) + t.val
      · refine overlay_unit_not _ _ _ _ _ _ (2 : Fin 3) ?_
        show ¬ (128 * (j.val / 2) ≤ l.val ∧ l.val < 128 * (j.val / 2) + 128)
        intro hh; exact h ⟨h0, h1, by omega⟩
      · refine overlay_unit_not _ _ _ _ _ _ (1 : Fin 3) ?_
        show ¬ (128 * (2 * (j.val % 2) + q.val) + 8 * t.val ≤ r.val ∧ r.val < 128 * (2 * (j.val % 2) + q.val) + 8 * t.val + 8)
        omega
    · refine overlay_unit_not _ _ _ _ _ _ (0 : Fin 3) ?_
      show ¬ (c.val ≤ b.val ∧ b.val < c.val + 1)
      intro hh; exact h0 (Fin.ext (by omega))

theorem putU_apply (j : Fin k0_t2_loop.trips) (q : Fin 2) (t : Fin 16) (y : Fin 8 → FVec Ideal S8x128 .f32) (u : U) (b : Fin 8) (r l : Fin 512) :
    putU j q t y u (ix3 b r l) = if r.val / 8 = 16 * (2 * (j.val % 2) + q.val) + t.val ∧ l.val / 128 = j.val / 2
        then y b (ix2 ⟨r.val % 8, by omega⟩ ⟨l.val % 128, by omega⟩) else u (ix3 b r l) := by
  unfold putU
  refine (put_one j q t 7 (off10_eq j q t) (k0_off10_inb j q t) (y 7) _ b r l _ <|
    put_one j q t 6 (off9_eq j q t) (k0_off9_inb j q t) (y 6) _ b r l _ <|
    put_one j q t 5 (off8_eq j q t) (k0_off8_inb j q t) (y 5) _ b r l _ <|
    put_one j q t 4 (off7_eq j q t) (k0_off7_inb j q t) (y 4) _ b r l _ <|
    put_one j q t 3 (off6_eq j q t) (k0_off6_inb j q t) (y 3) _ b r l _ <|
    put_one j q t 2 (off5_eq j q t) (k0_off5_inb j q t) (y 2) _ b r l _ <|
    put_one j q t 1 (off4_eq j q t) (k0_off4_inb j q t) (y 1) _ b r l _ <|
    put_one j q t 0 (off3_eq j q t) (k0_off3_inb j q t) (y 0) u b r l _ rfl).trans ?_
  by_cases h : r.val / 8 = 16 * (2 * (j.val % 2) + q.val) + t.val ∧ l.val / 128 = j.val / 2
  · simp only [h, and_true]
    fin_cases b <;> rfl
  · simp only [h, and_false, if_false]

/-- After the first `n` tiles of half `q` of part `j`. -/
structure HalfInv (j : Fin k0_t2_loop.trips) (q : Fin 2) (n : ℕ) (u : U) (a : Acc Ideal) : Prop where
  cells : ∀ b r l, a.u (ix3 b r l) = if r.val / 128 = 2 * (j.val % 2) + q.val ∧ r.val % 128 < 8 * n ∧ l.val / 128 = j.val / 2
    then N u b r l else u (ix3 b r l)
  mx : ∀ b i l c, a.mx b (ix2 i l) ≤ c ↔ ∀ t : Fin 16, t.val < n → N u b (rowOf j q (tr t i)) (lanOf j l) ≤ c
  mn : ∀ b i l c, c ≤ a.mn b (ix2 i l) ↔ ∀ t : Fin 16, t.val < n → c ≤ N u b (rowOf j q (tr t i)) (lanOf j l)

/-- The butterfly of a tile, where the tile holds the first contents. -/
theorem tile_new (j : Fin k0_t2_loop.trips) (q : Fin 2) (t : Fin 16) (u v : U)
    (h : ∀ b i l, v (ix3 b (rowOf j q (tr t i)) (lanOf j l)) = u (ix3 b (rowOf j q (tr t i)) (lanOf j l))) (b : Fin 8) (i : Fin 8) (l : Fin 128) :
    bfly (tileX (F := Ideal) j q t v) b (ix2 i l) = N u b (rowOf j q (tr t i)) (lanOf j l) := by
  rw [bfly_apply]
  unfold N
  congr 1
  funext c
  rw [tileX_apply, h]

theorem put_new (j : Fin k0_t2_loop.trips) (q : Fin 2) (t : Fin 16) (n : ℕ) (hn : t.val = n) (u v : U)
    (h : ∀ b r l, v (ix3 b r l) = if r.val / 128 = 2 * (j.val % 2) + q.val ∧ r.val % 128 < 8 * n ∧ l.val / 128 = j.val / 2
      then N u b r l else u (ix3 b r l)) (b : Fin 8) (r l : Fin 512) :
    putU j q t (bfly (tileX (F := Ideal) j q t v)) v (ix3 b r l)
      = if r.val / 128 = 2 * (j.val % 2) + q.val ∧ r.val % 128 < 8 * (n + 1) ∧ l.val / 128 = j.val / 2 then N u b r l else u (ix3 b r l) := by
  have hh : ∀ b i l, v (ix3 b (rowOf j q (tr t i)) (lanOf j l)) = u (ix3 b (rowOf j q (tr t i)) (lanOf j l)) := by
    intro b i l
    rw [h, if_neg]
    rintro ⟨_, h2, _⟩
    have : (rowOf j q (tr t i)).val = 128 * (2 * (j.val % 2) + q.val) + (8 * t.val + i.val) := rfl
    omega
  rw [putU_apply]
  by_cases h1 : r.val / 8 = 16 * (2 * (j.val % 2) + q.val) + t.val ∧ l.val / 128 = j.val / 2
  · rw [if_pos h1, if_pos (by omega), tile_new j q t u v hh]
    congr 1
    · apply Fin.ext
      show 128 * (2 * (j.val % 2) + q.val) + (8 * t.val + r.val % 8) = r.val
      omega
    · apply Fin.ext
      show 128 * (j.val / 2) + l.val % 128 = l.val
      omega
  · rw [if_neg h1, h]
    congr 1
    apply propext
    omega

theorem init_u (j : Fin k0_t2_loop.trips) (q : Fin 2) (u : U) : (tileInit (F := Ideal) j q u).u = putU j q 0 (bfly (tileX j q 0 u)) u := by
  unfold tileInit; rfl
theorem init_mx (j : Fin k0_t2_loop.trips) (q : Fin 2) (u : U) (b : Fin 8) : (tileInit (F := Ideal) j q u).mx b = bfly (tileX j q 0 u) b := rfl
theorem init_mn (j : Fin k0_t2_loop.trips) (q : Fin 2) (u : U) (b : Fin 8) : (tileInit (F := Ideal) j q u).mn b = bfly (tileX j q 0 u) b := rfl

theorem half_init (j : Fin k0_t2_loop.trips) (q : Fin 2) (u : U) : HalfInv j q (0 + 1) u (tileInit j q u) where
  cells b r l := by
    rw [init_u, put_new j q 0 0 rfl u u]
    intro b r l
    rw [if_neg]
    rintro ⟨_, h, _⟩
    omega
  mx b i l c := by
    rw [init_mx, tile_new j q 0 u u (fun _ _ _ => rfl)]
    refine ⟨fun h t ht => ?_, fun h => h 0 Nat.zero_lt_one⟩
    have e : t = 0 := Fin.ext (Nat.lt_one_iff.mp ht)
    rw [e]; exact h
  mn b i l c := by
    rw [init_mn, tile_new j q 0 u u (fun _ _ _ => rfl)]
    refine ⟨fun h t ht => ?_, fun h => h 0 Nat.zero_lt_one⟩
    have e : t = 0 := Fin.ext (Nat.lt_one_iff.mp ht)
    rw [e]; exact h

theorem step_u (j : Fin k0_t2_loop.trips) (q : Fin 2) (a : Acc Ideal) (t : Fin 16) : (tileStep j q a t).u = putU j q t (bfly (tileX j q t a.u)) a.u := rfl
theorem step_mx (j : Fin k0_t2_loop.trips) (q : Fin 2) (a : Acc Ideal) (t : Fin 16) (b : Fin 8) (i : S8x128.Idx) :
    (tileStep j q a t).mx b i = max (a.mx b i) (bfly (tileX j q t a.u) b i) := rfl
theorem step_mn (j : Fin k0_t2_loop.trips) (q : Fin 2) (a : Acc Ideal) (t : Fin 16) (b : Fin 8) (i : S8x128.Idx) :
    (tileStep j q a t).mn b i = min (a.mn b i) (bfly (tileX j q t a.u) b i) := rfl

theorem lt_step (t t' : Fin 16) (h : t'.val < t.val + 1) : t'.val < t.val ∨ t' = t := by
  rcases Nat.lt_succ_iff_lt_or_eq.mp h with h' | h'
  · exact .inl h'
  · exact .inr (Fin.ext h')

theorem half_step (j : Fin k0_t2_loop.trips) (q : Fin 2) (u : U) (a : Acc Ideal) (t : Fin 16) (h : HalfInv j q t.val u a) :
    HalfInv j q (t.val + 1) u (tileStep j q a t) := by
  have hh : ∀ b i l, a.u (ix3 b (rowOf j q (tr t i)) (lanOf j l)) = u (ix3 b (rowOf j q (tr t i)) (lanOf j l)) := by
    intro b i l
    rw [h.cells, if_neg]
    rintro ⟨_, h2, _⟩
    have : (rowOf j q (tr t i)).val = 128 * (2 * (j.val % 2) + q.val) + (8 * t.val + i.val) := rfl
    omega
  constructor
  · intro b r l
    rw [step_u]
    exact put_new j q t t.val rfl u a.u h.cells b r l
  · intro b i l c
    rw [step_mx, max_le_iff, h.mx, tile_new j q t u a.u hh]
    refine ⟨fun hm t' ht => ?_, fun hm => ⟨fun t' ht => hm t' (Nat.lt_succ_of_lt ht), hm t (Nat.lt_succ_self _)⟩⟩
    rcases lt_step t t' ht with h' | rfl
    · exact hm.1 t' h'
    · exact hm.2
  · intro b i l c
    rw [step_mn, le_min_iff, h.mn, tile_new j q t u a.u hh]
    refine ⟨fun hm t' ht => ?_, fun hm => ⟨fun t' ht => hm t' (Nat.lt_succ_of_lt ht), hm t (Nat.lt_succ_self _)⟩⟩
    rcases lt_step t t' ht with h' | rfl
    · exact hm.1 t' h'
    · exact hm.2

theorem half_steps (j : Fin k0_t2_loop.trips) (q : Fin 2) (u : U) (n : ℕ) (ts : List (Fin 16)) : ∀ (m : ℕ) (a : Acc Ideal), HalfInv j q m u a →
    ts.map Fin.val = List.range' m n → HalfInv j q (m + n) u (ts.foldl (tileStep j q) a) := by
  induction n generalizing ts with
  | zero => intro m a h e; obtain rfl : ts = [] := by simpa using e
            exact h
  | succ n ih =>
    intro m a h e
    cases ts with
    | nil => simp at e
    | cons t ts =>
      simp only [List.map_cons, List.range'_succ, List.cons.injEq] at e
      obtain ⟨e1, e2⟩ := e
      subst e1
      rw [List.foldl_cons, Nat.add_comm n 1, ← Nat.add_assoc]
      exact ih ts _ _ (half_step j q u a t h) e2

theorem half_inv (j : Fin k0_t2_loop.trips) (q : Fin 2) (u : U) : HalfInv j q (0 + 1 + 15) u (halfAcc j q u) :=
  half_steps j q u 15 laterTiles (0 + 1) _ (half_init j q u) (by decide)

end Cert.KernelIdeal.Fold
-- ==== Proof.StatsVal.lean ====
/- The two halves of a part, and the scales and zero points of its sixteen groups of rows, over the extended reals. -/
module

public import proofs.«01_k».proof.Proof.HalfVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts
open Cert.Quantiser

/-- Row `ρ` of the group of rows `R`. -/
def gr (R : Fin 4) (ρ : Fin 128) : Fin 512 := ⟨128 * R.val + ρ.val, by omega⟩

/-- The largest and the smallest value of a group. -/
def gMx (u : U) (b : Fin 8) (R : Fin 4) (n : Fin 512) : EReal := ⨆ ρ : Fin 128, N u b (gr R ρ) n
def gMn (u : U) (b : Fin 8) (R : Fin 4) (n : Fin 512) : EReal := ⨅ ρ : Fin 128, N u b (gr R ρ) n
/-- Its scale and zero point. -/
def gSc (u : U) (b : Fin 8) (R : Fin 4) (n : Fin 512) : EReal := scaleE (gMx u b R n) (gMn u b R n)
def gZ (u : U) (b : Fin 8) (R : Fin 4) (n : Fin 512) : EReal := zeroE (gMn u b R n) (gSc u b R n)

/-- The group of rows of half `q` of part `j`. -/
def gR (j : Fin k0_t2_loop.trips) (q : Fin 2) : Fin 4 := ⟨2 * (j.val % 2) + q.val, by have := q.isLt; omega⟩

theorem cast_same (x : FVec Ideal S8x128 .f32) : shapeCast S8x128 x shapeCasts_S8x128_S8x128 = x := by
  funext i
  idx_vars i
  pointwise

/-- One stored vector of running extremes, at a cell. -/
theorem putP_one (q : Fin 2) (b : Fin 8) (y : FVec Ideal S8x128 .f32) (p : S128x128.Idx → EReal) (R l : Fin 128) :
    (rP q b).overlay p (shapeCast S8x128 y shapeCasts_S8x128_S8x128) (ix2 R l)
      = if R.val / 64 = q.val ∧ R.val / 8 % 8 = b.val then y (ix2 ⟨R.val % 8, by omega⟩ l) else p (ix2 R l) := by
  rw [cast_same]
  unfold rP
  by_cases h : R.val / 64 = q.val ∧ R.val / 8 % 8 = b.val
  · rw [if_pos h, overlay_unit]
    · congr 1
      funext a
      apply Fin.ext
      fin_cases a
      · show R.val - 8 * (8 * q.val + b.val) = R.val % 8; omega
      · show l.val - 0 = l.val; omega
    · intro a
      fin_cases a
      · show 8 * (8 * q.val + b.val) ≤ R.val ∧ R.val < 8 * (8 * q.val + b.val) + 8; omega
      · show 0 ≤ l.val ∧ l.val < 0 + 128; omega
  · rw [if_neg h]
    refine overlay_unit_not _ _ _ _ _ _ (0 : Fin 2) ?_
    show ¬ (8 * (8 * q.val + b.val) ≤ R.val ∧ R.val < 8 * (8 * q.val + b.val) + 8)
    omega

theorem putP_apply (q : Fin 2) (mx : Fin 8 → FVec Ideal S8x128 .f32) (R l : Fin 128) (bs : List (Fin 8)) : ∀ p : S128x128.Idx → EReal,
    putP q mx bs p (ix2 R l) = if R.val / 64 = q.val ∧ (⟨R.val / 8 % 8, by omega⟩ : Fin 8) ∈ bs
      then mx ⟨R.val / 8 % 8, by omega⟩ (ix2 ⟨R.val % 8, by omega⟩ l) else p (ix2 R l) := by
  induction bs with
  | nil => intro p; rw [if_neg (by simp)]; rfl
  | cons c bs ih =>
    intro p
    unfold putP at ih ⊢
    rw [List.foldl_cons, ih, putP_one]
    by_cases h1 : R.val / 64 = q.val
    · by_cases h2 : (⟨R.val / 8 % 8, by omega⟩ : Fin 8) ∈ bs
      · rw [if_pos ⟨h1, h2⟩, if_pos ⟨h1, List.mem_cons_of_mem _ h2⟩]
      · rw [if_neg (fun h => h2 h.2)]
        by_cases h3 : R.val / 8 % 8 = c.val
        · have e : c = ⟨R.val / 8 % 8, by omega⟩ := Fin.ext h3.symm
          rw [if_pos ⟨h1, h3⟩, if_pos ⟨h1, by rw [e]; exact List.mem_cons_self⟩, e]
        · rw [if_neg (fun h => h3 h.2), if_neg]
          rintro ⟨_, h⟩
          rcases List.mem_cons.mp h with h | h
          · exact h3 (congrArg Fin.val h)
          · exact h2 h
    · rw [if_neg (fun h => h1 h.1), if_neg (fun h => h1 h.1), if_neg (fun h => h1 h.1)]

/-- The two halves of a part. -/
def halves (j : Fin k0_t2_loop.trips) (s : St Ideal) : St Ideal := halfF j 1 (halfF j 0 s)

theorem half_u (j : Fin k0_t2_loop.trips) (q : Fin 2) (s : St Ideal) : (halfF j q s).u = (halfAcc j q s.u).u := by unfold halfF; rfl
theorem half_pmx (j : Fin k0_t2_loop.trips) (q : Fin 2) (s : St Ideal) : (halfF j q s).pmx = putP q (halfAcc j q s.u).mx blocks s.pmx := by
  unfold halfF; rfl
theorem half_pmn (j : Fin k0_t2_loop.trips) (q : Fin 2) (s : St Ideal) : (halfF j q s).pmn = putP q (halfAcc j q s.u).mn blocks s.pmn := by
  unfold halfF; rfl

/-- After half `0`, half `1`'s rows are as before. -/
theorem N_half (j : Fin k0_t2_loop.trips) (s : St Ideal) (b : Fin 8) (r l : Fin 512) (h : r.val / 128 = 2 * (j.val % 2) + 1) :
    N (halfF j 0 s).u b r l = N s.u b r l := by
  unfold N
  congr 1
  funext c
  rw [half_u, (half_inv j 0 s.u).cells, if_neg]
  rintro ⟨h1, _⟩
  have : ((0 : Fin 2).val) = 0 := rfl
  omega

theorem halves_u (j : Fin k0_t2_loop.trips) (s : St Ideal) (b : Fin 8) (r l : Fin 512) :
    (halves j s).u (ix3 b r l) = if r.val / 256 = j.val % 2 ∧ l.val / 128 = j.val / 2 then N s.u b r l else s.u (ix3 b r l) := by
  unfold halves
  have e0 : ((0 : Fin 2).val) = 0 := rfl
  have e1 : ((1 : Fin 2).val) = 1 := rfl
  rw [half_u, (half_inv j 1 (halfF j 0 s).u).cells, e1]
  by_cases h1 : r.val / 128 = 2 * (j.val % 2) + 1 ∧ r.val % 128 < 8 * (0 + 1 + 15) ∧ l.val / 128 = j.val / 2
  · rw [if_pos h1, if_pos (by omega), N_half j s b r l h1.1]
  · rw [if_neg h1, half_u, (half_inv j 0 s.u).cells, e0]
    congr 1
    apply propext
    omega

theorem gr_row (j : Fin k0_t2_loop.trips) (q : Fin 2) (ρ : Fin 128) : gr (gR j q) ρ = rowOf j q ρ := rfl

theorem tr_split (ρ : Fin 128) : ρ = tr ⟨ρ.val / 8, by omega⟩ ⟨ρ.val % 8, by omega⟩ := by
  apply Fin.ext
  show ρ.val = 8 * (ρ.val / 8) + ρ.val % 8
  omega

theorem halves_pmx (j : Fin k0_t2_loop.trips) (s : St Ideal) (R l : Fin 128) :
    (halves j s).pmx (ix2 R l) = (halfAcc j ⟨R.val / 64, by omega⟩ (if R.val / 64 = 1 then (halfF j 0 s).u else s.u)).mx
      ⟨R.val / 8 % 8, by omega⟩ (ix2 ⟨R.val % 8, by omega⟩ l) := by
  unfold halves
  rw [half_pmx, putP_apply, half_pmx, putP_apply]
  simp only [mem_blocks, and_true]
  obtain h | h : R.val / 64 = 0 ∨ R.val / 64 = 1 := by omega
  · have e : (⟨R.val / 64, by omega⟩ : Fin 2) = 0 := Fin.ext h
    rw [if_neg (by rw [h]; decide), if_pos (by rw [h]; rfl), if_neg (by rw [h]; decide), e]
  · have e : (⟨R.val / 64, by omega⟩ : Fin 2) = 1 := Fin.ext h
    rw [if_pos (by rw [h]; rfl), if_pos h, e]

theorem halves_pmn (j : Fin k0_t2_loop.trips) (s : St Ideal) (R l : Fin 128) :
    (halves j s).pmn (ix2 R l) = (halfAcc j ⟨R.val / 64, by omega⟩ (if R.val / 64 = 1 then (halfF j 0 s).u else s.u)).mn
      ⟨R.val / 8 % 8, by omega⟩ (ix2 ⟨R.val % 8, by omega⟩ l) := by
  unfold halves
  rw [half_pmn, putP_apply, half_pmn, putP_apply]
  simp only [mem_blocks, and_true]
  obtain h | h : R.val / 64 = 0 ∨ R.val / 64 = 1 := by omega
  · have e : (⟨R.val / 64, by omega⟩ : Fin 2) = 0 := Fin.ext h
    rw [if_neg (by rw [h]; decide), if_pos (by rw [h]; rfl), if_neg (by rw [h]; decide), e]
  · have e : (⟨R.val / 64, by omega⟩ : Fin 2) = 1 := Fin.ext h
    rw [if_pos (by rw [h]; rfl), if_pos h, e]

theorem N_if (j : Fin k0_t2_loop.trips) (s : St Ideal) (q : Fin 2) (b : Fin 8) (ρ : Fin 128) (l : Fin 512) :
    N (if q.val = 1 then (halfF j 0 s).u else s.u) b (rowOf j q ρ) l = N s.u b (rowOf j q ρ) l := by
  by_cases h : q.val = 1
  · rw [if_pos h]
    apply N_half
    show (128 * (2 * (j.val % 2) + q.val) + ρ.val) / 128 = _
    omega
  · rw [if_neg h]

theorem redMx_le (x : Fin 8 → Vec Ideal S16x128 .f32) (i : S16x128.Idx) (c : EReal) : redMx x i ≤ c ↔ ∀ r, (x r i : EReal) ≤ c := by
  show max (max (max (max (max (max (max (x 0 i : EReal) (x 1 i)) (x 2 i)) (x 3 i)) (x 4 i)) (x 5 i)) (x 6 i)) (x 7 i) ≤ c ↔ _
  simp only [max_le_iff, and_assoc]
  constructor
  · rintro ⟨h0, h1, h2, h3, h4, h5, h6, h7⟩ r
    fin_cases r <;> assumption
  · intro h
    exact ⟨h 0, h 1, h 2, h 3, h 4, h 5, h 6, h 7⟩

theorem le_redMn (x : Fin 8 → Vec Ideal S16x128 .f32) (i : S16x128.Idx) (c : EReal) : c ≤ redMn x i ↔ ∀ r, c ≤ (x r i : EReal) := by
  show c ≤ min (min (min (min (min (min (min (x 0 i : EReal) (x 1 i)) (x 2 i)) (x 3 i)) (x 4 i)) (x 5 i)) (x 6 i)) (x 7 i) ↔ _
  simp only [le_min_iff, and_assoc]
  constructor
  · rintro ⟨h0, h1, h2, h3, h4, h5, h6, h7⟩ r
    fin_cases r <;> assumption
  · intro h
    exact ⟨h 0, h 1, h 2, h 3, h 4, h 5, h 6, h 7⟩

theorem ldS_at (p : S128x128.Idx → EReal) (r : Fin 8) (g : Fin 16) (l : Fin 128) :
    p ((ldS r).idx (ix2 g l)) = p (ix2 (⟨8 * g.val + r.val, by omega⟩ : Fin 128) l) := by
  congr 1
  funext a
  apply Fin.ext
  fin_cases a
  · show r.val + 8 * g.val = 8 * g.val + r.val; omega
  · show 0 + 1 * l.val = l.val; omega

theorem mxOf_le (p : S128x128.Idx → EReal) (g : Fin 16) (l : Fin 128) (c : EReal) :
    mxOf (F := Ideal) p (ix2 g l) ≤ c ↔ ∀ r : Fin 8, p (ix2 (⟨8 * g.val + r.val, by omega⟩ : Fin 128) l) ≤ c := by
  unfold mxOf
  rw [redMx_le]
  apply forall_congr'
  intro r
  rw [← ldS_at p r g l]
  fin_cases r <;> exact Iff.rfl

theorem le_mnOf (p : S128x128.Idx → EReal) (g : Fin 16) (l : Fin 128) (c : EReal) :
    c ≤ mnOf (F := Ideal) p (ix2 g l) ↔ ∀ r : Fin 8, c ≤ p (ix2 (⟨8 * g.val + r.val, by omega⟩ : Fin 128) l) := by
  unfold mnOf
  rw [le_redMn]
  apply forall_congr'
  intro r
  rw [← ldS_at p r g l]
  fin_cases r <;> exact Iff.rfl

/-- The group maxima of a part. -/
theorem mx_group (j : Fin k0_t2_loop.trips) (s : St Ideal) (g : Fin 16) (l : Fin 128) :
    mxOf (halves j s).pmx (ix2 g l) = gMx s.u ⟨g.val % 8, by omega⟩ (gR j ⟨g.val / 8, by omega⟩) (lanOf j l) := by
  refine eq_of_forall_ge_iff fun c => ?_
  unfold gMx
  rw [mxOf_le, iSup_le_iff]
  have key : ∀ r : Fin 8, (halves j s).pmx (ix2 (⟨8 * g.val + r.val, by omega⟩ : Fin 128) l) ≤ c
      ↔ ∀ t : Fin 16, N s.u ⟨g.val % 8, by omega⟩ (rowOf j ⟨g.val / 8, by omega⟩ (tr t r)) (lanOf j l) ≤ c := by
    intro r
    have e1 : (8 * g.val + r.val) / 64 = g.val / 8 := by omega
    have e2 : (8 * g.val + r.val) / 8 % 8 = g.val % 8 := by omega
    have e3 : (8 * g.val + r.val) % 8 = r.val := by omega
    rw [halves_pmx]
    simp only [e1, e2, e3, Fin.eta]
    rw [(half_inv j _ _).mx]
    apply forall_congr'
    intro t
    rw [N_if j s ⟨g.val / 8, by omega⟩]
    exact ⟨fun h => h (by omega), fun h _ => h⟩
  simp only [key]
  constructor
  · intro h ρ
    rw [tr_split ρ, gr_row]
    exact h _ _
  · intro h r t
    rw [← gr_row]
    exact h _

/-- The group minima of a part. -/
theorem mn_group (j : Fin k0_t2_loop.trips) (s : St Ideal) (g : Fin 16) (l : Fin 128) :
    mnOf (halves j s).pmn (ix2 g l) = gMn s.u ⟨g.val % 8, by omega⟩ (gR j ⟨g.val / 8, by omega⟩) (lanOf j l) := by
  refine eq_of_forall_le_iff fun c => ?_
  unfold gMn
  rw [le_mnOf, le_iInf_iff]
  have key : ∀ r : Fin 8, c ≤ (halves j s).pmn (ix2 (⟨8 * g.val + r.val, by omega⟩ : Fin 128) l)
      ↔ ∀ t : Fin 16, c ≤ N s.u ⟨g.val % 8, by omega⟩ (rowOf j ⟨g.val / 8, by omega⟩ (tr t r)) (lanOf j l) := by
    intro r
    have e1 : (8 * g.val + r.val) / 64 = g.val / 8 := by omega
    have e2 : (8 * g.val + r.val) / 8 % 8 = g.val % 8 := by omega
    have e3 : (8 * g.val + r.val) % 8 = r.val := by omega
    rw [halves_pmn]
    simp only [e1, e2, e3, Fin.eta]
    rw [(half_inv j _ _).mn]
    apply forall_congr'
    intro t
    rw [N_if j s ⟨g.val / 8, by omega⟩]
    exact ⟨fun h => h (by omega), fun h _ => h⟩
  simp only [key]
  constructor
  · intro h ρ
    rw [tr_split ρ, gr_row]
    exact h _ _
  · intro h r t
    rw [← gr_row]
    exact h _

theorem scaleV_apply (mx mn : FVec Ideal S16x128 .f32) (i : S16x128.Idx) : scaleV mx mn i = scaleE (mx i) (mn i) := rfl

theorem zeroV_apply (mn sc : FVec Ideal S16x128 .f32) (i : S16x128.Idx) : zeroV mn sc i = zeroE (mn i) (sc i) := by
  show min (Ideal.ofBits .f32 0x41700000#32) (max (Ideal.ofBits .f32 0x00000000#32)
    (Ideal.liftRound Ideal.roundHalfEven (Ideal.div (Ideal.ofBits .f32 0x00000000#32 - mn i) (sc i)))) = _
  unfold zeroE
  rw [Ideal.ofBits_zero_f32, zero_sub]

/-- The part's scales and zero points as vectors. -/
def partSc (j : Fin k0_t2_loop.trips) (s : St Ideal) : FVec Ideal S16x128 .f32 := scaleV (mxOf (halves j s).pmx) (mnOf (halves j s).pmn)
def partZ (j : Fin k0_t2_loop.trips) (s : St Ideal) : FVec Ideal S16x128 .f32 := zeroV (mnOf (halves j s).pmn) (partSc j s)

theorem partSc_apply (j : Fin k0_t2_loop.trips) (s : St Ideal) (g : Fin 16) (l : Fin 128) :
    partSc j s (ix2 g l) = gSc s.u ⟨g.val % 8, by omega⟩ (gR j ⟨g.val / 8, by omega⟩) (lanOf j l) := by
  unfold partSc gSc
  rw [scaleV_apply, mx_group, mn_group]

theorem partZ_apply (j : Fin k0_t2_loop.trips) (s : St Ideal) (g : Fin 16) (l : Fin 128) :
    partZ j s (ix2 g l) = gZ s.u ⟨g.val % 8, by omega⟩ (gR j ⟨g.val / 8, by omega⟩) (lanOf j l) := by
  unfold partZ gZ
  rw [zeroV_apply, mn_group, partSc_apply]

end Cert.KernelIdeal.Fold
-- ==== Proof.TableVal.lean ====
/- The tables that the statistics of a part fill: the reciprocals and zero points for the codes, and the part's rows of the results. -/
module

public import proofs.«01_k».proof.Proof.StatsVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts
open Cert.Quantiser

/-- A part up to its codes. -/
def upTo (j : Fin k0_t2_loop.trips) (s : St Ideal) : St Ideal := statsF j (halves j s)

theorem upTo_u (j : Fin k0_t2_loop.trips) (s : St Ideal) : (upTo j s).u = (halves j s).u := by unfold upTo statsF statsG; rfl
theorem upTo_codes (j : Fin k0_t2_loop.trips) (s : St Ideal) : (upTo j s).codes = s.codes := by
  unfold upTo statsF statsG halves halfF; rfl
theorem statsG_ze (j : Fin k0_t2_loop.trips) (mx mn : FVec Ideal S16x128 .f32) (s : St Ideal) : (statsG j mx mn s).ze
    = rAll.overlay s.ze (shapeCast S16x128 (zeV (zeroV mn (scaleV mx mn))) shapeCasts_S16x128_S16x128) := by
  unfold statsG; dsimp only
theorem statsG_zo (j : Fin k0_t2_loop.trips) (mx mn : FVec Ideal S16x128 .f32) (s : St Ideal) : (statsG j mx mn s).zo
    = rAll.overlay s.zo (shapeCast S16x128 (zoV (zeroV mn (scaleV mx mn))) shapeCasts_S16x128_S16x128) := by
  unfold statsG; dsimp only
theorem upTo_rs (j : Fin k0_t2_loop.trips) (s : St Ideal) :
    (upTo j s).rs = rAll.overlay (halves j s).rs (shapeCast S16x128 (recV (partSc j s)) shapeCasts_S16x128_S16x128) := by
  unfold upTo statsF statsG partSc; rfl
theorem upTo_ze (j : Fin k0_t2_loop.trips) (s : St Ideal) :
    (upTo j s).ze = rAll.overlay (halves j s).ze (shapeCast S16x128 (zeV (partZ j s)) shapeCasts_S16x128_S16x128) := by
  unfold upTo statsF partZ partSc; exact statsG_ze j _ _ _
theorem upTo_zo (j : Fin k0_t2_loop.trips) (s : St Ideal) :
    (upTo j s).zo = rAll.overlay (halves j s).zo (shapeCast S16x128 (zoV (partZ j s)) shapeCasts_S16x128_S16x128) := by
  unfold upTo statsF partZ partSc; exact statsG_zo j _ _ _
theorem halves_tables (j : Fin k0_t2_loop.trips) (s : St Ideal) : (halves j s).sct = s.sct ∧ (halves j s).zct = s.zct := by
  unfold halves halfF; exact ⟨rfl, rfl⟩
theorem statsG_sct (j : Fin k0_t2_loop.trips) (mx mn : FVec Ideal S16x128 .f32) (s : St Ideal) :
    (statsG j mx mn s).sct = putSc j (scaleV mx mn) s.sct := by
  unfold statsG; dsimp only
theorem statsG_zct (j : Fin k0_t2_loop.trips) (mx mn : FVec Ideal S16x128 .f32) (s : St Ideal) :
    (statsG j mx mn s).zct = putZc j (zeroV mn (scaleV mx mn)) s.zct := by
  unfold statsG; dsimp only
theorem upTo_sct (j : Fin k0_t2_loop.trips) (s : St Ideal) : (upTo j s).sct = putSc j (partSc j s) s.sct := by
  unfold upTo statsF partSc
  rw [statsG_sct, (halves_tables j s).1]
theorem upTo_zct (j : Fin k0_t2_loop.trips) (s : St Ideal) : (upTo j s).zct = putZc j (partZ j s) s.zct := by
  unfold upTo statsF partZ partSc
  rw [statsG_zct, (halves_tables j s).2]

theorem overlay_all {α : Type} (G v : S16x128.Idx → α) : rAll.overlay G v = v := by
  funext x
  refine (overlay_unit _ _ _ G v x ?_).trans ?_
  · intro a
    have := (x a).isLt
    fin_cases a
    · exact ⟨Nat.zero_le _, by show _ < 0 + _; rw [Nat.zero_add]; exact (x 0).isLt⟩
    · exact ⟨Nat.zero_le _, by show _ < 0 + _; rw [Nat.zero_add]; exact (x 1).isLt⟩
  · congr 1
    funext a
    apply Fin.ext
    fin_cases a <;> exact Nat.sub_zero _

theorem cast_allF (x : FVec Ideal S16x128 .f32) : shapeCast S16x128 x shapeCasts_S16x128_S16x128 = x := by
  funext i
  idx_vars i
  pointwise
theorem cast_allI (x : IVec S16x128 32) : shapeCast S16x128 x shapeCasts_S16x128_S16x128 = x := by
  funext i
  idx_vars i
  pointwise

theorem rs_at (j : Fin k0_t2_loop.trips) (s : St Ideal) : (upTo j s).rs = recV (partSc j s) := by
  rw [upTo_rs, overlay_all, cast_allF]
theorem ze_at (j : Fin k0_t2_loop.trips) (s : St Ideal) : (upTo j s).ze = zeV (partZ j s) := by
  rw [upTo_ze, overlay_all, cast_allI]
theorem zo_at (j : Fin k0_t2_loop.trips) (s : St Ideal) : (upTo j s).zo = zoV (partZ j s) := by
  rw [upTo_zo, overlay_all, cast_allI]

theorem off11_eq : ∀ (j : Fin k0_t2_loop.trips) (q : Fin 2), k0_off11 j (BitVec.ofNat 32 q.val) = ![j.val / 2, 2 * (j.val % 2) + q.val, 0] := by
  decide +kernel

/-- One half's rows put into a table, at a cell. -/
theorem rT_one {α : Type} (j : Fin k0_t2_loop.trips) (q : Fin 2) (v : S1x8x128.Idx → α) (G : S4x32x128.Idx → α) (p : Fin 4) (row : Fin 32) (l : Fin 128) :
    (rT j q).overlay G v (ix3 p row l)
      = if p.val = j.val / 2 ∧ row.val % 4 = 2 * (j.val % 2) + q.val then v (ix3 (0 : Fin 1) (⟨row.val / 4, by omega⟩ : Fin 8) l) else G (ix3 p row l) := by
  have off0 : ∀ a, k0_off11 j (BitVec.ofNat 32 q.val) a = (![j.val / 2, 2 * (j.val % 2) + q.val, 0] : Fin 3 → ℕ) a := fun a => congrFun (off11_eq j q) a
  by_cases h : p.val = j.val / 2 ∧ row.val % 4 = 2 * (j.val % 2) + q.val
  · rw [if_pos h]
    have e : ix3 p row l = (rT j q).emb (ix3 (0 : Fin 1) (⟨row.val / 4, by omega⟩ : Fin 8) l) := by
      funext a
      apply Fin.ext
      show _ = k0_off11 j (BitVec.ofNat 32 q.val) a + (![1, 4, 1] : Fin 3 → ℕ) a * _
      rw [off0]
      fin_cases a
      · show p.val = j.val / 2 + 1 * 0; omega
      · show row.val = (2 * (j.val % 2) + q.val) + 4 * (row.val / 4); omega
      · show l.val = 0 + 1 * l.val; omega
    rw [e]
    exact Rect.overlay_emb (rT j q) G v _
  · rw [if_neg h]
    refine Rect.overlay_of_not_mem (rT j q) G v ?_
    intro hm
    obtain ⟨y, hy⟩ := (rT j q).exists_idx_of_mem hm
    apply h
    have e : ∀ a, ((ix3 p row l : S4x32x128.Idx) a).val = k0_off11 j (BitVec.ofNat 32 q.val) a + (![1, 4, 1] : Fin 3 → ℕ) a * (y a).val := by
      intro a; rw [← hy]; rfl
    have e0 := e 0
    have e1 := e 1
    rw [off0] at e0 e1
    have h0 : (y 0).val < 1 := (y 0).isLt
    have e0' : p.val = j.val / 2 + 1 * (y 0).val := e0
    have e1' : row.val = (2 * (j.val % 2) + q.val) + 4 * (y 1).val := e1
    have := q.isLt
    exact ⟨by omega, by omega⟩

theorem slice_lo (x : FVec Ideal S16x128 .f32) (b : Fin 8) (l : Fin 128) :
    shapeCast S1x8x128 (extractStridedSlice S8x128 ![0, 0] x slices_S16x128_o0_0_S8x128) shapeCasts_S8x128_S1x8x128 (ix3 (0 : Fin 1) b l)
      = x (ix2 (⟨b.val, by omega⟩ : Fin 16) l) := by
  pointwise
theorem slice_hi (x : FVec Ideal S16x128 .f32) (b : Fin 8) (l : Fin 128) :
    shapeCast S1x8x128 (extractStridedSlice S8x128 ![8, 0] x slices_S16x128_o8_0_S8x128) shapeCasts_S8x128_S1x8x128 (ix3 (0 : Fin 1) b l)
      = x (ix2 (⟨8 + b.val, by omega⟩ : Fin 16) l) := by
  pointwise
theorem slice_loZ (x : FVec Ideal S16x128 .f32) (b : Fin 8) (l : Fin 128) :
    shapeCast S1x8x128 (fptosi 32 (extractStridedSlice S8x128 ![0, 0] x slices_S16x128_o0_0_S8x128)) shapeCasts_S8x128_S1x8x128 (ix3 (0 : Fin 1) b l)
      = Ideal.fptosi 32 (x (ix2 (⟨b.val, by omega⟩ : Fin 16) l)) := by
  exact congrArg (Ideal.fptosi 32) (slice_lo x b l)
theorem slice_hiZ (x : FVec Ideal S16x128 .f32) (b : Fin 8) (l : Fin 128) :
    shapeCast S1x8x128 (fptosi 32 (extractStridedSlice S8x128 ![8, 0] x slices_S16x128_o8_0_S8x128)) shapeCasts_S8x128_S1x8x128 (ix3 (0 : Fin 1) b l)
      = Ideal.fptosi 32 (x (ix2 (⟨8 + b.val, by omega⟩ : Fin 16) l)) := by
  exact congrArg (Ideal.fptosi 32) (slice_hi x b l)

theorem putSc_apply (j : Fin k0_t2_loop.trips) (sc : FVec Ideal S16x128 .f32) (t : S4x32x128.Idx → EReal) (p : Fin 4) (row : Fin 32) (l : Fin 128) :
    putSc j sc t (ix3 p row l) = if p.val = j.val / 2 ∧ row.val % 4 / 2 = j.val % 2
      then sc (ix2 (⟨8 * (row.val % 2) + row.val / 4, by omega⟩ : Fin 16) l) else t (ix3 p row l) := by
  unfold putSc
  have e0 : ((0 : Fin 2).val) = 0 := rfl
  have e1 : ((1 : Fin 2).val) = 1 := rfl
  rw [rT_one, e1]
  by_cases h1 : p.val = j.val / 2 ∧ row.val % 4 = 2 * (j.val % 2) + 1
  · rw [if_pos h1, if_pos (by omega), slice_hi]
    have e : 8 + row.val / 4 = 8 * (row.val % 2) + row.val / 4 := by omega
    simp only [e]
  · rw [if_neg h1, rT_one, e0]
    by_cases h0 : p.val = j.val / 2 ∧ row.val % 4 = 2 * (j.val % 2) + 0
    · rw [if_pos h0, if_pos (by omega), slice_lo]
      have e : row.val / 4 = 8 * (row.val % 2) + row.val / 4 := by omega
      congr 2
      exact Fin.ext e
    · rw [if_neg h0, if_neg (by omega)]

theorem putZc_apply (j : Fin k0_t2_loop.trips) (z : FVec Ideal S16x128 .f32) (t : S4x32x128.Idx → BitVec 32) (p : Fin 4) (row : Fin 32) (l : Fin 128) :
    putZc j z t (ix3 p row l) = if p.val = j.val / 2 ∧ row.val % 4 / 2 = j.val % 2
      then Ideal.fptosi 32 (z (ix2 (⟨8 * (row.val % 2) + row.val / 4, by omega⟩ : Fin 16) l)) else t (ix3 p row l) := by
  unfold putZc
  have e0 : ((0 : Fin 2).val) = 0 := rfl
  have e1 : ((1 : Fin 2).val) = 1 := rfl
  rw [rT_one, e1]
  by_cases h1 : p.val = j.val / 2 ∧ row.val % 4 = 2 * (j.val % 2) + 1
  · rw [if_pos h1, if_pos (by omega), slice_hiZ]
    have e : 8 + row.val / 4 = 8 * (row.val % 2) + row.val / 4 := by omega
    simp only [e]
  · rw [if_neg h1, rT_one, e0]
    by_cases h0 : p.val = j.val / 2 ∧ row.val % 4 = 2 * (j.val % 2) + 0
    · rw [if_pos h0, if_pos (by omega), slice_loZ]
      have e : row.val / 4 = 8 * (row.val % 2) + row.val / 4 := by omega
      congr 3
      exact Fin.ext e
    · rw [if_neg h0, if_neg (by omega)]

/-- The group of a row of the tables, and the row of the block of a table's lane. -/
def tB (row : Fin 32) : Fin 8 := ⟨row.val / 4, by omega⟩
def tR (row : Fin 32) : Fin 4 := ⟨row.val % 4, by omega⟩
def tN (p : Fin 4) (l : Fin 128) : Fin 512 := ⟨128 * p.val + l.val, by omega⟩

theorem part_group (j : Fin k0_t2_loop.trips) (p : Fin 4) (row : Fin 32) (l : Fin 128) (h : p.val = j.val / 2 ∧ row.val % 4 / 2 = j.val % 2) :
    (⟨(8 * (row.val % 2) + row.val / 4) % 8, by omega⟩ : Fin 8) = tB row ∧ gR j ⟨(8 * (row.val % 2) + row.val / 4) / 8, by omega⟩ = tR row
      ∧ lanOf j l = tN p l := by
  refine ⟨Fin.ext ?_, Fin.ext ?_, Fin.ext ?_⟩
  · show (8 * (row.val % 2) + row.val / 4) % 8 = row.val / 4; omega
  · show 2 * (j.val % 2) + (8 * (row.val % 2) + row.val / 4) / 8 = row.val % 4; omega
  · show 128 * (j.val / 2) + l.val = 128 * p.val + l.val; omega

theorem sct_at (j : Fin k0_t2_loop.trips) (s : St Ideal) (p : Fin 4) (row : Fin 32) (l : Fin 128) :
    (upTo j s).sct (ix3 p row l) = if p.val = j.val / 2 ∧ row.val % 4 / 2 = j.val % 2
      then gSc s.u (tB row) (tR row) (tN p l) else s.sct (ix3 p row l) := by
  rw [upTo_sct, putSc_apply]
  by_cases h : p.val = j.val / 2 ∧ row.val % 4 / 2 = j.val % 2
  · obtain ⟨e1, e2, e3⟩ := part_group j p row l h
    rw [if_pos h, if_pos h, partSc_apply, e1, e2, e3]
  · rw [if_neg h, if_neg h]

theorem zct_at (j : Fin k0_t2_loop.trips) (s : St Ideal) (p : Fin 4) (row : Fin 32) (l : Fin 128) :
    (upTo j s).zct (ix3 p row l) = if p.val = j.val / 2 ∧ row.val % 4 / 2 = j.val % 2
      then Ideal.fptosi 32 (gZ s.u (tB row) (tR row) (tN p l)) else s.zct (ix3 p row l) := by
  rw [upTo_zct, putZc_apply]
  by_cases h : p.val = j.val / 2 ∧ row.val % 4 / 2 = j.val % 2
  · obtain ⟨e1, e2, e3⟩ := part_group j p row l h
    rw [if_pos h, if_pos h, partZ_apply, e1, e2, e3]
  · rw [if_neg h, if_neg h]

end Cert.KernelIdeal.Fold
-- ==== Proof.UnitVal.lean ====
/- The codes of one unit of sixteen rows, over the extended reals: each byte is the quantiser's on the unit's two halves. -/
module

public import proofs.«01_k».proof.Proof.TableVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts
open Cert.Quantiser

/-- The sixteen-bit words of the codes of one half of a unit. -/
def X16 (lo hi sh base : BitVec 16) (x : Vec Ideal S1x16x128 .f32) (r : FVec Ideal S16x128 .f32) (z : FVec Ideal S16x128 .bf16) : IVec S16x128 16 :=
  addi (shli (fptosi 16 (subf (minimumf (maximumf (addf (truncf .bf16 (roundeven (mulf
      (shapeCast S16x128 x shapeCasts_S1x16x128_S16x128) r)) bitsLt_bf16_f32) z) (broadcast S16x128 (Scalar.ofBits .bf16 lo)))
      (broadcast S16x128 (Scalar.ofBits .bf16 hi))) (broadcast S16x128 (Scalar.ofBits .bf16 lo)))) (broadcast S16x128 sh)) (broadcast S16x128 base)

theorem X16_apply (lo hi sh base : BitVec 16) (x : Vec Ideal S1x16x128 .f32) (r : FVec Ideal S16x128 .f32) (z : FVec Ideal S16x128 .bf16)
    (i : Fin 16) (l : Fin 128) : X16 lo hi sh base x r z (ix2 i l)
      = IntOp.addi (IntOp.shli .vector (Ideal.fptosi 16 (min (max (Ideal.liftRound Ideal.roundHalfEven (x (ix3 (0 : Fin 1) i l) * r (ix2 i l)) + z (ix2 i l))
          (Ideal.ofBits FTy.bf16 lo)) (Ideal.ofBits FTy.bf16 hi) - Ideal.ofBits FTy.bf16 lo)) sh) base := by
  pointwise [X16]
  rfl

theorem word_e : ∀ a : Fin 16, IntOp.addi (IntOp.shli .vector (BitVec.ofNat 16 a.val) 0#16) 17152#16 = BitVec.ofNat 16 (0x4300 + a.val) := by
  decide +kernel
theorem word_o : ∀ a : Fin 16, IntOp.addi (IntOp.shli .vector (BitVec.ofNat 16 a.val) 3#16) 16768#16 = BitVec.ofNat 16 (0x4180 + 8 * a.val) := by
  decide +kernel

theorem X16_e (x : Vec Ideal S1x16x128 .f32) (r : FVec Ideal S16x128 .f32) (z : FVec Ideal S16x128 .bf16) (i : Fin 16) (l : Fin 128)
    (v s : ℝ) (hs : s ≠ 0) (n : Fin 16) (hx : x (ix3 (0 : Fin 1) i l) = (v : EReal)) (hr : r (ix2 i l) = Ideal.div ((1 : ℝ) : EReal) s)
    (hz : z (ix2 i l) = ((128 + n.val : ℝ) : EReal)) :
    X16 0x4300#16 0x430F#16 0#16 17152#16 x r z (ix2 i l) = BitVec.ofNat 16 (0x4300 + (clip (Ideal.roundHalfEven (v / s) + n.val)).val) := by
  rw [X16_apply, hx, hr, hz, ofBits_lo128, ofBits_hi143, show (143 : ℝ) = 128 + 15 by norm_num, kcode_coe v s 128 hs n,
    fptosi_fin 16 (by norm_num), word_e]

theorem X16_o (x : Vec Ideal S1x16x128 .f32) (r : FVec Ideal S16x128 .f32) (z : FVec Ideal S16x128 .bf16) (i : Fin 16) (l : Fin 128)
    (v s : ℝ) (hs : s ≠ 0) (n : Fin 16) (hx : x (ix3 (0 : Fin 1) i l) = (v : EReal)) (hr : r (ix2 i l) = Ideal.div ((1 : ℝ) : EReal) s)
    (hz : z (ix2 i l) = ((16 + n.val : ℝ) : EReal)) :
    X16 0x4180#16 0x41F8#16 3#16 16768#16 x r z (ix2 i l) = BitVec.ofNat 16 (0x4180 + 8 * (clip (Ideal.roundHalfEven (v / s) + n.val)).val) := by
  rw [X16_apply, hx, hr, hz, ofBits_lo16, ofBits_hi31, show (31 : ℝ) = 16 + 15 by norm_num, kcode_coe v s 16 hs n,
    fptosi_fin 16 (by norm_num), word_o]

theorem row16 (i : Fin 16) (l : Fin 128) : S16x128.row (ix2 i l) = i.val := rfl
theorem row8 (i : Fin 8) (l : Fin 128) : S8x128.row (ix2 i l) = i.val := rfl

/-- The word over a sixteen-bit row. -/
theorem narrow_at (x : IVec S8x128 32) (i : Fin 16) (l : Fin 128) : bitcast S16x128 16 x bitcasts_S8x128_w32_S16x128_w16 (ix2 i l)
    = (x (ix2 (⟨i.val / 2, by omega⟩ : Fin 8) l)).extractLsb' (16 * (i.val % 2)) 16 := by
  rw [bitcast_32_16]
  refine congrArg (fun y => BitVec.extractLsb' (16 * (i.val % 2)) 16 (x y)) ?_
  funext a
  apply Fin.ext
  fin_cases a
  · exact Shape.Bitcasts.srcIdx_row bitcasts_S8x128_w32_S16x128_w16 (ix2 i l) _ _ (0 : Fin 2) rfl
  · exact Shape.Bitcasts.srcIdx_other bitcasts_S8x128_w32_S16x128_w16 (ix2 i l) _ _ (1 : Fin 2) (by show ¬ (1 + 2 = 2); omega)

/-- The two sixteen-bit rows of a word. -/
theorem wide_at (x : IVec S16x128 16) (i : Fin 8) (l : Fin 128) : bitcast S8x128 32 x bitcasts_S16x128_w16_S8x128_w32 (ix2 i l)
    = x (ix2 (⟨2 * i.val + 1, by omega⟩ : Fin 16) l) ++ x (ix2 (⟨2 * i.val, by omega⟩ : Fin 16) l) := by
  rw [bitcast_16_32]
  congr 2
  · funext a
    apply Fin.ext
    fin_cases a
    · exact Shape.Bitcasts.srcIdx_row bitcasts_S16x128_w16_S8x128_w32 (ix2 i l) _ _ (0 : Fin 2) rfl
    · exact Shape.Bitcasts.srcIdx_other bitcasts_S16x128_w16_S8x128_w32 (ix2 i l) _ _ (1 : Fin 2) (by show ¬ (1 + 2 = 2); omega)
  · funext a
    apply Fin.ext
    fin_cases a
    · exact Shape.Bitcasts.srcIdx_row bitcasts_S16x128_w16_S8x128_w32 (ix2 i l) _ _ (0 : Fin 2) rfl
    · exact Shape.Bitcasts.srcIdx_other bitcasts_S16x128_w16_S8x128_w32 (ix2 i l) _ _ (1 : Fin 2) (by show ¬ (1 + 2 = 2); omega)

theorem codeV_eq (lo hi sh base : BitVec 16) (x : Vec Ideal S1x16x128 .f32) (r : FVec Ideal S16x128 .f32) (z : FVec Ideal S16x128 .bf16) :
    codeV lo hi sh base x r z = bitcast S8x128 32 (X16 lo hi sh base x r z) bitcasts_S16x128_w16_S8x128_w32 := rfl

/-- A unit's byte. -/
theorem unitV_byte (r : FVec Ideal S16x128 .f32) (ze zo : FVec Ideal S16x128 .bf16) (x y : Vec Ideal S1x16x128 .f32) (l : Fin 128)
    (vx vy : Fin 16 → ℝ) (s : ℝ) (hs : s ≠ 0) (n : Fin 16)
    (hx : ∀ i, x (ix3 (0 : Fin 1) i l) = (vx i : EReal)) (hy : ∀ i, y (ix3 (0 : Fin 1) i l) = (vy i : EReal))
    (hr : ∀ i, r (ix2 i l) = Ideal.div ((1 : ℝ) : EReal) s) (hze : ∀ i, ze (ix2 i l) = ((128 + n.val : ℝ) : EReal))
    (hzo : ∀ i, zo (ix2 i l) = ((16 + n.val : ℝ) : EReal)) (i : Fin 16) :
    (unitV r ze zo x y (ix2 i l)).setWidth 8 = byteE (vx i) (vy i) s ((n.val : ℝ) : EReal) := by
  rw [byteE_coe _ _ s hs]
  unfold unitV
  rw [narrow_at]
  show (BitVec.extractLsb' (16 * (i.val % 2)) 16 (codeV _ _ _ _ x r ze _ + (codeV _ _ _ _ y r zo _ + codeV _ _ _ _ y r zo _))).setWidth 8 = _
  rw [codeV_eq, codeV_eq, wide_at, wide_at, X16_e x r ze _ l _ s hs n (hx _) (hr _) (hze _), X16_e x r ze _ l _ s hs n (hx _) (hr _) (hze _),
    X16_o y r zo _ l _ s hs n (hy _) (hr _) (hzo _), X16_o y r zo _ l _ s hs n (hy _) (hr _) (hzo _), word_half _ _ _ _ _ (by omega)]
  congr 1
  by_cases h : i.val % 2 = 0
  · rw [if_pos h, if_pos h]
    have e : (⟨2 * (i.val / 2), by omega⟩ : Fin 16) = i := Fin.ext (by show 2 * (i.val / 2) = i.val; omega)
    rw [e]
  · rw [if_neg h, if_neg h]
    have e : (⟨2 * (i.val / 2) + 1, by omega⟩ : Fin 16) = i := Fin.ext (by show 2 * (i.val / 2) + 1 = i.val; omega)
    rw [e]

theorem rowR_at (x : Vec Ideal S1x128 .f32) (i : Fin 16) (l : Fin 128) : rowR x (ix2 i l) = x (ix2 (0 : Fin 1) l) := by
  pointwise [rowR]

theorem rowZ_at (x : Vec Ideal S1x128 .i32) (i : Fin 16) (l : Fin 128) :
    rowZ (F := Ideal) x (ix2 i l) = Ideal.ofBits .bf16 ((x (ix2 (0 : Fin 1) l) : BitVec 32).extractLsb' (16 * (i.val % 2)) 16) := by
  have e : (broadcastTo S8x128 (shapeCast S1x128 x shapeCasts_S1x128_S1x128) broadcasts_S1x128_S8x128) (ix2 (⟨i.val / 2, by omega⟩ : Fin 8) l)
      = x (ix2 (0 : Fin 1) l) := by pointwise
  unfold rowZ
  show Ideal.ofBits .bf16 (bitcast S16x128 16 _ _ (ix2 i l)) = _
  rw [narrow_at, e]

theorem zword_e : ∀ (n : Fin 16) (k : Fin 2), ((IntOp.ori (IntOp.addi (1124073472#32) (IntOp.shli .vector (BitVec.ofNat 32 n.val) 16#32))
      (IntOp.shrui .vector (IntOp.addi (1124073472#32) (IntOp.shli .vector (BitVec.ofNat 32 n.val) 16#32)) 16#32)).extractLsb' (16 * k.val) 16)
    = BitVec.ofNat 16 (0x4300 + n.val) := by decide +kernel
theorem zword_o : ∀ (n : Fin 16) (k : Fin 2), ((IntOp.ori (IntOp.addi (1098907648#32) (IntOp.shli .vector (BitVec.ofNat 32 n.val) 19#32))
      (IntOp.shrui .vector (IntOp.addi (1098907648#32) (IntOp.shli .vector (BitVec.ofNat 32 n.val) 19#32)) 16#32)).extractLsb' (16 * k.val) 16)
    = BitVec.ofNat 16 (0x4180 + 8 * n.val) := by decide +kernel

/-- The packed zero points, read back above `128` and above `16`. -/
theorem ze_real (z : FVec Ideal S16x128 .f32) (x : S16x128.Idx) (n k : ℕ) (hn : n < 16) (hk : k < 2) (hz : z x = ((n : ℝ) : EReal)) :
    Ideal.ofBits .bf16 ((zeV z x).extractLsb' (16 * k) 16) = ((128 + n : ℝ) : EReal) := by
  have e : zeV z x = IntOp.ori (IntOp.addi (1124073472#32) (IntOp.shli .vector (BitVec.ofNat 32 n) 16#32))
      (IntOp.shrui .vector (IntOp.addi (1124073472#32) (IntOp.shli .vector (BitVec.ofNat 32 n) 16#32)) 16#32) := by
    have e1 : Ideal.fptosi 32 (z x + Ideal.ofBits .f32 0x43000000#32 - Ideal.ofBits .f32 0x43000000#32) = BitVec.ofNat 32 n := by
      rw [hz, ofBits_128, ← EReal.coe_add, ← EReal.coe_sub, add_sub_cancel_right]
      exact fptosi_fin 32 (by norm_num) ⟨n, hn⟩
    rw [← e1]
    rfl
  rw [e]
  have := zword_e ⟨n, hn⟩ ⟨k, hk⟩
  rw [show ((⟨n, hn⟩ : Fin 16).val) = n from rfl, show ((⟨k, hk⟩ : Fin 2).val) = k from rfl] at this
  rw [this]
  exact ofBits_z128 ⟨n, hn⟩

theorem zo_real (z : FVec Ideal S16x128 .f32) (x : S16x128.Idx) (n k : ℕ) (hn : n < 16) (hk : k < 2) (hz : z x = ((n : ℝ) : EReal)) :
    Ideal.ofBits .bf16 ((zoV z x).extractLsb' (16 * k) 16) = ((16 + n : ℝ) : EReal) := by
  have e : zoV z x = IntOp.ori (IntOp.addi (1098907648#32) (IntOp.shli .vector (BitVec.ofNat 32 n) 19#32))
      (IntOp.shrui .vector (IntOp.addi (1098907648#32) (IntOp.shli .vector (BitVec.ofNat 32 n) 19#32)) 16#32) := by
    have e1 : Ideal.fptosi 32 (z x + Ideal.ofBits .f32 0x41800000#32 - Ideal.ofBits .f32 0x41800000#32) = BitVec.ofNat 32 n := by
      rw [hz, ofBits_16, ← EReal.coe_add, ← EReal.coe_sub, add_sub_cancel_right]
      exact fptosi_fin 32 (by norm_num) ⟨n, hn⟩
    rw [← e1]
    rfl
  rw [e]
  have := zword_o ⟨n, hn⟩ ⟨k, hk⟩
  rw [show ((⟨n, hn⟩ : Fin 16).val) = n from rfl, show ((⟨k, hk⟩ : Fin 2).val) = k from rfl] at this
  rw [this]
  exact ofBits_z16 ⟨n, hn⟩

/-- The transposed units, at a cell. -/
theorem outV_at (T : Fin 8 → IVec S16x128 16) (l i : Fin 128) : outV (T 0) (T 1) (T 2) (T 3) (T 4) (T 5) (T 6) (T 7) (ix2 l i)
    = (T ⟨i.val / 16, by omega⟩ (ix2 (⟨i.val % 16, by omega⟩ : Fin 16) l)).setWidth 8 := by
  have key : ∀ (c : Fin 8) (k : ℕ) (hk : k < 16), i.val = 16 * c.val + k → T c (ix2 (⟨k, hk⟩ : Fin 16) l)
      = T ⟨i.val / 16, by omega⟩ (ix2 (⟨i.val % 16, by omega⟩ : Fin 16) l) := by
    intro c k hk e
    have e1 : c = ⟨i.val / 16, by omega⟩ := Fin.ext (by show c.val = i.val / 16; omega)
    have e2 : (⟨k, hk⟩ : Fin 16) = ⟨i.val % 16, by omega⟩ := Fin.ext (by show k = i.val % 16; omega)
    rw [e1, e2]
  have hi := i.isLt
  pointwise [outV]
  congr 1
  by_cases h0 : i.val < 16
  · rw [dif_pos h0]
    exact key 0 (i.val) h0 (by show i.val = 16 * 0 + (i.val); omega)
  rw [dif_neg h0]
  by_cases h1 : i.val - 16 < 16
  · rw [dif_pos h1]
    exact key 1 (i.val - 16) h1 (by show i.val = 16 * 1 + (i.val - 16); omega)
  rw [dif_neg h1]
  by_cases h2 : i.val - 16 - 16 < 16
  · rw [dif_pos h2]
    exact key 2 (i.val - 16 - 16) h2 (by show i.val = 16 * 2 + (i.val - 16 - 16); omega)
  rw [dif_neg h2]
  by_cases h3 : i.val - 16 - 16 - 16 < 16
  · rw [dif_pos h3]
    exact key 3 (i.val - 16 - 16 - 16) h3 (by show i.val = 16 * 3 + (i.val - 16 - 16 - 16); omega)
  rw [dif_neg h3]
  by_cases h4 : i.val - 16 - 16 - 16 - 16 < 16
  · rw [dif_pos h4]
    exact key 4 (i.val - 16 - 16 - 16 - 16) h4 (by show i.val = 16 * 4 + (i.val - 16 - 16 - 16 - 16); omega)
  rw [dif_neg h4]
  by_cases h5 : i.val - 16 - 16 - 16 - 16 - 16 < 16
  · rw [dif_pos h5]
    exact key 5 (i.val - 16 - 16 - 16 - 16 - 16) h5 (by show i.val = 16 * 5 + (i.val - 16 - 16 - 16 - 16 - 16); omega)
  rw [dif_neg h5]
  by_cases h6 : i.val - 16 - 16 - 16 - 16 - 16 - 16 < 16
  · rw [dif_pos h6]
    exact key 6 (i.val - 16 - 16 - 16 - 16 - 16 - 16) h6 (by show i.val = 16 * 6 + (i.val - 16 - 16 - 16 - 16 - 16 - 16); omega)
  rw [dif_neg h6]
  exact key 7 (i.val - 16 - 16 - 16 - 16 - 16 - 16 - 16) (by omega) (by show i.val = 16 * 7 + (i.val - 16 - 16 - 16 - 16 - 16 - 16 - 16); omega)

end Cert.KernelIdeal.Fold
-- ==== Proof.QuantVal.lean ====
/- The codes of a part over the extended reals: the quantiser's bytes in the part's rows and columns, the rest as before. -/
module

public import proofs.«01_k».proof.Proof.UnitVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts
open Cert.Quantiser

/-- Every entry is a real number. -/
def IsReal {ι : Type} (x : ι → EReal) : Prop := ∀ i, ∃ r : ℝ, x i = (r : EReal)

theorem bfly_real (x : Fin 8 → EReal) (h : IsReal x) : IsReal (bflyE x) := by
  obtain ⟨v, hv⟩ := Classical.skolem.mp h
  obtain rfl : x = fun b => (v b : EReal) := funext hv
  intro b
  fin_cases b <;> exact ⟨_, by simp only [bflyE, ← EReal.coe_add, ← EReal.coe_sub]; rfl⟩

theorem N_real (u : U) (hu : IsReal u) (b : Fin 8) (r l : Fin 512) : ∃ v : ℝ, N u b r l = (v : EReal) := by
  unfold N
  exact bfly_real _ (fun c => hu _) b

theorem gMx_real (u : U) (hu : IsReal u) (b : Fin 8) (R : Fin 4) (n : Fin 512) : ∃ v : ℝ, gMx u b R n = (v : EReal) := by
  unfold gMx
  obtain ⟨ρ, hρ⟩ := exists_eq_ciSup_of_finite (f := fun ρ : Fin 128 => N u b (gr R ρ) n)
  obtain ⟨v, hv⟩ := N_real u hu b (gr R ρ) n
  exact ⟨v, by rw [← hρ, ← hv]⟩
theorem gMn_real (u : U) (hu : IsReal u) (b : Fin 8) (R : Fin 4) (n : Fin 512) : ∃ v : ℝ, gMn u b R n = (v : EReal) := by
  unfold gMn
  obtain ⟨ρ, hρ⟩ := exists_eq_ciInf_of_finite (f := fun ρ : Fin 128 => N u b (gr R ρ) n)
  obtain ⟨v, hv⟩ := N_real u hu b (gr R ρ) n
  exact ⟨v, by rw [← hρ, ← hv]⟩
theorem gSc_real (u : U) (hu : IsReal u) (b : Fin 8) (R : Fin 4) (n : Fin 512) : ∃ s : ℝ, s ≠ 0 ∧ gSc u b R n = (s : EReal) := by
  unfold gSc
  obtain ⟨x, hx⟩ := gMx_real u hu b R n
  obtain ⟨y, hy⟩ := gMn_real u hu b R n
  rw [hx, hy]
  exact scaleE_coe x y
theorem gZ_real (u : U) (hu : IsReal u) (b : Fin 8) (R : Fin 4) (n : Fin 512) : ∃ z : Fin 16, gZ u b R n = ((z.val : ℝ) : EReal) := by
  unfold gZ
  obtain ⟨y, hy⟩ := gMn_real u hu b R n
  obtain ⟨s, hs, e⟩ := gSc_real u hu b R n
  rw [hy, e]
  exact zeroE_coe y s hs

/-- The byte of a row of the block and a column of the result. -/
def gByte (u : U) (n : Fin 512) (col : Fin 2048) : BitVec 8 :=
  byteE (N u ⟨col.val / 256, by omega⟩ (gr ⟨col.val / 64 % 4, by omega⟩ ⟨col.val % 64, by omega⟩) n)
    (N u ⟨col.val / 256, by omega⟩ (gr ⟨col.val / 64 % 4, by omega⟩ ⟨col.val % 64 + 64, by omega⟩) n)
    (gSc u ⟨col.val / 256, by omega⟩ ⟨col.val / 64 % 4, by omega⟩ n) (gZ u ⟨col.val / 256, by omega⟩ ⟨col.val / 64 % 4, by omega⟩ n)

theorem offC_eq : ∀ (b : Fin 8) (j : Fin k0_t2_loop.trips) (q p : Fin 2) (c : Fin 4),
    offC j q p c b = ![b.val, 128 * (2 * (j.val % 2) + q.val) + 64 * p.val + 16 * c.val, 128 * (j.val / 2)] := by
  decide +kernel

theorem off13_eq : ∀ (b : Fin 8) (j : Fin k0_t2_loop.trips),
    k0_off13 j (BitVec.ofNat 32 (256 * b.val)) = ![128 * (j.val / 2), 256 * b.val + 128 * (j.val % 2)] := by
  decide +kernel

/-- Row `i` of unit `c` in half `p`. -/
def ur (p : Fin 2) (c : Fin 4) (i : Fin 16) : Fin 128 := ⟨64 * p.val + 16 * c.val + i.val, by omega⟩

theorem rC_at (u : U) (j : Fin k0_t2_loop.trips) (q p : Fin 2) (c : Fin 4) (b : Fin 8) (i : Fin 16) (l : Fin 128) :
    u ((rC j q p c b).toLoadRect.idx (ix3 (0 : Fin 1) i l)) = u (ix3 b (gr (gR j q) (ur p c i)) (lanOf j l)) := by
  refine unit_load (offC_eq b j q p c) _ u (ix3 (0 : Fin 1) i l) _ ?_
  intro a
  fin_cases a
  · show b.val + 0 = b.val; omega
  · show 128 * (2 * (j.val % 2) + q.val) + 64 * p.val + 16 * c.val + i.val
      = 128 * (2 * (j.val % 2) + q.val) + (64 * p.val + 16 * c.val + i.val); omega
  · show 128 * (j.val / 2) + l.val = 128 * (j.val / 2) + l.val; omega

theorem rR_at {α : Type} (x : S16x128.Idx → α) (q : Fin 2) (b : Fin 8) (l : Fin 128) :
    x ((rR q b).toLoadRect.idx (ix2 (0 : Fin 1) l)) = x (ix2 (⟨8 * q.val + b.val, by omega⟩ : Fin 16) l) := by
  refine unit_load rfl _ x (ix2 (0 : Fin 1) l) _ ?_
  intro a
  fin_cases a
  · show 8 * q.val + b.val + 0 = 8 * q.val + b.val; omega
  · show 0 + l.val = l.val; omega

theorem upTo_row (j : Fin k0_t2_loop.trips) (s : St Ideal) (b : Fin 8) (q : Fin 2) (ρ l : Fin 128) :
    (upTo j s).u (ix3 b (gr (gR j q) ρ) (lanOf j l)) = N s.u b (gr (gR j q) ρ) (lanOf j l) := by
  rw [upTo_u, halves_u, if_pos]
  have e1 : (gr (gR j q) ρ).val = 128 * (2 * (j.val % 2) + q.val) + ρ.val := rfl
  have e2 : (lanOf j l).val = 128 * (j.val / 2) + l.val := rfl
  have := q.isLt
  omega

theorem recV_at (sc : FVec Ideal S16x128 .f32) (x : S16x128.Idx) : recV sc x = Ideal.div ((1 : ℝ) : EReal) (sc x) := by
  rw [← ofBits_one]; rfl

/-- A unit of a part gives the quantiser's bytes. -/
theorem unitOf_byte (j : Fin k0_t2_loop.trips) (s : St Ideal) (hu : IsReal s.u) (b : Fin 8) (q : Fin 2) (c : Fin 4) (i : Fin 16) (l : Fin 128) :
    (unitOf j b q c (upTo j s) (ix2 i l)).setWidth 8
      = byteE (N s.u b (gr (gR j q) (ur 0 c i)) (lanOf j l)) (N s.u b (gr (gR j q) (ur 1 c i)) (lanOf j l))
          (gSc s.u b (gR j q) (lanOf j l)) (gZ s.u b (gR j q) (lanOf j l)) := by
  obtain ⟨sc, hs, esc⟩ := gSc_real s.u hu b (gR j q) (lanOf j l)
  obtain ⟨z, ez⟩ := gZ_real s.u hu b (gR j q) (lanOf j l)
  obtain ⟨vx, hvx⟩ := Classical.skolem.mp fun i => N_real s.u hu b (gr (gR j q) (ur 0 c i)) (lanOf j l)
  obtain ⟨vy, hvy⟩ := Classical.skolem.mp fun i => N_real s.u hu b (gr (gR j q) (ur 1 c i)) (lanOf j l)
  have g1 : (⟨(8 * q.val + b.val) % 8, by omega⟩ : Fin 8) = b := Fin.ext (by show (8 * q.val + b.val) % 8 = b.val; omega)
  have g2 : (⟨(8 * q.val + b.val) / 8, by omega⟩ : Fin 2) = q := Fin.ext (by show (8 * q.val + b.val) / 8 = q.val; omega)
  have hsc : partSc j s (ix2 (⟨8 * q.val + b.val, by omega⟩ : Fin 16) l) = (sc : EReal) := by
    rw [partSc_apply, ← esc]; simp only [g1, g2]
  have hz : partZ j s (ix2 (⟨8 * q.val + b.val, by omega⟩ : Fin 16) l) = ((z.val : ℝ) : EReal) := by
    rw [partZ_apply, ← ez]; simp only [g1, g2]
  rw [esc, ez, hvx, hvy]
  unfold unitOf
  refine unitV_byte _ _ _ _ _ l vx vy sc hs z ?_ ?_ ?_ ?_ ?_ i
  · intro i
    exact (rC_at (upTo j s).u j q 0 c b i l).trans ((upTo_row j s b q _ l).trans (hvx i))
  · intro i
    exact (rC_at (upTo j s).u j q 1 c b i l).trans ((upTo_row j s b q _ l).trans (hvy i))
  · intro i
    rw [rowR_at]
    refine (rR_at (upTo j s).rs q b l).trans ?_
    rw [rs_at, recV_at, hsc]
  · intro i
    rw [rowZ_at]
    refine (congrArg (fun w : BitVec 32 => Ideal.ofBits .bf16 (w.extractLsb' (16 * (i.val % 2)) 16)) (rR_at (upTo j s).ze q b l)).trans ?_
    rw [ze_at]
    exact ze_real (partZ j s) _ z.val _ z.isLt (by omega) hz
  · intro i
    rw [rowZ_at]
    refine (congrArg (fun w : BitVec 32 => Ideal.ofBits .bf16 (w.extractLsb' (16 * (i.val % 2)) 16)) (rR_at (upTo j s).zo q b l)).trans ?_
    rw [zo_at]
    exact zo_real (partZ j s) _ z.val _ z.isLt (by omega) hz

/-- One block's codes put in, at a cell. -/
theorem rO_one {α : Type} (j : Fin k0_t2_loop.trips) (b : Fin 8) (v : S128x128.Idx → α) (G : S512x2048.Idx → α) (n : Fin 512) (col : Fin 2048) :
    (rO j b).overlay G v (ix2 n col) = if n.val / 128 = j.val / 2 ∧ col.val / 128 = 2 * b.val + j.val % 2
      then v (ix2 (⟨n.val % 128, by omega⟩ : Fin 128) (⟨col.val % 128, by omega⟩ : Fin 128)) else G (ix2 n col) := by
  have e0 : k0_off13 j (BitVec.ofNat 32 (256 * b.val)) (0 : Fin 2) = 128 * (j.val / 2) := congrFun (off13_eq b j) 0
  have e1 : k0_off13 j (BitVec.ofNat 32 (256 * b.val)) (1 : Fin 2) = 256 * b.val + 128 * (j.val % 2) := congrFun (off13_eq b j) 1
  by_cases h : n.val / 128 = j.val / 2 ∧ col.val / 128 = 2 * b.val + j.val % 2
  · rw [if_pos h]
    unfold rO
    refine (overlay_unit _ _ _ G v (ix2 n col) ?_).trans ?_
    · intro a
      fin_cases a
      · show k0_off13 j (BitVec.ofNat 32 (256 * b.val)) (0 : Fin 2) ≤ n.val ∧ n.val < k0_off13 j (BitVec.ofNat 32 (256 * b.val)) (0 : Fin 2) + 128
        omega
      · show k0_off13 j (BitVec.ofNat 32 (256 * b.val)) (1 : Fin 2) ≤ col.val ∧ col.val < k0_off13 j (BitVec.ofNat 32 (256 * b.val)) (1 : Fin 2) + 128
        omega
    · congr 1
      funext a
      apply Fin.ext
      fin_cases a
      · show n.val - k0_off13 j (BitVec.ofNat 32 (256 * b.val)) (0 : Fin 2) = n.val % 128; omega
      · show col.val - k0_off13 j (BitVec.ofNat 32 (256 * b.val)) (1 : Fin 2) = col.val % 128; omega
  · rw [if_neg h]
    unfold rO
    by_cases h0 : n.val / 128 = j.val / 2
    · refine overlay_unit_not _ _ _ G v (ix2 n col) (1 : Fin 2) ?_
      show ¬ (k0_off13 j (BitVec.ofNat 32 (256 * b.val)) (1 : Fin 2) ≤ col.val ∧ col.val < k0_off13 j (BitVec.ofNat 32 (256 * b.val)) (1 : Fin 2) + 128)
      intro hh; exact h ⟨h0, by omega⟩
    · refine overlay_unit_not _ _ _ G v (ix2 n col) (0 : Fin 2) ?_
      show ¬ (k0_off13 j (BitVec.ofNat 32 (256 * b.val)) (0 : Fin 2) ≤ n.val ∧ n.val < k0_off13 j (BitVec.ofNat 32 (256 * b.val)) (0 : Fin 2) + 128)
      omega

/-- The units of block `b`, in the order in which they are put together. -/
def units (j : Fin k0_t2_loop.trips) (b : Fin 8) (s : St Ideal) (c : Fin 8) : IVec S16x128 16 :=
  unitOf j b ⟨c.val / 4, by omega⟩ ⟨c.val % 4, by omega⟩ s

theorem quant_codes (j : Fin k0_t2_loop.trips) (b : Fin 8) (s : St Ideal) : (quantF j b s).codes
    = (rO j b).overlay s.codes (outV (units j b s 0) (units j b s 1) (units j b s 2) (units j b s 3) (units j b s 4) (units j b s 5)
        (units j b s 6) (units j b s 7)) := by
  unfold quantF; rfl

theorem units_quant (j : Fin k0_t2_loop.trips) (b b' : Fin 8) (s : St Ideal) : units j b (quantF j b' s) = units j b s := by
  funext c
  unfold units unitOf quantF
  rfl

/-- The codes of the blocks `bs`. -/
theorem quants_codes (j : Fin k0_t2_loop.trips) (s0 : St Ideal) (n : Fin 512) (col : Fin 2048) (bs : List (Fin 8)) :
    ∀ s : St Ideal, (∀ b, units j b s = units j b s0) →
    (bs.foldl (fun s b => quantF j b s) s).codes (ix2 n col)
      = if (⟨col.val / 256, by omega⟩ : Fin 8) ∈ bs ∧ n.val / 128 = j.val / 2 ∧ col.val / 128 % 2 = j.val % 2
        then (units j ⟨col.val / 256, by omega⟩ s0 ⟨col.val % 128 / 16, by omega⟩ (ix2 (⟨col.val % 128 % 16, by omega⟩ : Fin 16) (⟨n.val % 128, by omega⟩ : Fin 128))).setWidth 8
        else s.codes (ix2 n col) := by
  induction bs with
  | nil => intro s _; rw [if_neg (by simp)]; rfl
  | cons c bs ih =>
    intro s h
    rw [List.foldl_cons, ih _ (fun b => (units_quant j b c s).trans (h b)), quant_codes, rO_one, outV_at (units j c s), h c]
    by_cases h1 : n.val / 128 = j.val / 2 ∧ col.val / 128 % 2 = j.val % 2
    · by_cases h2 : (⟨col.val / 256, by omega⟩ : Fin 8) ∈ bs
      · rw [if_pos ⟨h2, h1⟩, if_pos ⟨List.mem_cons_of_mem _ h2, h1⟩]
      · rw [if_neg (fun h => h2 h.1)]
        by_cases h3 : col.val / 256 = c.val
        · have e : c = ⟨col.val / 256, by omega⟩ := Fin.ext h3.symm
          rw [if_pos ⟨h1.1, by omega⟩, if_pos ⟨by rw [e]; exact List.mem_cons_self, h1⟩, e]
        · rw [if_neg (by omega), if_neg]
          rintro ⟨h, _⟩
          rcases List.mem_cons.mp h with h | h
          · exact h3 (congrArg Fin.val h)
          · exact h2 h
    · rw [if_neg (fun h => h1 h.2), if_neg (by omega), if_neg (fun h => h1 h.2)]

theorem part_eq (j : Fin k0_t2_loop.trips) (s : St Ideal) : partF s j = blocks.foldl (fun s b => quantF j b s) (upTo j s) := by
  unfold partF upTo halves; rfl

/-- The codes after a part. -/
theorem part_codes (j : Fin k0_t2_loop.trips) (s : St Ideal) (hu : IsReal s.u) (n : Fin 512) (col : Fin 2048) :
    (partF s j).codes (ix2 n col) = if n.val / 128 = j.val / 2 ∧ col.val / 128 % 2 = j.val % 2 then gByte s.u n col else s.codes (ix2 n col) := by
  rw [part_eq, quants_codes j (upTo j s) n col blocks _ (fun _ => rfl), upTo_codes]
  simp only [mem_blocks, true_and]
  by_cases h : n.val / 128 = j.val / 2 ∧ col.val / 128 % 2 = j.val % 2
  · rw [if_pos h, if_pos h]
    unfold units
    rw [unitOf_byte j s hu]
    unfold gByte
    have e1 : gR j ⟨col.val % 128 / 16 / 4, by omega⟩ = ⟨col.val / 64 % 4, by omega⟩ := Fin.ext (by
      show 2 * (j.val % 2) + col.val % 128 / 16 / 4 = col.val / 64 % 4; omega)
    have e2 : lanOf j ⟨n.val % 128, by omega⟩ = n := Fin.ext (by show 128 * (j.val / 2) + n.val % 128 = n.val; omega)
    have e3 : ur 0 ⟨col.val % 128 / 16 % 4, by omega⟩ ⟨col.val % 128 % 16, by omega⟩ = ⟨col.val % 64, by omega⟩ := Fin.ext (by
      show 64 * 0 + 16 * (col.val % 128 / 16 % 4) + col.val % 128 % 16 = col.val % 64; omega)
    have e4 : ur 1 ⟨col.val % 128 / 16 % 4, by omega⟩ ⟨col.val % 128 % 16, by omega⟩ = ⟨col.val % 64 + 64, by omega⟩ := Fin.ext (by
      show 64 * 1 + 16 * (col.val % 128 / 16 % 4) + col.val % 128 % 16 = col.val % 64 + 64; omega)
    rw [e1, e2, e3, e4]
  · rw [if_neg h, if_neg h]

theorem quants_rest (j : Fin k0_t2_loop.trips) (bs : List (Fin 8)) : ∀ s : St Ideal,
    (bs.foldl (fun s b => quantF j b s) s).u = s.u ∧ (bs.foldl (fun s b => quantF j b s) s).sct = s.sct
      ∧ (bs.foldl (fun s b => quantF j b s) s).zct = s.zct := by
  induction bs with
  | nil => intro s; exact ⟨rfl, rfl, rfl⟩
  | cons c bs ih =>
    intro s
    rw [List.foldl_cons]
    obtain ⟨h1, h2, h3⟩ := ih (quantF j c s)
    have e : (quantF j c s).u = s.u ∧ (quantF j c s).sct = s.sct ∧ (quantF j c s).zct = s.zct := by unfold quantF; exact ⟨rfl, rfl, rfl⟩
    exact ⟨h1.trans e.1, h2.trans e.2.1, h3.trans e.2.2⟩

theorem part_u (j : Fin k0_t2_loop.trips) (s : St Ideal) (b : Fin 8) (r l : Fin 512) :
    (partF s j).u (ix3 b r l) = if r.val / 256 = j.val % 2 ∧ l.val / 128 = j.val / 2 then N s.u b r l else s.u (ix3 b r l) := by
  rw [part_eq, (quants_rest j blocks _).1, upTo_u, halves_u]
theorem part_sct (j : Fin k0_t2_loop.trips) (s : St Ideal) (p : Fin 4) (row : Fin 32) (l : Fin 128) :
    (partF s j).sct (ix3 p row l) = if p.val = j.val / 2 ∧ row.val % 4 / 2 = j.val % 2
      then gSc s.u (tB row) (tR row) (tN p l) else s.sct (ix3 p row l) := by
  rw [part_eq, (quants_rest j blocks _).2.1, sct_at]
theorem part_zct (j : Fin k0_t2_loop.trips) (s : St Ideal) (p : Fin 4) (row : Fin 32) (l : Fin 128) :
    (partF s j).zct (ix3 p row l) = if p.val = j.val / 2 ∧ row.val % 4 / 2 = j.val % 2
      then Ideal.fptosi 32 (gZ s.u (tB row) (tR row) (tN p l)) else s.zct (ix3 p row l) := by
  rw [part_eq, (quants_rest j blocks _).2.2, zct_at]

end Cert.KernelIdeal.Fold
-- ==== Proof.PartsVal.lean ====
/- The eight parts in turn and the results that they leave, over the extended reals. -/
module

public import proofs.«01_k».proof.Proof.QuantVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts
open Cert.Quantiser

/-- After the first `n` parts. -/
structure PInv (u : U) (n : ℕ) (s : St Ideal) : Prop where
  cells : ∀ b r l, s.u (ix3 b r l) = if 2 * (l.val / 128) + r.val / 256 < n then N u b r l else u (ix3 b r l)
  codes : ∀ (m : Fin 512) (col : Fin 2048), 2 * (m.val / 128) + col.val / 128 % 2 < n → s.codes (ix2 m col) = gByte u m col
  sct : ∀ (p : Fin 4) (row : Fin 32) (l : Fin 128), 2 * p.val + row.val % 4 / 2 < n → s.sct (ix3 p row l) = gSc u (tB row) (tR row) (tN p l)
  zct : ∀ (p : Fin 4) (row : Fin 32) (l : Fin 128), 2 * p.val + row.val % 4 / 2 < n →
    s.zct (ix3 p row l) = Ideal.fptosi 32 (gZ u (tB row) (tR row) (tN p l))

theorem real_of_cells (u v : U) (n : ℕ) (hu : IsReal u)
    (h : ∀ b r l, v (ix3 b r l) = if 2 * (l.val / 128) + r.val / 256 < n then N u b r l else u (ix3 b r l)) : IsReal v := by
  intro x
  idx_vars x
  rw [h]
  split_ifs
  · exact N_real u hu _ _ _
  · exact hu _

section
variable (u v : U) (n : ℕ) (h : ∀ b r l, v (ix3 b r l) = if 2 * (l.val / 128) + r.val / 256 < n then N u b r l else u (ix3 b r l))
include h

theorem N_same (b : Fin 8) (r l : Fin 512) (hn : 2 * (l.val / 128) + r.val / 256 = n) : N v b r l = N u b r l := by
  unfold N
  congr 1
  funext c
  rw [h, if_neg (by omega)]

theorem N_group (b : Fin 8) (R : Fin 4) (ρ : Fin 128) (l : Fin 512) (hn : 2 * (l.val / 128) + R.val / 2 = n) : N v b (gr R ρ) l = N u b (gr R ρ) l := by
  refine N_same u v n h b _ l ?_
  have e : (gr R ρ).val = 128 * R.val + ρ.val := rfl
  omega

theorem gSc_same (b : Fin 8) (R : Fin 4) (l : Fin 512) (hn : 2 * (l.val / 128) + R.val / 2 = n) : gSc v b R l = gSc u b R l := by
  unfold gSc gMx gMn
  simp only [N_group u v n h b R _ l hn]

theorem gZ_same (b : Fin 8) (R : Fin 4) (l : Fin 512) (hn : 2 * (l.val / 128) + R.val / 2 = n) : gZ v b R l = gZ u b R l := by
  unfold gZ
  rw [gSc_same u v n h b R l hn]
  unfold gMn
  simp only [N_group u v n h b R _ l hn]

theorem gByte_same (m : Fin 512) (col : Fin 2048) (hn : 2 * (m.val / 128) + col.val / 128 % 2 = n) : gByte v m col = gByte u m col := by
  have e : 2 * (m.val / 128) + (⟨col.val / 64 % 4, by omega⟩ : Fin 4).val / 2 = n := by
    show 2 * (m.val / 128) + col.val / 64 % 4 / 2 = n; omega
  unfold gByte
  rw [N_group u v n h _ _ _ m e, N_group u v n h _ _ _ m e, gSc_same u v n h _ _ m e, gZ_same u v n h _ _ m e]

end

theorem part_step (u : U) (hu : IsReal u) (j : Fin k0_t2_loop.trips) (s : St Ideal) (h : PInv u j.val s) : PInv u (j.val + 1) (partF s j) := by
  have hr := real_of_cells u s.u j.val hu h.cells
  constructor
  · intro b r l
    rw [part_u]
    by_cases h1 : r.val / 256 = j.val % 2 ∧ l.val / 128 = j.val / 2
    · rw [if_pos h1, if_pos (by omega), N_same u s.u j.val h.cells b r l (by omega)]
    · rw [if_neg h1, h.cells]
      congr 1
      apply propext
      omega
  · intro m col hm
    rw [part_codes j s hr]
    by_cases h1 : m.val / 128 = j.val / 2 ∧ col.val / 128 % 2 = j.val % 2
    · rw [if_pos h1, gByte_same u s.u j.val h.cells m col (by omega)]
    · rw [if_neg h1, h.codes m col (by omega)]
  · intro p row l hp
    rw [part_sct]
    by_cases h1 : p.val = j.val / 2 ∧ row.val % 4 / 2 = j.val % 2
    · rw [if_pos h1, gSc_same u s.u j.val h.cells]
      show 2 * ((128 * p.val + l.val) / 128) + row.val % 4 / 2 = j.val
      omega
    · rw [if_neg h1, h.sct p row l (by omega)]
  · intro p row l hp
    rw [part_zct]
    by_cases h1 : p.val = j.val / 2 ∧ row.val % 4 / 2 = j.val % 2
    · rw [if_pos h1, gZ_same u s.u j.val h.cells]
      show 2 * ((128 * p.val + l.val) / 128) + row.val % 4 / 2 = j.val
      omega
    · rw [if_neg h1, h.zct p row l (by omega)]

theorem part_steps (u : U) (hu : IsReal u) (n : ℕ) (ts : List (Fin k0_t2_loop.trips)) : ∀ (m : ℕ) (s : St Ideal), PInv u m s →
    ts.map Fin.val = List.range' m n → PInv u (m + n) (ts.foldl partF s) := by
  induction n generalizing ts with
  | zero => intro m a h e; obtain rfl : ts = [] := by simpa using e
            exact h
  | succ n ih =>
    intro m a h e
    cases ts with
    | nil => simp at e
    | cons t ts =>
      simp only [List.map_cons, List.range'_succ, List.cons.injEq] at e
      obtain ⟨e1, e2⟩ := e
      subst e1
      rw [List.foldl_cons, Nat.add_comm n 1, ← Nat.add_assoc]
      exact ih ts _ _ (part_step u hu t a h) e2

/-- All parts. -/
theorem parts (s : St Ideal) (hu : IsReal s.u) : PInv s.u (0 + 8) ((List.finRange k0_t2_loop.trips).foldl partF s) := by
  refine part_steps s.u hu 8 _ 0 s ⟨?_, ?_, ?_, ?_⟩ (by decide)
  · intro b r l; rw [if_neg (Nat.not_lt_zero _)]
  · intro m col h; exact absurd h (Nat.not_lt_zero _)
  · intro p row l h; exact absurd h (Nat.not_lt_zero _)
  · intro p row l h; exact absurd h (Nat.not_lt_zero _)

/-- One plane's rows of a small result, at a cell. -/
theorem rD_one {α : Type} (l : Fin 4) (v : S128x32.Idx → α) (G : S512x32.Idx → α) (m : Fin 512) (g : Fin 32) :
    (rD l).overlay G v (ix2 m g) = if m.val / 128 = l.val then v (ix2 (⟨m.val % 128, by omega⟩ : Fin 128) g) else G (ix2 m g) := by
  unfold rD
  by_cases h : m.val / 128 = l.val
  · rw [if_pos h]
    refine (overlay_unit _ _ _ G v (ix2 m g) ?_).trans ?_
    · intro a
      fin_cases a
      · show 128 * l.val ≤ m.val ∧ m.val < 128 * l.val + 128; omega
      · show 0 ≤ g.val ∧ g.val < 0 + 32; omega
    · congr 1
      funext a
      apply Fin.ext
      fin_cases a
      · show m.val - 128 * l.val = m.val % 128; omega
      · show g.val - 0 = g.val; omega
  · rw [if_neg h]
    refine overlay_unit_not _ _ _ G v (ix2 m g) (0 : Fin 2) ?_
    show ¬ (128 * l.val ≤ m.val ∧ m.val < 128 * l.val + 128)
    omega

theorem rL_at {α : Type} (x : S4x32x128.Idx → α) (p : Fin 4) (row : Fin 32) (l : Fin 128) :
    x ((rL p).toLoadRect.idx (ix3 (0 : Fin 1) row l)) = x (ix3 p row l) := by
  refine unit_load rfl _ x (ix3 (0 : Fin 1) row l) _ ?_
  intro a
  fin_cases a
  · show p.val + 0 = p.val; omega
  · show 0 + row.val = row.val; omega
  · show 0 + l.val = l.val; omega

theorem scT_at (x : Vec Ideal S1x32x128 .f32) (i : Fin 128) (g : Fin 32) : scT x (ix2 i g) = x (ix3 (0 : Fin 1) g i) := by
  pointwise [scT]
theorem zcT_at (x : Vec Ideal S1x32x128 .i32) (i : Fin 128) (g : Fin 32) : zcT (F := Ideal) x (ix2 i g) = (x (ix3 (0 : Fin 1) g i) : BitVec 32).setWidth 8 := by
  pointwise [zcT]

theorem fins (m : Fin 512) (g : Fin 32) (ls : List (Fin 4)) : ∀ s : St Ideal,
    (ls.foldl finF s).codes = s.codes ∧ (ls.foldl finF s).sct = s.sct ∧ (ls.foldl finF s).zct = s.zct
      ∧ (ls.foldl finF s).scales (ix2 m g) = (if (⟨m.val / 128, by omega⟩ : Fin 4) ∈ ls
          then s.sct (ix3 (⟨m.val / 128, by omega⟩ : Fin 4) g (⟨m.val % 128, by omega⟩ : Fin 128)) else s.scales (ix2 m g))
      ∧ (ls.foldl finF s).zeros (ix2 m g) = (if (⟨m.val / 128, by omega⟩ : Fin 4) ∈ ls
          then (s.zct (ix3 (⟨m.val / 128, by omega⟩ : Fin 4) g (⟨m.val % 128, by omega⟩ : Fin 128)) : BitVec 32).setWidth 8 else s.zeros (ix2 m g)) := by
  induction ls with
  | nil => intro s; exact ⟨rfl, rfl, rfl, by rw [if_neg (by simp)]; rfl, by rw [if_neg (by simp)]; rfl⟩
  | cons l ls ih =>
    intro s
    rw [List.foldl_cons]
    obtain ⟨h1, h2, h3, h4, h5⟩ := ih (finF s l)
    have e : (finF s l).codes = s.codes ∧ (finF s l).sct = s.sct ∧ (finF s l).zct = s.zct
      ∧ (finF s l).scales = (rD l).overlay s.scales (scT (fun x => s.sct ((rL l).toLoadRect.idx x)))
      ∧ (finF s l).zeros = (rD l).overlay s.zeros (zcT (fun x => s.zct ((rL l).toLoadRect.idx x))) := by
      unfold finF; exact ⟨rfl, rfl, rfl, rfl, rfl⟩
    obtain ⟨e1, e2, e3, e4, e5⟩ := e
    refine ⟨h1.trans e1, h2.trans e2, h3.trans e3, ?_, ?_⟩
    · rw [h4, e2, e4, rD_one, scT_at, rL_at s.sct l g]
      by_cases hl : (⟨m.val / 128, by omega⟩ : Fin 4) ∈ ls
      · rw [if_pos hl, if_pos (List.mem_cons_of_mem _ hl)]
      · rw [if_neg hl]
        by_cases hm : m.val / 128 = l.val
        · have e : l = ⟨m.val / 128, by omega⟩ := Fin.ext hm.symm
          rw [if_pos hm, if_pos (by rw [e]; exact List.mem_cons_self), e]
        · rw [if_neg hm, if_neg]
          intro h
          rcases List.mem_cons.mp h with h | h
          · exact hm (congrArg Fin.val h)
          · exact hl h
    · rw [h5, e3, e5, rD_one, zcT_at, rL_at s.zct l g]
      by_cases hl : (⟨m.val / 128, by omega⟩ : Fin 4) ∈ ls
      · rw [if_pos hl, if_pos (List.mem_cons_of_mem _ hl)]
      · rw [if_neg hl]
        by_cases hm : m.val / 128 = l.val
        · have e : l = ⟨m.val / 128, by omega⟩ := Fin.ext hm.symm
          rw [if_pos hm, if_pos (by rw [e]; exact List.mem_cons_self), e]
        · rw [if_neg hm, if_neg]
          intro h
          rcases List.mem_cons.mp h with h | h
          · exact hm (congrArg Fin.val h)
          · exact hl h

theorem mem_planes : ∀ l : Fin 4, l ∈ planes := by decide

/-- The products of all blocks. -/
def mmS (s : St Ideal) : St Ideal := (List.finRange k0_t1_loop.trips).foldl mmF s

theorem rest_eq (s : St Ideal) : restF s = planes.foldl finF ((List.finRange k0_t2_loop.trips).foldl partF (mmS s)) := by
  unfold restF loopsF mmS; rfl

theorem tN_split (m : Fin 512) : tN ⟨m.val / 128, by omega⟩ ⟨m.val % 128, by omega⟩ = m := by
  apply Fin.ext
  show 128 * (m.val / 128) + m.val % 128 = m.val
  omega

/-- What the body leaves in its three results. -/
theorem rest_codes (s : St Ideal) (hu : IsReal (mmS s).u) (m : Fin 512) (col : Fin 2048) : (restF s).codes (ix2 m col) = gByte (mmS s).u m col := by
  rw [rest_eq, (fins m 0 planes _).1, (parts (mmS s) hu).codes m col (by omega)]
theorem rest_scales (s : St Ideal) (hu : IsReal (mmS s).u) (m : Fin 512) (g : Fin 32) :
    (restF s).scales (ix2 m g) = gSc (mmS s).u (tB g) (tR g) m := by
  rw [rest_eq, (fins m g planes _).2.2.2.1, if_pos (mem_planes _), (parts (mmS s) hu).sct _ g _ (by show 2 * (m.val / 128) + g.val % 4 / 2 < 0 + 8; omega), tN_split]
theorem rest_zeros (s : St Ideal) (hu : IsReal (mmS s).u) (m : Fin 512) (g : Fin 32) :
    (restF s).zeros (ix2 m g) = (Ideal.fptosi 32 (gZ (mmS s).u (tB g) (tR g) m)).setWidth 8 := by
  rw [rest_eq, (fins m g planes _).2.2.2.2, if_pos (mem_planes _), (parts (mmS s) hu).zct _ g _ (by show 2 * (m.val / 128) + g.val % 4 / 2 < 0 + 8; omega), tN_split]

end Cert.KernelIdeal.Fold
-- ==== Proof.MmVal.lean ====
/- The products of the eight blocks over the extended reals. -/
module

public import proofs.«01_k».proof.Proof.PartsVal

@[expose] public section

noncomputable section

namespace Cert.KernelIdeal.Fold

open Idealize.ShloMosaic Idealize.ShloMosaic.TcCoe Idealize.ShloMosaic.Tactic
open Idealize.SL Idealize.SL.RA Idealize.SL.BI
open Idealize.SL.Sem
open Facts₀ Facts

theorem off1_eq : ∀ k : Fin k0_t1_loop.trips, k0_off1 k = ![k.val, 0, 0] := by decide +kernel
theorem off2_eq : ∀ k : Fin k0_t1_loop.trips, k0_off2 k = ![0, 512 * k.val] := by decide +kernel

/-- Column `k` of block `b`. -/
def colOf (b : Fin 8) (k : Fin 512) : Fin 4096 := ⟨512 * b.val + k.val, by omega⟩

/-- One product of a block. -/
theorem mmV_at (h : Vec Ideal S1x512x512 .bf16) (w : Vec Ideal S512x512 .bf16) (r n : Fin 512) :
    mmV h w (ix3 (0 : Fin 1) r n) = ∑ k : Fin 512, (h (ix3 (0 : Fin 1) r k) : EReal) * (w (ix2 n k) : EReal) := by
  pointwise [mmV]

theorem rW_at {α : Type} (x : S512x4096.Idx → α) (b : Fin k0_t1_loop.trips) (c : Fin 8) (h : c.val = b.val) (n k : Fin 512) :
    x ((rW b).toLoadRect.idx (ix2 n k)) = x (ix2 n (colOf c k)) := by
  refine unit_load (off2_eq b) _ x (ix2 n k) _ ?_
  intro a
  fin_cases a
  · show 0 + n.val = n.val; omega
  · show 512 * b.val + k.val = 512 * c.val + k.val; omega

theorem rB_at {α : Type} (x : S8x512x512.Idx → α) (b : Fin k0_t1_loop.trips) (c : Fin 8) (h : c.val = b.val) (r k : Fin 512) :
    x ((rB b).toLoadRect.idx (ix3 (0 : Fin 1) r k)) = x (ix3 c r k) := by
  refine unit_load (off1_eq b) _ x (ix3 (0 : Fin 1) r k) _ ?_
  intro a
  fin_cases a
  · show b.val + 0 = c.val; omega
  · show 0 + r.val = r.val; omega
  · show 0 + k.val = k.val; omega

theorem rB_one {α : Type} (b : Fin k0_t1_loop.trips) (v : S1x512x512.Idx → α) (G : S8x512x512.Idx → α) (c : Fin 8) (r n : Fin 512) :
    (rB b).overlay G v (ix3 c r n) = if c.val = b.val then v (ix3 (0 : Fin 1) r n) else G (ix3 c r n) := by
  have e : ∀ a : Fin 3, k0_off1 b a = (![b.val, 0, 0] : Fin 3 → ℕ) a := fun a => congrFun (off1_eq b) a
  have e0 : k0_off1 b (0 : Fin 3) = b.val := e 0
  have e1 : k0_off1 b (1 : Fin 3) = 0 := e 1
  have e2 : k0_off1 b (2 : Fin 3) = 0 := e 2
  by_cases h : c.val = b.val
  · rw [if_pos h]
    refine (overlay_unit _ _ _ G v (ix3 c r n) ?_).trans ?_
    · intro a
      fin_cases a
      · show k0_off1 b (0 : Fin 3) ≤ c.val ∧ c.val < k0_off1 b (0 : Fin 3) + 1; omega
      · show k0_off1 b (1 : Fin 3) ≤ r.val ∧ r.val < k0_off1 b (1 : Fin 3) + 512; omega
      · show k0_off1 b (2 : Fin 3) ≤ n.val ∧ n.val < k0_off1 b (2 : Fin 3) + 512; omega
    · congr 1
      funext a
      apply Fin.ext
      fin_cases a
      · show c.val - k0_off1 b (0 : Fin 3) = 0; omega
      · show r.val - k0_off1 b (1 : Fin 3) = r.val; omega
      · show n.val - k0_off1 b (2 : Fin 3) = n.val; omega
  · rw [if_neg h]
    refine overlay_unit_not _ _ _ G v (ix3 c r n) (0 : Fin 3) ?_
    show ¬ (k0_off1 b (0 : Fin 3) ≤ c.val ∧ c.val < k0_off1 b (0 : Fin 3) + 1)
    omega

/-- The product of block `c`, at a cell. -/
def dotE (hs : S8x512x512.Idx → EReal) (w : S512x4096.Idx → EReal) (c : Fin 8) (r n : Fin 512) : EReal :=
  ∑ k : Fin 512, hs (ix3 c r k) * w (ix2 n (colOf c k))

theorem mmF_hs (s : St Ideal) (b : Fin k0_t1_loop.trips) : (mmF s b).hs = s.hs := by
  unfold mmF
  rfl
theorem mmF_w (s : St Ideal) (b : Fin k0_t1_loop.trips) : (mmF s b).w = s.w := by
  unfold mmF
  rfl
theorem mmF_u (s : St Ideal) (b : Fin k0_t1_loop.trips) : (mmF s b).u
      = (rB b).overlay s.u (mmV (F := Ideal) (fun x => s.hs ((rB b).toLoadRect.idx x)) (fun x => s.w ((rW b).toLoadRect.idx x))) := by
  unfold mmF
  dsimp only

theorem dot_eq (s : St Ideal) (b : Fin k0_t1_loop.trips) (c : Fin 8) (r n : Fin 512) (h : c.val = b.val) :
    mmV (fun x => s.hs ((rB b).toLoadRect.idx x)) (fun x => s.w ((rW b).toLoadRect.idx x)) (ix3 (0 : Fin 1) r n) = dotE s.hs s.w c r n := by
  refine (mmV_at _ _ r n).trans ?_
  unfold dotE
  refine Finset.sum_congr rfl ?_
  intro k _
  have e1 := rB_at s.hs b c h r k
  have e2 := rW_at s.w b c h n k
  exact congrArg₂ (fun x y : EReal => x * y) e1 e2

theorem mmF_hit (s : St Ideal) (b : Fin k0_t1_loop.trips) (c : Fin 8) (r n : Fin 512) (h : c.val = b.val) :
    (mmF s b).u (ix3 c r n) = dotE s.hs s.w c r n := by
  rw [mmF_u, rB_one, if_pos h]
  exact dot_eq s b c r n h

theorem mmF_miss (s : St Ideal) (b : Fin k0_t1_loop.trips) (c : Fin 8) (r n : Fin 512) (h : ¬ c.val = b.val) :
    (mmF s b).u (ix3 c r n) = s.u (ix3 c r n) := by
  rw [mmF_u, rB_one, if_neg h]

/-- The products of the blocks `bs`. -/
theorem mms (c : Fin 8) (r n : Fin 512) (bs : List (Fin k0_t1_loop.trips)) : ∀ s : St Ideal,
    ((∃ b ∈ bs, c.val = b.val) ∨ s.u (ix3 c r n) = dotE s.hs s.w c r n) →
    (bs.foldl mmF s).u (ix3 c r n) = dotE s.hs s.w c r n := by
  induction bs with
  | nil =>
    intro s h
    rcases h with ⟨b, hb, _⟩ | h
    · exact absurd hb (by simp)
    · exact h
  | cons b bs ih =>
    intro s h
    rw [List.foldl_cons]
    have := ih (mmF s b)
    rw [mmF_hs, mmF_w] at this
    apply this
    by_cases hc : c.val = b.val
    · right
      exact mmF_hit s b c r n hc
    · rcases h with ⟨b', hb, hh⟩ | h
      · rcases List.mem_cons.mp hb with h' | h'
        · exact absurd (hh.trans (congrArg Fin.val h')) hc
        · exact Or.inl ⟨b', h', hh⟩
      · right
        rw [mmF_miss s b c r n hc, h]

theorem mm_at (s : St Ideal) (c : Fin 8) (r n : Fin 512) :
    (mmS s).u (ix3 c r n) = dotE s.hs s.w c r n := by
  unfold mmS
  exact mms c r n _ s (Or.inl ⟨⟨c.val, c.isLt⟩, List.mem_finRange _, rfl⟩)

/-- A signed matrix, at a cell. -/
theorem hs_at (h : S512x512.Idx → EReal) (sg : S1x4096.Idx → EReal) (c : Fin 8) (r k : Fin 512) :
    hsV (F := Ideal) h sg (ix3 c r k) = h (ix2 r k) * sg (ix2 (0 : Fin 1) (colOf c k)) := by
  have e1 : sg ((rS c).toLoadRect.idx (ix2 (0 : Fin 1) k)) = sg (ix2 (0 : Fin 1) (colOf c k)) := by
    refine unit_load rfl _ sg (ix2 (0 : Fin 1) k) _ ?_
    intro a
    fin_cases a
    · rfl
    · rfl
  have e2 : h (rM.toLoadRect.idx (ix2 r k)) = h (ix2 r k) := by
    refine unit_load rfl _ h (ix2 r k) _ ?_
    intro a
    fin_cases a
    · show 0 + r.val = r.val; omega
    · show 0 + k.val = k.val; omega
  have key : ∀ (g : Vec Ideal S1x512 .f32) (m : Vec Ideal S512x512 .f32), signV g m (ix3 (0 : Fin 1) r k) = (m (ix2 r k) : EReal) * (g (ix2 (0 : Fin 1) k) : EReal) := by
    intro g m
    pointwise [signV]
  rw [← e1, ← e2]
  exact key _ _

end Cert.KernelIdeal.Fold
-- ==== Proof.Entry.lean ====
/- What the region finds in its arrays. -/
module

public import proofs.«01_k».proof.Proof.MmVal
public import proofs.«01_k».proof.Proof.Transform
public import proofs.«01_k».proof.Proof.Gen.KernelIdeal.Frame
public import Idealize.ShloMosaic.Lib.Claim

@[expose] public section

noncomputable section

namespace Cert.KernelIdeal.Entry

open Cert.Transform Cert.KernelIdeal Cert.KernelIdeal.Gen Idealize.ShloMosaic Idealize.ShloMosaic.TcCoe Idealize.ShloMosaic.Tactic Idealize.SL.Sem Idealize.ShloMosaic.StableHlo

/-- Rows of a stack of matrices, in one matrix. -/
theorem rows_at {A B R D : ℕ} {α : Type} (x : (⟨3, ![A, B, D]⟩ : Shape).Idx → α) (h : (⟨3, ![A, B, D]⟩ : Shape).ShapeCasts ⟨2, ![R, D]⟩)
    (a : Fin A) (b : Fin B) (n : Fin R) (k : Fin D) (hn : n.val = a.val * B + b.val) :
    shapeCast ⟨2, ![R, D]⟩ x h (ix2 n k) = x (ix3 a b k) := by
  apply shapeCast_apply
  rw [Shape.rowMajor_val_three, Shape.rowMajor_val_two]
  show (a.val * B + b.val) * D + k.val = n.val * D + k.val
  rw [hn]

/-- A vector as one row. -/
theorem row_at {D : ℕ} {α : Type} (x : (⟨1, ![D]⟩ : Shape).Idx → α) (h : (⟨1, ![D]⟩ : Shape).ShapeCasts ⟨2, ![1, D]⟩) (k : Fin D) :
    shapeCast ⟨2, ![1, D]⟩ x h (ix2 (0 : Fin 1) k) = x (ix1 k) := by
  apply shapeCast_apply
  rw [Shape.rowMajor_val_one, Shape.rowMajor_val_two]
  show k.val = 0 * D + k.val
  omega

/-- The place that row `r` of the matrix takes in a block of the transform, as a word. -/
def permW (r : BitVec 32) : BitVec 32 :=
  IntOp.ori (IntOp.ori (IntOp.andi r 4294967168#32) (IntOp.shli ArithUnit.host (IntOp.andi r 63#32) 1#32))
    (IntOp.andi (IntOp.shrsi ArithUnit.host r 6#32) 1#32)

/-- Word `x` shifted right `n` times by one. -/
def shr : ℕ → BitVec 32 → BitVec 32
  | 0, x => x
  | n + 1, x => IntOp.shrsi ArithUnit.host (shr n x) 1#32

/-- The parity of the low `n` bits of `x`. -/
def par : ℕ → BitVec 32 → BitVec 32
  | 0, _ => 0#32
  | n + 1, x => IntOp.xori (par n x) (IntOp.andi (shr n x) 1#32)

/-- The place of row `r`. -/
def perm (r : ℕ) : ℕ := r / 128 * 128 + 2 * (r % 64) + r % 128 / 64

theorem perm_lt (r : ℕ) (h : r < 512) : perm r < 512 := by unfold perm; omega

theorem permW_eq : ∀ r : Fin 512, permW (BitVec.ofNat 32 r.val) = BitVec.ofNat 32 (perm r.val) := by decide +kernel

/-- The sign of the low bits, as an integer. -/
def χZ : ℕ → ℕ → ℤ
  | 0, _ => 1
  | m + 1, x => (if x / 2 ^ m % 2 = 1 then -1 else 1) * χZ m x

theorem χ_eq (m x : ℕ) : χ m x = (χZ m x : ℝ) := by
  induction m with
  | zero => simp [χ, χZ]
  | succ m ih => unfold χ χZ; rw [ih]; split_ifs <;> push_cast <;> rfl

theorem par_eq : ∀ y : Fin 512, 1 - 2 * (par 9 (BitVec.ofNat 32 y.val)).toInt = χZ 9 y.val := by decide +kernel

theorem ofBits_2 : Ideal.ofBits .f32 0x40000000#32 = ((2 : ℝ) : EReal) := by
  simp [Ideal.ofBits, Ideal.ieee, -EReal.coe_mul] <;> norm_num

variable (m : (ℓ : Loc nD τ sig) → Buf (Elt Ideal) ℓ) (c : Dev nD)

theorem w_at (a : Fin 24) (b : Fin 1024) (n : Fin 24576) (k : Fin 4096) (hn : n.val = a.val * 1024 + b.val) :
    V m c main_v68 (ix2 n k) = m ((c : Thread nD τ).loc main_arg0) (ix3 a b k) := by
  entry_read
  exact rows_at _ _ a b n k hn

theorem s_at (k : Fin 4096) : V m c main_v69 (ix2 (0 : Fin 1) k) = m ((c : Thread nD τ).loc main_arg1) (ix1 k) := by
  entry_read
  exact row_at _ _ k

theorem h_bits (r k : Fin 512) : V m c main_v67 (ix2 r k)
    = ((Ideal.ofBits .f32 0x3F800000#32 - Ideal.ofBits .f32 0x40000000#32 * (((par 9 (IntOp.andi (permW (BitVec.ofNat 32 r.val)) (BitVec.ofNat 32 k.val))).toInt : ℝ) : EReal))
      * Ideal.ofBits .f32 0x3C800000#32 : EReal) := by
  entry_read
  pointwise
  rfl

/-- The matrix's entries: signs over 64. -/
theorem h_at (r k : Fin 512) : V m c main_v67 (ix2 r k) = ((χ 9 (perm r.val &&& k.val) * (1 / 64) : ℝ) : EReal) := by
  have hlt : perm r.val &&& k.val < 512 := lt_of_le_of_lt Nat.and_le_right k.isLt
  have e : IntOp.andi (permW (BitVec.ofNat 32 r.val)) (BitVec.ofNat 32 k.val) = BitVec.ofNat 32 (perm r.val &&& k.val) := by
    rw [permW_eq]
    exact (BitVec.ofNat_and ..).symm
  have p := par_eq ⟨_, hlt⟩
  rw [h_bits, e, χ_eq, ← p, ofBits_2, Cert.Quantiser.ofBits_one, Cert.Quantiser.ofBits_64th, ← EReal.coe_mul, ← EReal.coe_sub, ← EReal.coe_mul]
  push_cast
  rfl

end Cert.KernelIdeal.Entry
-- ==== Proof.Match.lean ====
/- The kernel's cells on finite rows: the transform's entries over 64. -/
module

public import proofs.«01_k».proof.Proof.Entry

@[expose] public section

noncomputable section

namespace Cert.KernelIdeal.Fold

open Idealize.ShloMosaic Idealize.ShloMosaic.TcCoe Idealize.ShloMosaic.Tactic
open Idealize.SL.Sem
open Cert.Transform Cert.KernelIdeal.Entry Cert.Quantiser

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

theorem H_block (c i k : ℕ) : H 9 (512 * c + i) k = H 9 i k := by
  induction c with
  | zero => rw [mul_zero, zero_add]
  | succ c ih =>
    rw [← ih, show 512 * (c + 1) + i = (512 * c + i) + 2 ^ 9 by omega]
    exact H_left 9 9 _ _ le_rfl

/-- A block's product on a finite row. -/
theorem dot_real (hs : S8x512x512.Idx → EReal) (w : S512x4096.Idx → EReal) (n : Fin 512) (x s : ℕ → ℝ)
    (hh : ∀ (c : Fin 8) (r k : Fin 512), hs (ix3 c r k) = ((χ 9 (perm r.val &&& k.val) * (1 / 64) * s (512 * c.val + k.val) : ℝ) : EReal))
    (hw : ∀ k : Fin 4096, w (ix2 n k) = ((x k.val : ℝ) : EReal)) (c : Fin 8) (r : Fin 512) :
    dotE hs w c r n = ((F (fun i => x i * s i) 9 (512 * c.val + perm r.val) * (1 / 64) : ℝ) : EReal) := by
  unfold dotE
  have e : ∀ k : Fin 512, hs (ix3 c r k) * w (ix2 n (colOf c k))
      = ((H 9 (512 * c.val + perm r.val) k.val * (x (512 * c.val + k.val) * s (512 * c.val + k.val)) * (1 / 64) : ℝ) : EReal) := by
    intro k
    rw [hh, hw, ← EReal.coe_mul, H_block, H_and]
    congr 1
    show _ * x (512 * c.val + k.val) = _
    ring
  rw [Finset.sum_congr rfl fun k _ => e k, coe_sum]
  congr 1
  rw [← Finset.sum_mul, F_sum]
  congr 1
  have hp := perm_lt r.val r.isLt
  have hb : (512 * c.val + perm r.val) / 2 ^ 9 = c.val := by norm_num; omega
  rw [hb]
  exact Fin.sum_univ_eq_sum_range (fun k => H 9 (512 * c.val + perm r.val) k * (x (512 * c.val + k) * s (512 * c.val + k))) 512

theorem bfly_coe (x : Fin 8 → EReal) (y : ℕ → ℝ) (t : ℝ) (h : ∀ c : Fin 8, x c = ((y c.val * t : ℝ) : EReal)) (b : Fin 8) :
    bflyE x b = ((bflyR y b.val * t : ℝ) : EReal) := by
  have h0 := h 0
  have h1 := h 1
  have h2 := h 2
  have h3 := h 3
  have h4 := h 4
  have h5 := h 5
  have h6 := h 6
  have h7 := h 7
  fin_cases b <;> (simp only [bflyE, bflyR, h0, h1, h2, h3, h4, h5, h6, h7, ← EReal.coe_add, ← EReal.coe_sub]; congr 1; simp; ring)

/-- The element of a group that row `ρ` of the group is. -/
def elt (ρ : Fin 128) : Fin 128 := ⟨2 * (ρ.val % 64) + ρ.val / 64, by omega⟩

theorem elt_surj : Function.Surjective elt := by
  intro e
  refine ⟨⟨64 * (e.val % 2) + e.val / 2, by omega⟩, ?_⟩
  apply Fin.ext
  show 2 * ((64 * (e.val % 2) + e.val / 2) % 64) + (64 * (e.val % 2) + e.val / 2) / 64 = e.val
  omega

/-- A cell after the butterfly over the blocks. -/
theorem N_real' (u : U) (n : Fin 512) (v : ℕ → ℝ)
    (hu : ∀ (c : Fin 8) (r : Fin 512), u (ix3 c r n) = ((F v 9 (512 * c.val + perm r.val) * (1 / 64) : ℝ) : EReal)) (b : Fin 8) (R : Fin 4) (ρ : Fin 128) :
    N u b (gr R ρ) n = ((F v 12 (128 * (4 * b.val + R.val) + (elt ρ).val) * (1 / 64) : ℝ) : EReal) := by
  unfold N
  have hg : (gr R ρ).val = 128 * R.val + ρ.val := rfl
  have hp : perm (gr R ρ).val = 128 * R.val + (elt ρ).val := by
    show (gr R ρ).val / 128 * 128 + 2 * ((gr R ρ).val % 64) + (gr R ρ).val % 128 / 64 = 128 * R.val + (2 * (ρ.val % 64) + ρ.val / 64)
    rw [hg]
    omega
  rw [bfly_coe _ (fun c => F v 9 (512 * c + perm (gr R ρ).val)) (1 / 64) (fun c => hu c _) b,
    ← F_top v b.val _ b.isLt (perm_lt _ (gr R ρ).isLt), hp,
    show 512 * b.val + (128 * R.val + (elt ρ).val) = 128 * (4 * b.val + R.val) + (elt ρ).val by ring]

/-- What the kernel makes of a row whose groups' cells are `x`. -/
theorem group_eq (u : U) (n : Fin 512) (x : Fin 32 → Fin 128 → EReal) (b : Fin 8) (R : Fin 4) (g : Fin 32) (hg : g.val = 4 * b.val + R.val)
    (h : ∀ ρ, N u b (gr R ρ) n = x g (elt ρ)) :
    gSc u b R n = scaleE (⨆ e, x g e) (⨅ e, x g e)
      ∧ gZ u b R n = zeroE (⨅ e, x g e) (scaleE (⨆ e, x g e) (⨅ e, x g e)) := by
  have hmx : gMx u b R n = ⨆ e, x g e := by
    unfold gMx
    exact (iSup_congr h).trans (elt_surj.iSup_comp (g := x g))
  have hmn : gMn u b R n = ⨅ e, x g e := by
    unfold gMn
    exact (iInf_congr h).trans (elt_surj.iInf_comp (g := x g))
  have hsc : gSc u b R n = scaleE (⨆ e, x g e) (⨅ e, x g e) := by
    unfold gSc
    rw [hmx, hmn]
  refine ⟨hsc, ?_⟩
  unfold gZ
  rw [hmn, hsc]

end Cert.KernelIdeal.Fold
-- ==== Proof.KernelVal.lean ====
/- The kernel's results on finite weights and signs. -/
module

public import proofs.«01_k».proof.Proof.Spec
public import proofs.«01_k».proof.Proof.Match
public import proofs.«01_k».proof.Proof.Launch
public import Idealize.ShloMosaic.Lib.Pipeline.ValueKit.Geometry

@[expose] public section

noncomputable section

namespace Cert.KernelIdeal.Fold

open Idealize.ShloMosaic Idealize.ShloMosaic.TcCoe Idealize.ShloMosaic.Tactic
open Idealize.SL.Sem
open Gen
open Cert.Transform Cert.KernelIdeal.Entry Cert.Quantiser
open Idealize.ShloMosaic.Pipeline (RDat)

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem points (t : Fin cfg0.N) : t.val < 48 := lt_of_lt_of_le t.isLt (by decide)

/-- The row of the results that row `r` of point `t`'s block is. -/
def rowAt (t : Fin cfg0.N) (r : Fin 512) : Fin 24576 := ⟨512 * t.val + r.val, by have := points t; omega⟩

theorem blk0_at (t : Fin cfg0.N) (r : Fin 512) (k : Fin 4096) : iblk m c 0 t (ix2 r k) = V m c main_v68 (ix2 (rowAt t r) k) := by
  blk_simp [iblk]
  refine congrArg (V m c main_v68) ?_
  blk_ext [index0, rowAt]

theorem blk1_at (t : Fin cfg0.N) (r k : Fin 512) : iblk m c 1 t (ix2 r k) = V m c main_v67 (ix2 r k) := by
  blk_simp [iblk]
  refine congrArg (V m c main_v67) ?_
  blk_ext [index1]

theorem blk2_at (t : Fin cfg0.N) (k : Fin 4096) : iblk m c 2 t (ix2 (0 : Fin 1) k) = V m c main_v69 (ix2 (0 : Fin 1) k) := by
  blk_simp [iblk]
  refine congrArg (V m c main_v69) ?_
  blk_ext [index2]

/-- The two arguments. -/
abbrev argW : (⟨3, ![24, 1024, 4096]⟩ : Shape).Idx → EReal := m ((c : Thread nD τ).loc main_arg0)
abbrev argS : (⟨1, ![4096]⟩ : Shape).Idx → EReal := m ((c : Thread nD τ).loc main_arg1)

/-- The leading coordinates of a row of the results. -/
def hiRow (n : Fin 24576) : Fin 24 := ⟨n.val / 1024, by omega⟩
def loRow (n : Fin 24576) : Fin 1024 := ⟨n.val % 1024, by omega⟩
theorem row_split (n : Fin 24576) : n.val = (hiRow n).val * 1024 + (loRow n).val := by
  show n.val = n.val / 1024 * 1024 + n.val % 1024
  omega

section
variable (h : Cert.Spec.Finite (argW m c) (argS m c)) (t : Fin cfg0.N) (s : St Ideal) (hs : Starts m c t s)
include h hs

theorem u_at (n : Fin 512) (i : Fin 8) (r : Fin 512) :
    (mmS s).u (ix3 i r n) = ((F (Cert.Spec.signed (argW m c) (argS m c) (hiRow (rowAt t n)) (loRow (rowAt t n))) 9 (512 * i.val + perm r.val) * (1 / 64) : ℝ) : EReal) := by
  refine (mm_at s i r n).trans (dot_real s.hs s.w n (Cert.Spec.row (argW m c) _ _) (Cert.Spec.sgn (argS m c)) ?_ ?_ i r)
  · intro i r k
    rw [hs.2]
    unfold hsAt
    refine (hs_at _ _ i r k).trans ?_
    rw [blk1_at, blk2_at, h_at, s_at]
    refine (congrArg (_ * ·) (Cert.Spec.sgn_eq h (colOf i k))).trans ?_
    rw [← EReal.coe_mul]
    rfl
  · intro k
    rw [hs.1]
    refine (blk0_at m c t n k).trans ((w_at m c _ _ _ k (row_split _)).trans ?_)
    exact Cert.Spec.row_eq h _ _ k

theorem u_real : IsReal (mmS s).u := by
  intro i
  have e : i = ix3 (i 0) (i 1) (i 2) := by
    funext a
    fin_cases a <;> rfl
  rw [e]
  exact ⟨_, u_at m c h t s hs (i 2) (i 0) (i 1)⟩

theorem N_at (n : Fin 512) (b : Fin 8) (R : Fin 4) (ρ : Fin 128) (g : Fin 32) (hg : g.val = 4 * b.val + R.val) :
    N (mmS s).u b (gr R ρ) n = Cert.Spec.cell (argW m c) (argS m c) (hiRow (rowAt t n)) (loRow (rowAt t n)) g (elt ρ) := by
  refine (N_real' (mmS s).u n _ (fun i r => u_at m c h t s hs n i r) b R ρ).trans ?_
  unfold Cert.Spec.cell
  rw [hg]

theorem codes_at (n : Fin 512) (p : Fin 2048) :
    (restF s).codes (ix2 n p) = Cert.Spec.codes (argW m c) (argS m c) (hiRow (rowAt t n)) (loRow (rowAt t n)) p := by
  rw [rest_codes s (u_real m c h t s hs)]
  have hg : (Cert.Spec.gp p).val = 4 * (p.val / 256) + p.val / 64 % 4 := by
    show p.val / 64 = _
    omega
  have q := group_eq (mmS s).u n (fun g e => Cert.Spec.cell (argW m c) (argS m c) (hiRow (rowAt t n)) (loRow (rowAt t n)) g e)
    ⟨p.val / 256, by omega⟩ ⟨p.val / 64 % 4, by omega⟩ (Cert.Spec.gp p) hg
    (fun ρ => N_at m c h t s hs n _ _ ρ _ hg)
  unfold gByte
  rw [q.1, q.2, N_at m c h t s hs n _ _ _ _ hg, N_at m c h t s hs n _ _ _ _ hg]
  have e1 : elt ⟨p.val % 64, by omega⟩ = Cert.Spec.lo p := Fin.ext (by show 2 * (p.val % 64 % 64) + p.val % 64 / 64 = 2 * (p.val % 64); omega)
  have e2 : elt ⟨p.val % 64 + 64, by omega⟩ = Cert.Spec.hi p := Fin.ext (by show 2 * ((p.val % 64 + 64) % 64) + (p.val % 64 + 64) / 64 = 2 * (p.val % 64) + 1; omega)
  rw [e1, e2]
  rfl

theorem group_at (n : Fin 512) (g : Fin 32) :
    gSc (mmS s).u (tB g) (tR g) n = Cert.Spec.sc (argW m c) (argS m c) (hiRow (rowAt t n)) (loRow (rowAt t n)) g
      ∧ gZ (mmS s).u (tB g) (tR g) n = Cert.Spec.zp (argW m c) (argS m c) (hiRow (rowAt t n)) (loRow (rowAt t n)) g := by
  have hg : g.val = 4 * (tB g).val + (tR g).val := by
    show g.val = 4 * (g.val / 4) + g.val % 4
    omega
  exact group_eq (mmS s).u n (fun g e => Cert.Spec.cell (argW m c) (argS m c) (hiRow (rowAt t n)) (loRow (rowAt t n)) g e) (tB g) (tR g) g hg
    (fun ρ => N_at m c h t s hs n _ _ ρ _ hg)

theorem scales_at (n : Fin 512) (g : Fin 32) :
    (restF s).scales (ix2 n g) = Cert.Spec.sc (argW m c) (argS m c) (hiRow (rowAt t n)) (loRow (rowAt t n)) g :=
  (rest_scales s (u_real m c h t s hs) n g).trans (group_at m c h t s hs n g).1

theorem zeros_at (n : Fin 512) (g : Fin 32) :
    (restF s).zeros (ix2 n g) = Cert.Spec.zeros (argW m c) (argS m c) (hiRow (rowAt t n)) (loRow (rowAt t n)) g := by
  rw [rest_zeros s (u_real m c h t s hs) n g, (group_at m c h t s hs n g).2]
  rfl

end

/-- The three results. -/
def resCodes : S24576x2048.Idx → BitVec 8 := fun i => Cert.Spec.codes (argW m c) (argS m c) (hiRow (i 0)) (loRow (i 0)) (i 1)
def resScales : S24576x32.Idx → EReal := fun i => Cert.Spec.sc (argW m c) (argS m c) (hiRow (i 0)) (loRow (i 0)) (i 1)
def resZeros : S24576x32.Idx → BitVec 8 := fun i => Cert.Spec.zeros (argW m c) (argS m c) (hiRow (i 0)) (loRow (i 0)) (i 1)

theorem emb3 (t : Fin cfg0.N) (y : S512x2048.Idx) : (win0_3.blk t).view.emb y = ix2 (rowAt t (y 0)) (y 1) := by
  blk_ext [index3, rowAt]
theorem emb4 (t : Fin cfg0.N) (y : S512x32.Idx) : (win0_4.blk t).view.emb y = ix2 (rowAt t (y 0)) (y 1) := by
  blk_ext [index4, rowAt]
theorem emb5 (t : Fin cfg0.N) (y : S512x32.Idx) : (win0_5.blk t).view.emb y = ix2 (rowAt t (y 0)) (y 1) := by
  blk_ext [index5, rowAt]

section
variable (h : Cert.Spec.Finite (argW m c) (argS m c)) (t : Fin cfg0.N) (s : St Ideal) (hs : Starts m c t s)
include h hs

theorem codes_block (y : S512x2048.Idx) : (restF s).codes y = resCodes m c ((win0_3.blk t).view.emb y) := by
  have e : y = ix2 (y 0) (y 1) := by
    funext a
    fin_cases a <;> rfl
  rw [emb3]
  exact (congrArg _ e).trans (codes_at m c h t s hs (y 0) (y 1))

theorem scales_block (y : S512x32.Idx) : (restF s).scales y = resScales m c ((win0_4.blk t).view.emb y) := by
  have e : y = ix2 (y 0) (y 1) := by
    funext a
    fin_cases a <;> rfl
  rw [emb4]
  exact (congrArg _ e).trans (scales_at m c h t s hs (y 0) (y 1))

theorem zeros_block (y : S512x32.Idx) : (restF s).zeros y = resZeros m c ((win0_5.blk t).view.emb y) := by
  have e : y = ix2 (y 0) (y 1) := by
    funext a
    fin_cases a <;> rfl
  rw [emb5]
  exact (congrArg _ e).trans (zeros_at m c h t s hs (y 0) (y 1))

end

end Cert.KernelIdeal.Fold
-- ==== Proof.KernelFinal.lean ====
/- The kernel's run on finite weights and signs: its three result arrays. -/
module

public import proofs.«01_k».proof.Proof.KernelVal

@[expose] public section

noncomputable section

namespace Cert.KernelIdeal.Fold

open Idealize.ShloMosaic Idealize.ShloMosaic.TcCoe Idealize.ShloMosaic.Tactic
open Idealize.SL.Sem
open Gen
open Idealize.ShloMosaic.Pipeline (RDat)

variable (m : (ℓ : Loc nD τ sig) → Buf (Elt Ideal) ℓ) (c : Dev nD)
variable (h : Cert.Spec.Finite (argW m c) (argS m c)) {r : PUnit × MemSt nD τ sig (Elt Ideal)}
  (hr : Pipeline.RDat.FramePost (cfgs 0) (rdat m) (V m) r)
include h hr

theorem final_codes : r.2.mem ((c : Thread nD τ).loc main_v70_0) = resCodes m c := by
  obtain ⟨after, hL, hA⟩ := hr.exists_exact c
  refine (hA 3).trans ?_
  refine Pipeline.Dat.arrAt_eq_of_covers _ _ _ (by decide +kernel) fun t hf y => ?_
  obtain ⟨Y, _, s, hs, e⟩ := hL 3 t hf
  blk_simp
  exact (congrFun e y).trans (codes_block m c h t s hs y)

theorem final_scales : r.2.mem ((c : Thread nD τ).loc main_v70_1) = resScales m c := by
  obtain ⟨after, hL, hA⟩ := hr.exists_exact c
  refine (hA 4).trans ?_
  refine Pipeline.Dat.arrAt_eq_of_covers _ _ _ (by decide +kernel) fun t hf y => ?_
  obtain ⟨Y, _, s, hs, e⟩ := hL 4 t hf
  blk_simp
  exact (congrFun e y).trans (scales_block m c h t s hs y)

theorem final_zeros : r.2.mem ((c : Thread nD τ).loc main_v70_2) = resZeros m c := by
  obtain ⟨after, hL, hA⟩ := hr.exists_exact c
  refine (hA 5).trans ?_
  refine Pipeline.Dat.arrAt_eq_of_covers _ _ _ (by decide +kernel) fun t hf y => ?_
  obtain ⟨Y, _, s, hs, e⟩ := hL 5 t hf
  blk_simp
  exact (congrFun e y).trans (zeros_block m c h t s hs y)

end Cert.KernelIdeal.Fold
-- ==== Proof.RefCells.lean ====
/- The reference's results on finite weights and signs. -/
module

public import proofs.«01_k».proof.Proof.Spec
public import proofs.«01_k».proof.Proof.Entry

@[expose] public section

noncomputable section

namespace Cert.ReferenceIdeal.Cells

open Idealize.ShloMosaic Idealize.ShloMosaic.TcCoe Idealize.ShloMosaic.Tactic
open Cert.Quantiser Cert.Transform Cert.ReferenceIdeal Cert.ReferenceIdeal.Gen Cert.ReferenceIdeal.Value Cert.ReferenceIdeal.Rows Cert.ReferenceIdeal.Quant Idealize.SL.Sem Idealize.ShloMosaic.StableHlo

/-- The signed weights. -/
theorem signed_at {A B D : ℕ} (W : FVec Ideal ⟨3, ![A, B, D]⟩ .bf16) (S : FVec Ideal ⟨1, ![D]⟩ .f32) (hb : FTy.bf16.bits < FTy.f32.bits)
    (h : (⟨1, ![D]⟩ : Shape).BroadcastsInDim ⟨3, ![1, 1, D]⟩ ![2]) (h' : (⟨3, ![1, 1, D]⟩ : Shape).BroadcastsInDim ⟨3, ![A, B, D]⟩ ![0, 1, 2])
    (a : Fin A) (b : Fin B) (i : Fin D) {w s : ℝ} (hw : W (ix3 a b i) = (w : EReal)) (hs : S (ix1 i) = (s : EReal)) :
    (mulf (extf .f32 W hb) (broadcastInDim ⟨3, ![A, B, D]⟩ ![0, 1, 2] h' (broadcastInDim ⟨3, ![1, 1, D]⟩ ![2] h S)) (ix3 a b i) : EReal) = ((w * s : ℝ) : EReal) := by
  have key : ∀ (n : ℕ) (k : Fin n), k.val = if n = 1 then 0 else k.val := fun n k => by
    split_ifs with e
    · omega
    · rfl
  have e : broadcastInDim ⟨3, ![A, B, D]⟩ ![0, 1, 2] h' (broadcastInDim ⟨3, ![1, 1, D]⟩ ![2] h S) (ix3 a b i) = S (ix1 i) := by
    refine (broadcastInDim_apply _ h' _ _ (ix3 (0 : Fin 1) (0 : Fin 1) i) ?_).trans (broadcastInDim_apply _ h S _ _ ?_)
    · intro k
      fin_cases k
      · rfl
      · rfl
      · exact key D i
    · intro k
      fin_cases k
      exact key D i
  rw [EReal.coe_mul, ← hw, ← hs, ← e]
  rfl

section
variable (V0 : Valuation τ sig (Elt Ideal))

/-- The two arguments. -/
abbrev argW : (⟨3, ![24, 1024, 4096]⟩ : Shape).Idx → EReal := V0 (Proc.devRef .tc main_arg0)
abbrev argS : (⟨1, ![4096]⟩ : Shape).Idx → EReal := V0 (Proc.devRef .tc main_arg1)

variable (h : Cert.Spec.Finite (argW V0) (argS V0)) (a : Fin 24) (b : Fin 1024)
include h

theorem start : Is (N := 2048) (s := 1) (res_main_v4 V0) (fun a b => F (Cert.Spec.signed (argW V0) (argS V0) a b) 0) := by
  unfold res_main_v4
  refine isPairs _ _ rfl _ fun a b i => ?_
  exact signed_at _ _ _ _ _ a b i (Cert.Spec.row_eq h a b i) (Cert.Spec.sgn_eq h i)

theorem cells (g : Fin 32) (e : Fin 128) : X V0 a b g e = Cert.Spec.cell (argW V0) (argS V0) a b g e := by
  have h11 := level11 (level10 (level9 (level8 (level7 (level6 (level5 (level4 (level3 (level2 (level1 (start V0 h)))))))))))
  have hi : 128 * g.val + e.val < 4096 := by omega
  refine (level12 h11 a b g e ⟨128 * g.val + e.val, hi⟩ (by show 128 * g.val + e.val = g.val * 128 + e.val; omega)).trans ?_
  rw [← EReal.coe_mul]
  rfl

theorem scR_eq (g : Fin 32) : scR V0 a b g = Cert.Spec.sc (argW V0) (argS V0) a b g := by
  unfold scR mxR mnR Cert.Spec.sc
  simp only [cells V0 h]

theorem zR_eq (g : Fin 32) : zR V0 a b g = Cert.Spec.zp (argW V0) (argS V0) a b g := by
  unfold zR Cert.Spec.zp
  rw [scR_eq V0 h]
  unfold mnR
  simp only [cells V0 h]

theorem codes_eq (n : Fin 24576) (p : Fin 2048) (hn : n.val = a.val * 1024 + b.val) (hc : S24x1024x2048.ShapeCasts S24576x2048) :
    shapeCast S24576x2048 (codesR V0) hc (ix2 n p) = Cert.Spec.codes (argW V0) (argS V0) a b p := by
  refine (Cert.KernelIdeal.Entry.rows_at _ hc a b n p hn).trans ((codes_at V0 a b p).trans ?_)
  rw [cells V0 h, cells V0 h, scR_eq V0 h, zR_eq V0 h]
  rfl

theorem scales_eq (n : Fin 24576) (g : Fin 32) (hn : n.val = a.val * 1024 + b.val) (hc : S24x1024x32.ShapeCasts S24576x32) :
    (shapeCast S24576x32 (res_main_v145 V0) hc (ix2 n g) : EReal) = Cert.Spec.sc (argW V0) (argS V0) a b g := by
  refine (Cert.KernelIdeal.Entry.rows_at _ hc a b n g hn).trans ((v145_at V0 a b g).trans (scR_eq V0 h a b g))

theorem zeros_eq (n : Fin 24576) (g : Fin 32) (hn : n.val = a.val * 1024 + b.val) (hc : S24x1024x32.ShapeCasts S24576x32) :
    shapeCast S24576x32 (trunci 8 (fptosi 32 (res_main_v149 V0)) natLt_8_32) hc (ix2 n g) = Cert.Spec.zeros (argW V0) (argS V0) a b g := by
  refine (Cert.KernelIdeal.Entry.rows_at _ hc a b n g hn).trans ((zeros_at V0 a b g).trans ?_)
  rw [zR_eq V0 h]
  rfl

end

end Cert.ReferenceIdeal.Cells
-- ==== Proof.Algebraic.lean ====
/- The algebraic claim: on finite weights and signs the kernel and the reference leave equal codes, scales and zero points. -/
module

public import proofs.«01_k».proof.Proof.Frames
public import proofs.«01_k».proof.Proof.Finite
public import proofs.«01_k».proof.Proof.KernelFinal
public import proofs.«01_k».proof.Proof.RefCells

@[expose] public section

noncomputable section

namespace Cert.Proof

open Idealize.ShloMosaic Idealize.ShloMosaic.TcCoe Idealize.ShloMosaic.Tactic Idealize.SL.Sem Idealize.ShloMosaic.StableHlo
open Cert.KernelIdeal.Fold (hiRow loRow row_split resCodes resScales resZeros)

theorem eta2 {A B : ℕ} (i : (⟨2, ![A, B]⟩ : Shape).Idx) : i = ix2 (i 0) (i 1) := by
  funext a
  fin_cases a <;> rfl

section
variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (hW : Cert.ReferenceIdeal.Cells.argW V0 = Cert.KernelIdeal.Fold.argW m c) (hS : Cert.ReferenceIdeal.Cells.argS V0 = Cert.KernelIdeal.Fold.argS m c)
  (h : Cert.Spec.Finite (Cert.KernelIdeal.Fold.argW m c) (Cert.KernelIdeal.Fold.argS m c))
include hW hS h

theorem ref_codes (hc : Cert.ReferenceIdeal.S24x1024x2048.ShapeCasts Cert.ReferenceIdeal.S24576x2048) :
    shapeCast Cert.ReferenceIdeal.S24576x2048 (Cert.ReferenceIdeal.Quant.codesR V0) hc = resCodes m c := by
  have h' := h
  rw [← hW, ← hS] at h'
  funext i
  refine (congrArg _ (eta2 i)).trans ((Cert.ReferenceIdeal.Cells.codes_eq V0 h' _ _ (i 0) (i 1) (row_split (i 0)) hc).trans ?_)
  rw [hW, hS]
  rfl

theorem ref_scales (hc : Cert.ReferenceIdeal.S24x1024x32.ShapeCasts Cert.ReferenceIdeal.S24576x32) :
    shapeCast Cert.ReferenceIdeal.S24576x32 (Cert.ReferenceIdeal.Value.res_main_v145 V0) hc = resScales m c := by
  have h' := h
  rw [← hW, ← hS] at h'
  funext i
  refine (congrArg _ (eta2 i)).trans ((Cert.ReferenceIdeal.Cells.scales_eq V0 h' _ _ (i 0) (i 1) (row_split (i 0)) hc).trans ?_)
  rw [hW, hS]
  rfl

theorem ref_zeros (hc : Cert.ReferenceIdeal.S24x1024x32.ShapeCasts Cert.ReferenceIdeal.S24576x32) :
    shapeCast Cert.ReferenceIdeal.S24576x32 (trunci 8 (fptosi 32 (Cert.ReferenceIdeal.Value.res_main_v149 V0)) Cert.ReferenceIdeal.Gen.natLt_8_32) hc = resZeros m c := by
  have h' := h
  rw [← hW, ← hS] at h'
  funext i
  refine (congrArg _ (eta2 i)).trans ((Cert.ReferenceIdeal.Cells.zeros_eq V0 h' _ _ (i 0) (i 1) (row_split (i 0)) hc).trans ?_)
  rw [hW, hS]
  rfl

end

theorem algebraic : Cert.algebraic_KernelIdeal_ReferenceIdeal_pre_finite (hPre_finite := facts_finite) := by
  intro m g m' g' hpre hargs
  have hfin := finite_of_pre facts_finite m hpre
  refine ⟨resCodes m, resScales m, resZeros m, ?_, ?_⟩
  · exact (θ_run Cert.KernelIdeal.defs _ _).mono
      (fun r hr c => ⟨Cert.KernelIdeal.Fold.final_codes m c (hfin c) hr.1, Cert.KernelIdeal.Fold.final_scales m c (hfin c) hr.1,
        Cert.KernelIdeal.Fold.final_zeros m c (hfin c) hr.1, Cert.KernelIdeal.Fold.final_arg0 m hr.1 c, Cert.KernelIdeal.Fold.final_arg1 m hr.1 c⟩)
      (Cert.KernelIdeal.Fold.run_main (F := Ideal) m g)
  · exact (θ_run Cert.ReferenceIdeal.defs _ _).mono
      (fun r hr c => ⟨(hr c).1.trans (ref_codes m c (launchContents m' c) (hargs c).1 (hargs c).2 (hfin c) _),
        (hr c).2.1.trans (ref_scales m c (launchContents m' c) (hargs c).1 (hargs c).2 (hfin c) _),
        (hr c).2.2.1.trans (ref_zeros m c (launchContents m' c) (hargs c).1 (hargs c).2 (hfin c) _), (hr c).2.2.2.1, (hr c).2.2.2.2⟩)
      (Cert.ReferenceIdeal.Value.run (F := Ideal) m' g')

/-- The frames where the weights and signs are finite. -/
theorem frame_pi_finite : Cert.quiescent_KernelIdeal_pre_finite (hPre_finite := facts_finite) := fun m ρ _ => frame_pi m ρ trivial
theorem frame_ri_finite : Cert.quiescent_ReferenceIdeal_pre_finite (hPre_finite := facts_finite) := fun m ρ _ => frame_ri m ρ trivial

end Cert.Proof
-- ==== Proof.lean ====
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, facts_finite,
    frame_p, frame_pi, frame_pi_finite, frame_ri, frame_ri_finite, trivial, algebraic⟩

end Cert.Proof

end
